-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2x512x512x8 : Shape := ⟨4, ![2, 512, 512, 8]⟩
abbrev S100000x16 : Shape := ⟨2, ![100000, 16]⟩
abbrev S_ : Shape := ⟨0, ![]⟩

class Facts : Prop where
  bcast_S_S2x512x512x8 : S_.BroadcastsInDim S2x512x512x8 (![] : Fin 0 → Fin S2x512x512x8.rank)
  reducesTo_S2x512x512x8_S_d0_1_2_3 : S2x512x512x8.ReducesTo [0, 1, 2, 3] S_
  h_S_ : 0 < S_.numel

variable [Facts]

def fn {F : FTy → Type} [FloatOps F] (main_arg0 : IVec S2x512x512x8 32) (main_arg1 : FVec F S2x512x512x8 .f32) (main_arg2 : FVec F S100000x16 .f32) : IVec S_ 1 :=
  let main_c : IVec S_ 32 := constantI S_ 32 0#32
  let main_v0 : IVec S2x512x512x8 32 := broadcastInDim S2x512x512x8 ![] bcast_S_S2x512x512x8 main_c
  let main_v1 : IVec S2x512x512x8 1 := cmpi .sge main_arg0 main_v0
  let main_c_0 : IVec S_ 32 := constantI S_ 32 100000#32
  let main_v2 : IVec S2x512x512x8 32 := broadcastInDim S2x512x512x8 ![] bcast_S_S2x512x512x8 main_c_0
  let main_v3 : IVec S2x512x512x8 1 := cmpi .slt main_arg0 main_v2
  let main_v4 : IVec S2x512x512x8 1 := andi main_v1 main_v3
  let main_c_1 : IVec S_ 1 := constantI S_ 1 1#1
  let main_v5 : IVec S_ 1 := (fun x v => Host.reduce IntOp.andi x v reducesTo_S2x512x512x8_S_d0_1_2_3 h_S_) main_v4 main_c_1
  let main_cst : FVec F S_ .f32 := constant S_ .f32 0x00000000#32
  let main_v6 : FVec F S2x512x512x8 .f32 := broadcastInDim S2x512x512x8 ![] bcast_S_S2x512x512x8 main_cst
  let main_v7 : IVec S2x512x512x8 1 := cmpf .oge main_arg1 main_v6
  let main_c_2 : IVec S_ 1 := constantI S_ 1 1#1
  let main_v8 : IVec S_ 1 := (fun x v => Host.reduce IntOp.andi x v reducesTo_S2x512x512x8_S_d0_1_2_3 h_S_) main_v7 main_c_2
  let main_v9 : IVec S_ 1 := andi main_v5 main_v8
  main_v9
-- ==== Pre_in_range.lean ====
abbrev S2x512x512x8 : Shape := ⟨4, ![2, 512, 512, 8]⟩
abbrev S100000x16 : Shape := ⟨2, ![100000, 16]⟩
abbrev S_ : Shape := ⟨0, ![]⟩

class Facts : Prop where
  bcast_S_S2x512x512x8 : S_.BroadcastsInDim S2x512x512x8 (![] : Fin 0 → Fin S2x512x512x8.rank)
  reducesTo_S2x512x512x8_S_d0_1_2_3 : S2x512x512x8.ReducesTo [0, 1, 2, 3] S_
  h_S_ : 0 < S_.numel

variable [Facts]

def fn {F : FTy → Type} [FloatOps F] (main_arg0 : IVec S2x512x512x8 32) (main_arg1 : FVec F S2x512x512x8 .f32) (main_arg2 : FVec F S100000x16 .f32) : IVec S_ 1 :=
  let main_c : IVec S_ 32 := constantI S_ 32 0#32
  let main_v0 : IVec S2x512x512x8 32 := broadcastInDim S2x512x512x8 ![] bcast_S_S2x512x512x8 main_c
  let main_v1 : IVec S2x512x512x8 1 := cmpi .sge main_arg0 main_v0
  let main_c_0 : IVec S_ 32 := constantI S_ 32 100000#32
  let main_v2 : IVec S2x512x512x8 32 := broadcastInDim S2x512x512x8 ![] bcast_S_S2x512x512x8 main_c_0
  let main_v3 : IVec S2x512x512x8 1 := cmpi .slt main_arg0 main_v2
  let main_v4 : IVec S2x512x512x8 1 := andi main_v1 main_v3
  let main_c_1 : IVec S_ 1 := constantI S_ 1 1#1
  let main_v5 : IVec S_ 1 := (fun x v => Host.reduce IntOp.andi x v reducesTo_S2x512x512x8_S_d0_1_2_3 h_S_) main_v4 main_c_1
  main_v5
-- ==== Kernel.lean ====
abbrev S2x512x512x8 : Shape := ⟨4, ![2, 512, 512, 8]⟩
abbrev S100000x16 : Shape := ⟨2, ![100000, 16]⟩
abbrev S2x512x4x128x8 : Shape := ⟨5, ![2, 512, 4, 128, 8]⟩
abbrev S2x512x4x8x128 : Shape := ⟨5, ![2, 512, 4, 8, 128]⟩
abbrev S4096x8x128 : Shape := ⟨3, ![4096, 8, 128]⟩
abbrev S16x100000 : Shape := ⟨2, ![16, 100000]⟩
abbrev S12800x128 : Shape := ⟨2, ![12800, 128]⟩
abbrev S16x4096 : Shape := ⟨2, ![16, 4096]⟩
abbrev S512x128 : Shape := ⟨2, ![512, 128]⟩
abbrev S4096x16 : Shape := ⟨2, ![4096, 16]⟩
abbrev S512x8x16 : Shape := ⟨3, ![512, 8, 16]⟩
abbrev S512x1x16 : Shape := ⟨3, ![512, 1, 16]⟩
abbrev S512x16 : Shape := ⟨2, ![512, 16]⟩
abbrev S102400x16 : Shape := ⟨2, ![102400, 16]⟩
abbrev S1024x2x4x1024 : Shape := ⟨4, ![1024, 2, 4, 1024]⟩
abbrev S4x8x128 : Shape := ⟨3, ![4, 8, 128]⟩
abbrev S2048x16 : Shape := ⟨2, ![2048, 16]⟩
abbrev S4096 : Shape := ⟨1, ![4096]⟩
abbrev S_ : Shape := ⟨0, ![]⟩
abbrev S16 : Shape := ⟨1, ![16]⟩
abbrev S128x16 : Shape := ⟨2, ![128, 16]⟩
abbrev S1x1x128 : Shape := ⟨3, ![1, 1, 128]⟩
abbrev S128 : Shape := ⟨1, ![128]⟩
abbrev S1024 : Shape := ⟨1, ![1024]⟩
abbrev S1x1x1x1024 : Shape := ⟨4, ![1, 1, 1, 1024]⟩
abbrev S1x16 : Shape := ⟨2, ![1, 16]⟩
abbrev S2x512x2x4x8x128 : Shape := ⟨6, ![2, 512, 2, 4, 8, 128]⟩
abbrev S2x512x4x128x2x8 : Shape := ⟨6, ![2, 512, 4, 128, 2, 8]⟩
abbrev S2x512x512x16 : Shape := ⟨4, ![2, 512, 512, 16]⟩

abbrev nBuf : Table → Nat
  | .hbm => 13
  | .local .tc .vmem => 4
  | .local .scVector .vmem => 6
  | _ => 0

abbrev bufTy : (tb : Table) → Fin (nBuf tb) → BufTy
  | .hbm, ⟨0, _⟩ => ⟨S2x512x512x8, .i32⟩
  | .hbm, ⟨1, _⟩ => ⟨S2x512x512x8, .f32⟩
  | .hbm, ⟨2, _⟩ => ⟨S100000x16, .f32⟩
  | .hbm, ⟨3, _⟩ => ⟨S2x512x4x128x8, .i32⟩
  | .hbm, ⟨4, _⟩ => ⟨S2x512x4x8x128, .i32⟩
  | .hbm, ⟨5, _⟩ => ⟨S4096x8x128, .i32⟩
  | .hbm, ⟨6, _⟩ => ⟨S16x100000, .f32⟩
  | .hbm, ⟨7, _⟩ => ⟨S12800x128, .f32⟩
  | .hbm, ⟨8, _⟩ => ⟨S102400x16, .f32⟩
  | .hbm, ⟨9, _⟩ => ⟨S1024x2x4x1024, .f32⟩
  | .hbm, ⟨10, _⟩ => ⟨S2x512x2x4x8x128, .f32⟩
  | .hbm, ⟨11, _⟩ => ⟨S2x512x4x128x2x8, .f32⟩
  | .hbm, ⟨12, _⟩ => ⟨S2x512x512x16, .f32⟩
  | .local .tc .vmem, ⟨0, _⟩ => ⟨S16x4096, .f32⟩
  | .local .tc .vmem, ⟨1, _⟩ => ⟨S16x4096, .f32⟩
  | .local .tc .vmem, ⟨2, _⟩ => ⟨S512x128, .f32⟩
  | .local .tc .vmem, ⟨3, _⟩ => ⟨S512x128, .f32⟩
  | .local .scVector .vmem, ⟨0, _⟩ => ⟨S4x8x128, .i32⟩
  | .local .scVector .vmem, ⟨1, _⟩ => ⟨S4x8x128, .i32⟩
  | .local .scVector .vmem, ⟨2, _⟩ => ⟨S2048x16, .f32⟩
  | .local .scVector .vmem, ⟨3, _⟩ => ⟨S2048x16, .f32⟩
  | .local .scVector .vmem, ⟨4, _⟩ => ⟨S4096, .f32⟩
  | .local .scVector .vmem, ⟨5, _⟩ => ⟨S4096, .f32⟩
  | _, _ => ⟨S2x512x512x8, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v2_scv : Ref sig .scVector := ⟨.hbm, 5, rfl⟩
abbrev main_v5_scv : Ref sig .scVector := ⟨.hbm, 8, rfl⟩
abbrev main_v6_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v4 : BitVec 32 := Scalar.addi v2 c0_i32
  let c0_i32_0 : BitVec 32 := 0#32
  let c0_i32_1 : BitVec 32 := 0#32
  ![v4.toNat, 0, 0]
@[reducible] def k1_t1_loop : Scf.Loop 32 :=
  let c0_i32_106 : BitVec 32 := 0#32
  let c16_i32 : BitVec 32 := 16#32
  let v77 : BitVec 32 := Scalar.addi c0_i32_106 c16_i32
  let c1_i32_107 : BitVec 32 := 1#32
  ⟨c0_i32_106, v77, c1_i32_107⟩
def k1_cond1 (k1_t1 : Fin k1_t1_loop.trips) : BitVec 1 :=
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c2_i32_433 : BitVec 32 := 2#32
  let v372 : BitVec 1 := Scalar.cmpi .sge v242 c2_i32_433
  let v373 : BitVec 32 := Scalar.extui v372
  let c0_i32_434 : BitVec 32 := 0#32
  let v374 : BitVec 1 := Scalar.cmpi .ne v373 c0_i32_434
  v374

def k1_off2 (i : grid1.Coords) (k1_t1 : Fin k1_t1_loop.trips) (c0_i32_1272 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c2_i32_1271 : BitVec 32 := 2#32
  let v1106 : BitVec 32 := Scalar.muli v242 c2_i32_1271
  let v1107 : BitVec 32 := Scalar.addi v2 v1106
  let v1108 : BitVec 32 := Scalar.addi v1107 c0_i32_1272
  let c0_i32_1274 : BitVec 32 := 0#32
  let v1110 : BitVec 1 := Scalar.cmpi .sgt v1108 c0_i32_1274
  let v1111 : BitVec 32 := Scalar.extui v1110
  let c0_i32_1275 : BitVec 32 := 0#32
  let v1112 : BitVec 1 := Scalar.cmpi .slt v1108 c0_i32_1275
  let v1113 : BitVec 32 := Scalar.extui v1112
  let v1114 : BitVec 32 := Scalar.subi v1111 v1113
  let c4_i32_1273 : BitVec 32 := 4#32
  let c0_i32_1276 : BitVec 32 := 0#32
  let v1115 : BitVec 1 := Scalar.cmpi .sgt c4_i32_1273 c0_i32_1276
  let v1116 : BitVec 32 := Scalar.extui v1115
  let c0_i32_1277 : BitVec 32 := 0#32
  let v1117 : BitVec 1 := Scalar.cmpi .slt c4_i32_1273 c0_i32_1277
  let v1118 : BitVec 32 := Scalar.extui v1117
  let v1119 : BitVec 32 := Scalar.subi v1116 v1118
  let v1120 : BitVec 1 := Scalar.cmpi .ne v1114 v1119
  let v1121 : BitVec 32 := Scalar.remsi v1108 c4_i32_1273
  let c0_i32_1278 : BitVec 32 := 0#32
  let v1122 : BitVec 1 := Scalar.cmpi .ne v1121 c0_i32_1278
  let v1123 : BitVec 1 := Scalar.andi v1120 v1122
  let v1109 : BitVec 32 := Scalar.divsi v1108 c4_i32_1273
  let c1_i32_1279 : BitVec 32 := 1#32
  let v1124 : BitVec 32 := Scalar.subi v1109 c1_i32_1279
  let v1125 : BitVec 32 := Scalar.select v1123 v1124 v1109
  let c0_i32_1301 : BitVec 32 := 0#32
  let c4_i32_1280 : BitVec 32 := 4#32
  let c0_i32_1281 : BitVec 32 := 0#32
  let v1126 : BitVec 1 := Scalar.cmpi .eq c4_i32_1280 c0_i32_1281
  let c1_i32_1282 : BitVec 32 := 1#32
  let v1127 : BitVec 32 := Scalar.select v1126 c1_i32_1282 c4_i32_1280
  let v1128 : BitVec 32 := Scalar.remsi v1108 v1127
  let c0_i32_1284 : BitVec 32 := 0#32
  let v1130 : BitVec 1 := Scalar.cmpi .slt v1128 c0_i32_1284
  let c0_i32_1285 : BitVec 32 := 0#32
  let v1131 : BitVec 1 := Scalar.cmpi .slt v1127 c0_i32_1285
  let v1132 : BitVec 1 := Scalar.xori v1130 v1131
  let c0_i32_1283 : BitVec 32 := 0#32
  let v1129 : BitVec 1 := Scalar.cmpi .ne v1128 c0_i32_1283
  let v1133 : BitVec 1 := Scalar.andi v1132 v1129
  let v1134 : BitVec 32 := Scalar.addi v1128 v1127
  let v1135 : BitVec 32 := Scalar.select v1133 v1134 v1128
  let c0_i32_1303 : BitVec 32 := 0#32
  ![v1125.toNat, 0, v1135.toNat, 0]
def k1_off3 (i : grid1.Coords) (k1_t1 : Fin k1_t1_loop.trips) (c0_i32_1272 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c2_i32_1271 : BitVec 32 := 2#32
  let v1106 : BitVec 32 := Scalar.muli v242 c2_i32_1271
  let v1107 : BitVec 32 := Scalar.addi v2 v1106
  let v1108 : BitVec 32 := Scalar.addi v1107 c0_i32_1272
  let c0_i32_1274 : BitVec 32 := 0#32
  let v1110 : BitVec 1 := Scalar.cmpi .sgt v1108 c0_i32_1274
  let v1111 : BitVec 32 := Scalar.extui v1110
  let c0_i32_1275 : BitVec 32 := 0#32
  let v1112 : BitVec 1 := Scalar.cmpi .slt v1108 c0_i32_1275
  let v1113 : BitVec 32 := Scalar.extui v1112
  let v1114 : BitVec 32 := Scalar.subi v1111 v1113
  let c4_i32_1273 : BitVec 32 := 4#32
  let c0_i32_1276 : BitVec 32 := 0#32
  let v1115 : BitVec 1 := Scalar.cmpi .sgt c4_i32_1273 c0_i32_1276
  let v1116 : BitVec 32 := Scalar.extui v1115
  let c0_i32_1277 : BitVec 32 := 0#32
  let v1117 : BitVec 1 := Scalar.cmpi .slt c4_i32_1273 c0_i32_1277
  let v1118 : BitVec 32 := Scalar.extui v1117
  let v1119 : BitVec 32 := Scalar.subi v1116 v1118
  let v1120 : BitVec 1 := Scalar.cmpi .ne v1114 v1119
  let v1121 : BitVec 32 := Scalar.remsi v1108 c4_i32_1273
  let c0_i32_1278 : BitVec 32 := 0#32
  let v1122 : BitVec 1 := Scalar.cmpi .ne v1121 c0_i32_1278
  let v1123 : BitVec 1 := Scalar.andi v1120 v1122
  let v1109 : BitVec 32 := Scalar.divsi v1108 c4_i32_1273
  let c1_i32_1279 : BitVec 32 := 1#32
  let v1124 : BitVec 32 := Scalar.subi v1109 c1_i32_1279
  let v1125 : BitVec 32 := Scalar.select v1123 v1124 v1109
  let c1_i32_1306 : BitVec 32 := 1#32
  let c4_i32_1280 : BitVec 32 := 4#32
  let c0_i32_1281 : BitVec 32 := 0#32
  let v1126 : BitVec 1 := Scalar.cmpi .eq c4_i32_1280 c0_i32_1281
  let c1_i32_1282 : BitVec 32 := 1#32
  let v1127 : BitVec 32 := Scalar.select v1126 c1_i32_1282 c4_i32_1280
  let v1128 : BitVec 32 := Scalar.remsi v1108 v1127
  let c0_i32_1284 : BitVec 32 := 0#32
  let v1130 : BitVec 1 := Scalar.cmpi .slt v1128 c0_i32_1284
  let c0_i32_1285 : BitVec 32 := 0#32
  let v1131 : BitVec 1 := Scalar.cmpi .slt v1127 c0_i32_1285
  let v1132 : BitVec 1 := Scalar.xori v1130 v1131
  let c0_i32_1283 : BitVec 32 := 0#32
  let v1129 : BitVec 1 := Scalar.cmpi .ne v1128 c0_i32_1283
  let v1133 : BitVec 1 := Scalar.andi v1132 v1129
  let v1134 : BitVec 32 := Scalar.addi v1128 v1127
  let v1135 : BitVec 32 := Scalar.select v1133 v1134 v1128
  let c0_i32_1308 : BitVec 32 := 0#32
  ![v1125.toNat, 1, v1135.toNat, 0]
@[reducible] def k1_t2_loop : Scf.Loop 32 :=
  let c0_i32_437 : BitVec 32 := 0#32
  let c32_i32 : BitVec 32 := 32#32
  let v379 : BitVec 32 := Scalar.addi c0_i32_437 c32_i32
  let c1_i32_438 : BitVec 32 := 1#32
  ⟨c0_i32_437, v379, c1_i32_438⟩
def k1_off4 (k1_t2 : Fin k1_t2_loop.trips) (c0_i32_1274 : BitVec 32) (c0_i32_1275 : BitVec 32) : Fin 2 → Nat :=
  let c0_i32_1273 : BitVec 32 := 0#32
  let c0_i32_1272 : BitVec 32 := 0#32
  let c0_i32_437 : BitVec 32 := 0#32
  let c1_i32_438 : BitVec 32 := 1#32
  let arg18 : BitVec 32 := Scf.iv c0_i32_437 c1_i32_438 k1_t2
  let c4_i32_1271 : BitVec 32 := 4#32
  let v1106 : BitVec 32 := Scalar.muli arg18 c4_i32_1271
  let v1107 : BitVec 32 := Scalar.addi c0_i32_1272 v1106
  let v1108 : BitVec 32 := Scalar.addi c0_i32_1273 v1107
  let v1109 : BitVec 32 := Scalar.addi v1108 c0_i32_1274
  let v1110 : BitVec 32 := Scalar.addi v1109 c0_i32_1275
  let v1111 : Index := Scalar.indexCast v1110
  let c0 : Index := 0#32
  ![v1111.toNat, 0]

def k1_chk1 (v1250 : IVec S16 32) : Prop :=
  (∀ a x, ((![v1250] : Fin 1 → IVec S16 32) a x).toNat < S4096.size a)
theorem k1_idx1_inb : ∀ (v1250 : IVec S16 32) (k1_hw1 : k1_chk1 v1250), ∀ a x, ((![v1250] : Fin 1 → IVec S16 32) a x).toNat < S4096.size a := fun v1250 k1_hw1 => k1_hw1

def k1_chk2 (v1253 : IVec S16 32) : Prop :=
  (∀ a x, ((![v1253] : Fin 1 → IVec S16 32) a x).toNat < S4096.size a)
theorem k1_idx2_inb : ∀ (v1253 : IVec S16 32) (k1_hw2 : k1_chk2 v1253), ∀ a x, ((![v1253] : Fin 1 → IVec S16 32) a x).toNat < S4096.size a := fun v1253 k1_hw2 => k1_hw2

def k1_chk3 (v1256 : IVec S16 32) : Prop :=
  (∀ a x, ((![v1256] : Fin 1 → IVec S16 32) a x).toNat < S4096.size a)
theorem k1_idx3_inb : ∀ (v1256 : IVec S16 32) (k1_hw3 : k1_chk3 v1256), ∀ a x, ((![v1256] : Fin 1 → IVec S16 32) a x).toNat < S4096.size a := fun v1256 k1_hw3 => k1_hw3

def k1_chk4 (v1259 : IVec S16 32) : Prop :=
  (∀ a x, ((![v1259] : Fin 1 → IVec S16 32) a x).toNat < S4096.size a)
theorem k1_idx4_inb : ∀ (v1259 : IVec S16 32) (k1_hw4 : k1_chk4 v1259), ∀ a x, ((![v1259] : Fin 1 → IVec S16 32) a x).toNat < S4096.size a := fun v1259 k1_hw4 => k1_hw4
@[reducible] def k1_t3_loop : Scf.Loop 32 :=
  let c0_i32_442 : BitVec 32 := 0#32
  let c32_i32_443 : BitVec 32 := 32#32
  let v384 : BitVec 32 := Scalar.addi c0_i32_442 c32_i32_443
  let c1_i32_444 : BitVec 32 := 1#32
  ⟨c0_i32_442, v384, c1_i32_444⟩
def k1_off5 (k1_t3 : Fin k1_t3_loop.trips) (c0_i32_1274 : BitVec 32) (c0_i32_1275 : BitVec 32) : Fin 2 → Nat :=
  let c1024_i32_1273 : BitVec 32 := 1024#32
  let c0_i32_1272 : BitVec 32 := 0#32
  let c0_i32_442 : BitVec 32 := 0#32
  let c1_i32_444 : BitVec 32 := 1#32
  let arg18 : BitVec 32 := Scf.iv c0_i32_442 c1_i32_444 k1_t3
  let c4_i32_1271 : BitVec 32 := 4#32
  let v1106 : BitVec 32 := Scalar.muli arg18 c4_i32_1271
  let v1107 : BitVec 32 := Scalar.addi c0_i32_1272 v1106
  let v1108 : BitVec 32 := Scalar.addi c1024_i32_1273 v1107
  let v1109 : BitVec 32 := Scalar.addi v1108 c0_i32_1274
  let v1110 : BitVec 32 := Scalar.addi v1109 c0_i32_1275
  let v1111 : Index := Scalar.indexCast v1110
  let c0 : Index := 0#32
  ![v1111.toNat, 0]

def k1_chk5 (v1250 : IVec S16 32) : Prop :=
  (∀ a x, ((![v1250] : Fin 1 → IVec S16 32) a x).toNat < S4096.size a)
theorem k1_idx5_inb : ∀ (v1250 : IVec S16 32) (k1_hw5 : k1_chk5 v1250), ∀ a x, ((![v1250] : Fin 1 → IVec S16 32) a x).toNat < S4096.size a := fun v1250 k1_hw5 => k1_hw5

def k1_chk6 (v1253 : IVec S16 32) : Prop :=
  (∀ a x, ((![v1253] : Fin 1 → IVec S16 32) a x).toNat < S4096.size a)
theorem k1_idx6_inb : ∀ (v1253 : IVec S16 32) (k1_hw6 : k1_chk6 v1253), ∀ a x, ((![v1253] : Fin 1 → IVec S16 32) a x).toNat < S4096.size a := fun v1253 k1_hw6 => k1_hw6

def k1_chk7 (v1256 : IVec S16 32) : Prop :=
  (∀ a x, ((![v1256] : Fin 1 → IVec S16 32) a x).toNat < S4096.size a)
theorem k1_idx7_inb : ∀ (v1256 : IVec S16 32) (k1_hw7 : k1_chk7 v1256), ∀ a x, ((![v1256] : Fin 1 → IVec S16 32) a x).toNat < S4096.size a := fun v1256 k1_hw7 => k1_hw7

def k1_chk8 (v1259 : IVec S16 32) : Prop :=
  (∀ a x, ((![v1259] : Fin 1 → IVec S16 32) a x).toNat < S4096.size a)
theorem k1_idx8_inb : ∀ (v1259 : IVec S16 32) (k1_hw8 : k1_chk8 v1259), ∀ a x, ((![v1259] : Fin 1 → IVec S16 32) a x).toNat < S4096.size a := fun v1259 k1_hw8 => k1_hw8
def k1_off6 (i : grid1.Coords) (k1_t1 : Fin k1_t1_loop.trips) (c0_i32_447 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c2_i32_446 : BitVec 32 := 2#32
  let v385 : BitVec 32 := Scalar.muli v242 c2_i32_446
  let v386 : BitVec 32 := Scalar.addi v2 v385
  let v387 : BitVec 32 := Scalar.addi v386 c0_i32_447
  let c0_i32_449 : BitVec 32 := 0#32
  let v389 : BitVec 1 := Scalar.cmpi .sgt v387 c0_i32_449
  let v390 : BitVec 32 := Scalar.extui v389
  let c0_i32_450 : BitVec 32 := 0#32
  let v391 : BitVec 1 := Scalar.cmpi .slt v387 c0_i32_450
  let v392 : BitVec 32 := Scalar.extui v391
  let v393 : BitVec 32 := Scalar.subi v390 v392
  let c4_i32_448 : BitVec 32 := 4#32
  let c0_i32_451 : BitVec 32 := 0#32
  let v394 : BitVec 1 := Scalar.cmpi .sgt c4_i32_448 c0_i32_451
  let v395 : BitVec 32 := Scalar.extui v394
  let c0_i32_452 : BitVec 32 := 0#32
  let v396 : BitVec 1 := Scalar.cmpi .slt c4_i32_448 c0_i32_452
  let v397 : BitVec 32 := Scalar.extui v396
  let v398 : BitVec 32 := Scalar.subi v395 v397
  let v399 : BitVec 1 := Scalar.cmpi .ne v393 v398
  let v400 : BitVec 32 := Scalar.remsi v387 c4_i32_448
  let c0_i32_453 : BitVec 32 := 0#32
  let v401 : BitVec 1 := Scalar.cmpi .ne v400 c0_i32_453
  let v402 : BitVec 1 := Scalar.andi v399 v401
  let v388 : BitVec 32 := Scalar.divsi v387 c4_i32_448
  let c1_i32_454 : BitVec 32 := 1#32
  let v403 : BitVec 32 := Scalar.subi v388 c1_i32_454
  let v404 : BitVec 32 := Scalar.select v402 v403 v388
  let c0_i32_476 : BitVec 32 := 0#32
  let c4_i32_455 : BitVec 32 := 4#32
  let c0_i32_456 : BitVec 32 := 0#32
  let v405 : BitVec 1 := Scalar.cmpi .eq c4_i32_455 c0_i32_456
  let c1_i32_457 : BitVec 32 := 1#32
  let v406 : BitVec 32 := Scalar.select v405 c1_i32_457 c4_i32_455
  let v407 : BitVec 32 := Scalar.remsi v387 v406
  let c0_i32_459 : BitVec 32 := 0#32
  let v409 : BitVec 1 := Scalar.cmpi .slt v407 c0_i32_459
  let c0_i32_460 : BitVec 32 := 0#32
  let v410 : BitVec 1 := Scalar.cmpi .slt v406 c0_i32_460
  let v411 : BitVec 1 := Scalar.xori v409 v410
  let c0_i32_458 : BitVec 32 := 0#32
  let v408 : BitVec 1 := Scalar.cmpi .ne v407 c0_i32_458
  let v412 : BitVec 1 := Scalar.andi v411 v408
  let v413 : BitVec 32 := Scalar.addi v407 v406
  let v414 : BitVec 32 := Scalar.select v412 v413 v407
  let c0_i32_478 : BitVec 32 := 0#32
  ![v404.toNat, 0, v414.toNat, 0]
def k1_off7 (i : grid1.Coords) (k1_t1 : Fin k1_t1_loop.trips) (c0_i32_447 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c2_i32_446 : BitVec 32 := 2#32
  let v385 : BitVec 32 := Scalar.muli v242 c2_i32_446
  let v386 : BitVec 32 := Scalar.addi v2 v385
  let v387 : BitVec 32 := Scalar.addi v386 c0_i32_447
  let c0_i32_449 : BitVec 32 := 0#32
  let v389 : BitVec 1 := Scalar.cmpi .sgt v387 c0_i32_449
  let v390 : BitVec 32 := Scalar.extui v389
  let c0_i32_450 : BitVec 32 := 0#32
  let v391 : BitVec 1 := Scalar.cmpi .slt v387 c0_i32_450
  let v392 : BitVec 32 := Scalar.extui v391
  let v393 : BitVec 32 := Scalar.subi v390 v392
  let c4_i32_448 : BitVec 32 := 4#32
  let c0_i32_451 : BitVec 32 := 0#32
  let v394 : BitVec 1 := Scalar.cmpi .sgt c4_i32_448 c0_i32_451
  let v395 : BitVec 32 := Scalar.extui v394
  let c0_i32_452 : BitVec 32 := 0#32
  let v396 : BitVec 1 := Scalar.cmpi .slt c4_i32_448 c0_i32_452
  let v397 : BitVec 32 := Scalar.extui v396
  let v398 : BitVec 32 := Scalar.subi v395 v397
  let v399 : BitVec 1 := Scalar.cmpi .ne v393 v398
  let v400 : BitVec 32 := Scalar.remsi v387 c4_i32_448
  let c0_i32_453 : BitVec 32 := 0#32
  let v401 : BitVec 1 := Scalar.cmpi .ne v400 c0_i32_453
  let v402 : BitVec 1 := Scalar.andi v399 v401
  let v388 : BitVec 32 := Scalar.divsi v387 c4_i32_448
  let c1_i32_454 : BitVec 32 := 1#32
  let v403 : BitVec 32 := Scalar.subi v388 c1_i32_454
  let v404 : BitVec 32 := Scalar.select v402 v403 v388
  let c1_i32_481 : BitVec 32 := 1#32
  let c4_i32_455 : BitVec 32 := 4#32
  let c0_i32_456 : BitVec 32 := 0#32
  let v405 : BitVec 1 := Scalar.cmpi .eq c4_i32_455 c0_i32_456
  let c1_i32_457 : BitVec 32 := 1#32
  let v406 : BitVec 32 := Scalar.select v405 c1_i32_457 c4_i32_455
  let v407 : BitVec 32 := Scalar.remsi v387 v406
  let c0_i32_459 : BitVec 32 := 0#32
  let v409 : BitVec 1 := Scalar.cmpi .slt v407 c0_i32_459
  let c0_i32_460 : BitVec 32 := 0#32
  let v410 : BitVec 1 := Scalar.cmpi .slt v406 c0_i32_460
  let v411 : BitVec 1 := Scalar.xori v409 v410
  let c0_i32_458 : BitVec 32 := 0#32
  let v408 : BitVec 1 := Scalar.cmpi .ne v407 c0_i32_458
  let v412 : BitVec 1 := Scalar.andi v411 v408
  let v413 : BitVec 32 := Scalar.addi v407 v406
  let v414 : BitVec 32 := Scalar.select v412 v413 v407
  let c0_i32_483 : BitVec 32 := 0#32
  ![v404.toNat, 1, v414.toNat, 0]
def k1_off8 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_496 : BitVec 32 := 2#32
  let c0_i32_106 : BitVec 32 := 0#32
  let c1_i32_107 : BitVec 32 := 1#32
  let arg17 : BitVec 32 := Scf.iv c0_i32_106 c1_i32_107 k1_t1
  let v469 : BitVec 32 := Scalar.muli c2_i32_496 arg17
  let c1_i32_497 : BitVec 32 := 1#32
  let v470 : BitVec 32 := Scalar.addi v469 c1_i32_497
  let c2_i32_498 : BitVec 32 := 2#32
  let v471 : BitVec 32 := Scalar.muli v470 c2_i32_498
  let c2_i32_499 : BitVec 32 := 2#32
  let v472 : BitVec 32 := Scalar.muli v471 c2_i32_499
  let v473 : BitVec 32 := Scalar.addi v2 v472
  let c0_i32_500 : BitVec 32 := 0#32
  let c0_i32_501 : BitVec 32 := 0#32
  ![v473.toNat, 0, 0]
def k1_cond2 (k1_t1 : Fin k1_t1_loop.trips) : BitVec 1 :=
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c1_i32_729 : BitVec 32 := 1#32
  let v605 : BitVec 32 := Scalar.addi v242 c1_i32_729
  let c2_i32_730 : BitVec 32 := 2#32
  let v606 : BitVec 1 := Scalar.cmpi .sge v605 c2_i32_730
  let v607 : BitVec 32 := Scalar.extui v606
  let c0_i32_731 : BitVec 32 := 0#32
  let v608 : BitVec 1 := Scalar.cmpi .ne v607 c0_i32_731
  v608

def k1_off9 (i : grid1.Coords) (k1_t1 : Fin k1_t1_loop.trips) (c0_i32_1272 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c1_i32_729 : BitVec 32 := 1#32
  let v605 : BitVec 32 := Scalar.addi v242 c1_i32_729
  let c2_i32_1271 : BitVec 32 := 2#32
  let v1106 : BitVec 32 := Scalar.muli v605 c2_i32_1271
  let v1107 : BitVec 32 := Scalar.addi v2 v1106
  let v1108 : BitVec 32 := Scalar.addi v1107 c0_i32_1272
  let c0_i32_1274 : BitVec 32 := 0#32
  let v1110 : BitVec 1 := Scalar.cmpi .sgt v1108 c0_i32_1274
  let v1111 : BitVec 32 := Scalar.extui v1110
  let c0_i32_1275 : BitVec 32 := 0#32
  let v1112 : BitVec 1 := Scalar.cmpi .slt v1108 c0_i32_1275
  let v1113 : BitVec 32 := Scalar.extui v1112
  let v1114 : BitVec 32 := Scalar.subi v1111 v1113
  let c4_i32_1273 : BitVec 32 := 4#32
  let c0_i32_1276 : BitVec 32 := 0#32
  let v1115 : BitVec 1 := Scalar.cmpi .sgt c4_i32_1273 c0_i32_1276
  let v1116 : BitVec 32 := Scalar.extui v1115
  let c0_i32_1277 : BitVec 32 := 0#32
  let v1117 : BitVec 1 := Scalar.cmpi .slt c4_i32_1273 c0_i32_1277
  let v1118 : BitVec 32 := Scalar.extui v1117
  let v1119 : BitVec 32 := Scalar.subi v1116 v1118
  let v1120 : BitVec 1 := Scalar.cmpi .ne v1114 v1119
  let v1121 : BitVec 32 := Scalar.remsi v1108 c4_i32_1273
  let c0_i32_1278 : BitVec 32 := 0#32
  let v1122 : BitVec 1 := Scalar.cmpi .ne v1121 c0_i32_1278
  let v1123 : BitVec 1 := Scalar.andi v1120 v1122
  let v1109 : BitVec 32 := Scalar.divsi v1108 c4_i32_1273
  let c1_i32_1279 : BitVec 32 := 1#32
  let v1124 : BitVec 32 := Scalar.subi v1109 c1_i32_1279
  let v1125 : BitVec 32 := Scalar.select v1123 v1124 v1109
  let c0_i32_1301 : BitVec 32 := 0#32
  let c4_i32_1280 : BitVec 32 := 4#32
  let c0_i32_1281 : BitVec 32 := 0#32
  let v1126 : BitVec 1 := Scalar.cmpi .eq c4_i32_1280 c0_i32_1281
  let c1_i32_1282 : BitVec 32 := 1#32
  let v1127 : BitVec 32 := Scalar.select v1126 c1_i32_1282 c4_i32_1280
  let v1128 : BitVec 32 := Scalar.remsi v1108 v1127
  let c0_i32_1284 : BitVec 32 := 0#32
  let v1130 : BitVec 1 := Scalar.cmpi .slt v1128 c0_i32_1284
  let c0_i32_1285 : BitVec 32 := 0#32
  let v1131 : BitVec 1 := Scalar.cmpi .slt v1127 c0_i32_1285
  let v1132 : BitVec 1 := Scalar.xori v1130 v1131
  let c0_i32_1283 : BitVec 32 := 0#32
  let v1129 : BitVec 1 := Scalar.cmpi .ne v1128 c0_i32_1283
  let v1133 : BitVec 1 := Scalar.andi v1132 v1129
  let v1134 : BitVec 32 := Scalar.addi v1128 v1127
  let v1135 : BitVec 32 := Scalar.select v1133 v1134 v1128
  let c0_i32_1303 : BitVec 32 := 0#32
  ![v1125.toNat, 0, v1135.toNat, 0]
def k1_off10 (i : grid1.Coords) (k1_t1 : Fin k1_t1_loop.trips) (c0_i32_1272 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c1_i32_729 : BitVec 32 := 1#32
  let v605 : BitVec 32 := Scalar.addi v242 c1_i32_729
  let c2_i32_1271 : BitVec 32 := 2#32
  let v1106 : BitVec 32 := Scalar.muli v605 c2_i32_1271
  let v1107 : BitVec 32 := Scalar.addi v2 v1106
  let v1108 : BitVec 32 := Scalar.addi v1107 c0_i32_1272
  let c0_i32_1274 : BitVec 32 := 0#32
  let v1110 : BitVec 1 := Scalar.cmpi .sgt v1108 c0_i32_1274
  let v1111 : BitVec 32 := Scalar.extui v1110
  let c0_i32_1275 : BitVec 32 := 0#32
  let v1112 : BitVec 1 := Scalar.cmpi .slt v1108 c0_i32_1275
  let v1113 : BitVec 32 := Scalar.extui v1112
  let v1114 : BitVec 32 := Scalar.subi v1111 v1113
  let c4_i32_1273 : BitVec 32 := 4#32
  let c0_i32_1276 : BitVec 32 := 0#32
  let v1115 : BitVec 1 := Scalar.cmpi .sgt c4_i32_1273 c0_i32_1276
  let v1116 : BitVec 32 := Scalar.extui v1115
  let c0_i32_1277 : BitVec 32 := 0#32
  let v1117 : BitVec 1 := Scalar.cmpi .slt c4_i32_1273 c0_i32_1277
  let v1118 : BitVec 32 := Scalar.extui v1117
  let v1119 : BitVec 32 := Scalar.subi v1116 v1118
  let v1120 : BitVec 1 := Scalar.cmpi .ne v1114 v1119
  let v1121 : BitVec 32 := Scalar.remsi v1108 c4_i32_1273
  let c0_i32_1278 : BitVec 32 := 0#32
  let v1122 : BitVec 1 := Scalar.cmpi .ne v1121 c0_i32_1278
  let v1123 : BitVec 1 := Scalar.andi v1120 v1122
  let v1109 : BitVec 32 := Scalar.divsi v1108 c4_i32_1273
  let c1_i32_1279 : BitVec 32 := 1#32
  let v1124 : BitVec 32 := Scalar.subi v1109 c1_i32_1279
  let v1125 : BitVec 32 := Scalar.select v1123 v1124 v1109
  let c1_i32_1306 : BitVec 32 := 1#32
  let c4_i32_1280 : BitVec 32 := 4#32
  let c0_i32_1281 : BitVec 32 := 0#32
  let v1126 : BitVec 1 := Scalar.cmpi .eq c4_i32_1280 c0_i32_1281
  let c1_i32_1282 : BitVec 32 := 1#32
  let v1127 : BitVec 32 := Scalar.select v1126 c1_i32_1282 c4_i32_1280
  let v1128 : BitVec 32 := Scalar.remsi v1108 v1127
  let c0_i32_1284 : BitVec 32 := 0#32
  let v1130 : BitVec 1 := Scalar.cmpi .slt v1128 c0_i32_1284
  let c0_i32_1285 : BitVec 32 := 0#32
  let v1131 : BitVec 1 := Scalar.cmpi .slt v1127 c0_i32_1285
  let v1132 : BitVec 1 := Scalar.xori v1130 v1131
  let c0_i32_1283 : BitVec 32 := 0#32
  let v1129 : BitVec 1 := Scalar.cmpi .ne v1128 c0_i32_1283
  let v1133 : BitVec 1 := Scalar.andi v1132 v1129
  let v1134 : BitVec 32 := Scalar.addi v1128 v1127
  let v1135 : BitVec 32 := Scalar.select v1133 v1134 v1128
  let c0_i32_1308 : BitVec 32 := 0#32
  ![v1125.toNat, 1, v1135.toNat, 0]
@[reducible] def k1_t4_loop : Scf.Loop 32 :=
  let c0_i32_734 : BitVec 32 := 0#32
  let c32_i32_735 : BitVec 32 := 32#32
  let v613 : BitVec 32 := Scalar.addi c0_i32_734 c32_i32_735
  let c1_i32_736 : BitVec 32 := 1#32
  ⟨c0_i32_734, v613, c1_i32_736⟩
def k1_off11 (k1_t4 : Fin k1_t4_loop.trips) (c0_i32_1274 : BitVec 32) (c0_i32_1275 : BitVec 32) : Fin 2 → Nat :=
  let c0_i32_1273 : BitVec 32 := 0#32
  let c0_i32_1272 : BitVec 32 := 0#32
  let c0_i32_734 : BitVec 32 := 0#32
  let c1_i32_736 : BitVec 32 := 1#32
  let arg18 : BitVec 32 := Scf.iv c0_i32_734 c1_i32_736 k1_t4
  let c4_i32_1271 : BitVec 32 := 4#32
  let v1106 : BitVec 32 := Scalar.muli arg18 c4_i32_1271
  let v1107 : BitVec 32 := Scalar.addi c0_i32_1272 v1106
  let v1108 : BitVec 32 := Scalar.addi c0_i32_1273 v1107
  let v1109 : BitVec 32 := Scalar.addi v1108 c0_i32_1274
  let v1110 : BitVec 32 := Scalar.addi v1109 c0_i32_1275
  let v1111 : Index := Scalar.indexCast v1110
  let c0 : Index := 0#32
  ![v1111.toNat, 0]

def k1_chk9 (v1250 : IVec S16 32) : Prop :=
  (∀ a x, ((![v1250] : Fin 1 → IVec S16 32) a x).toNat < S4096.size a)
theorem k1_idx9_inb : ∀ (v1250 : IVec S16 32) (k1_hw9 : k1_chk9 v1250), ∀ a x, ((![v1250] : Fin 1 → IVec S16 32) a x).toNat < S4096.size a := fun v1250 k1_hw9 => k1_hw9

def k1_chk10 (v1253 : IVec S16 32) : Prop :=
  (∀ a x, ((![v1253] : Fin 1 → IVec S16 32) a x).toNat < S4096.size a)
theorem k1_idx10_inb : ∀ (v1253 : IVec S16 32) (k1_hw10 : k1_chk10 v1253), ∀ a x, ((![v1253] : Fin 1 → IVec S16 32) a x).toNat < S4096.size a := fun v1253 k1_hw10 => k1_hw10

def k1_chk11 (v1256 : IVec S16 32) : Prop :=
  (∀ a x, ((![v1256] : Fin 1 → IVec S16 32) a x).toNat < S4096.size a)
theorem k1_idx11_inb : ∀ (v1256 : IVec S16 32) (k1_hw11 : k1_chk11 v1256), ∀ a x, ((![v1256] : Fin 1 → IVec S16 32) a x).toNat < S4096.size a := fun v1256 k1_hw11 => k1_hw11

def k1_chk12 (v1259 : IVec S16 32) : Prop :=
  (∀ a x, ((![v1259] : Fin 1 → IVec S16 32) a x).toNat < S4096.size a)
theorem k1_idx12_inb : ∀ (v1259 : IVec S16 32) (k1_hw12 : k1_chk12 v1259), ∀ a x, ((![v1259] : Fin 1 → IVec S16 32) a x).toNat < S4096.size a := fun v1259 k1_hw12 => k1_hw12
@[reducible] def k1_t5_loop : Scf.Loop 32 :=
  let c0_i32_740 : BitVec 32 := 0#32
  let c32_i32_741 : BitVec 32 := 32#32
  let v618 : BitVec 32 := Scalar.addi c0_i32_740 c32_i32_741
  let c1_i32_742 : BitVec 32 := 1#32
  ⟨c0_i32_740, v618, c1_i32_742⟩
def k1_off12 (k1_t5 : Fin k1_t5_loop.trips) (c0_i32_1274 : BitVec 32) (c0_i32_1275 : BitVec 32) : Fin 2 → Nat :=
  let c1024_i32_1273 : BitVec 32 := 1024#32
  let c0_i32_1272 : BitVec 32 := 0#32
  let c0_i32_740 : BitVec 32 := 0#32
  let c1_i32_742 : BitVec 32 := 1#32
  let arg18 : BitVec 32 := Scf.iv c0_i32_740 c1_i32_742 k1_t5
  let c4_i32_1271 : BitVec 32 := 4#32
  let v1106 : BitVec 32 := Scalar.muli arg18 c4_i32_1271
  let v1107 : BitVec 32 := Scalar.addi c0_i32_1272 v1106
  let v1108 : BitVec 32 := Scalar.addi c1024_i32_1273 v1107
  let v1109 : BitVec 32 := Scalar.addi v1108 c0_i32_1274
  let v1110 : BitVec 32 := Scalar.addi v1109 c0_i32_1275
  let v1111 : Index := Scalar.indexCast v1110
  let c0 : Index := 0#32
  ![v1111.toNat, 0]

def k1_chk13 (v1250 : IVec S16 32) : Prop :=
  (∀ a x, ((![v1250] : Fin 1 → IVec S16 32) a x).toNat < S4096.size a)
theorem k1_idx13_inb : ∀ (v1250 : IVec S16 32) (k1_hw13 : k1_chk13 v1250), ∀ a x, ((![v1250] : Fin 1 → IVec S16 32) a x).toNat < S4096.size a := fun v1250 k1_hw13 => k1_hw13

def k1_chk14 (v1253 : IVec S16 32) : Prop :=
  (∀ a x, ((![v1253] : Fin 1 → IVec S16 32) a x).toNat < S4096.size a)
theorem k1_idx14_inb : ∀ (v1253 : IVec S16 32) (k1_hw14 : k1_chk14 v1253), ∀ a x, ((![v1253] : Fin 1 → IVec S16 32) a x).toNat < S4096.size a := fun v1253 k1_hw14 => k1_hw14

def k1_chk15 (v1256 : IVec S16 32) : Prop :=
  (∀ a x, ((![v1256] : Fin 1 → IVec S16 32) a x).toNat < S4096.size a)
theorem k1_idx15_inb : ∀ (v1256 : IVec S16 32) (k1_hw15 : k1_chk15 v1256), ∀ a x, ((![v1256] : Fin 1 → IVec S16 32) a x).toNat < S4096.size a := fun v1256 k1_hw15 => k1_hw15

def k1_chk16 (v1259 : IVec S16 32) : Prop :=
  (∀ a x, ((![v1259] : Fin 1 → IVec S16 32) a x).toNat < S4096.size a)
theorem k1_idx16_inb : ∀ (v1259 : IVec S16 32) (k1_hw16 : k1_chk16 v1259), ∀ a x, ((![v1259] : Fin 1 → IVec S16 32) a x).toNat < S4096.size a := fun v1259 k1_hw16 => k1_hw16
def k1_off13 (i : grid1.Coords) (k1_t1 : Fin k1_t1_loop.trips) (c1_i32_729 : BitVec 32) (c0_i32_745 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let v605 : BitVec 32 := Scalar.addi v242 c1_i32_729
  let c2_i32_744 : BitVec 32 := 2#32
  let v619 : BitVec 32 := Scalar.muli v605 c2_i32_744
  let v620 : BitVec 32 := Scalar.addi v2 v619
  let v621 : BitVec 32 := Scalar.addi v620 c0_i32_745
  let c0_i32_747 : BitVec 32 := 0#32
  let v623 : BitVec 1 := Scalar.cmpi .sgt v621 c0_i32_747
  let v624 : BitVec 32 := Scalar.extui v623
  let c0_i32_748 : BitVec 32 := 0#32
  let v625 : BitVec 1 := Scalar.cmpi .slt v621 c0_i32_748
  let v626 : BitVec 32 := Scalar.extui v625
  let v627 : BitVec 32 := Scalar.subi v624 v626
  let c4_i32_746 : BitVec 32 := 4#32
  let c0_i32_749 : BitVec 32 := 0#32
  let v628 : BitVec 1 := Scalar.cmpi .sgt c4_i32_746 c0_i32_749
  let v629 : BitVec 32 := Scalar.extui v628
  let c0_i32_750 : BitVec 32 := 0#32
  let v630 : BitVec 1 := Scalar.cmpi .slt c4_i32_746 c0_i32_750
  let v631 : BitVec 32 := Scalar.extui v630
  let v632 : BitVec 32 := Scalar.subi v629 v631
  let v633 : BitVec 1 := Scalar.cmpi .ne v627 v632
  let v634 : BitVec 32 := Scalar.remsi v621 c4_i32_746
  let c0_i32_751 : BitVec 32 := 0#32
  let v635 : BitVec 1 := Scalar.cmpi .ne v634 c0_i32_751
  let v636 : BitVec 1 := Scalar.andi v633 v635
  let v622 : BitVec 32 := Scalar.divsi v621 c4_i32_746
  let c1_i32_752 : BitVec 32 := 1#32
  let v637 : BitVec 32 := Scalar.subi v622 c1_i32_752
  let v638 : BitVec 32 := Scalar.select v636 v637 v622
  let c0_i32_774 : BitVec 32 := 0#32
  let c4_i32_753 : BitVec 32 := 4#32
  let c0_i32_754 : BitVec 32 := 0#32
  let v639 : BitVec 1 := Scalar.cmpi .eq c4_i32_753 c0_i32_754
  let c1_i32_755 : BitVec 32 := 1#32
  let v640 : BitVec 32 := Scalar.select v639 c1_i32_755 c4_i32_753
  let v641 : BitVec 32 := Scalar.remsi v621 v640
  let c0_i32_757 : BitVec 32 := 0#32
  let v643 : BitVec 1 := Scalar.cmpi .slt v641 c0_i32_757
  let c0_i32_758 : BitVec 32 := 0#32
  let v644 : BitVec 1 := Scalar.cmpi .slt v640 c0_i32_758
  let v645 : BitVec 1 := Scalar.xori v643 v644
  let c0_i32_756 : BitVec 32 := 0#32
  let v642 : BitVec 1 := Scalar.cmpi .ne v641 c0_i32_756
  let v646 : BitVec 1 := Scalar.andi v645 v642
  let v647 : BitVec 32 := Scalar.addi v641 v640
  let v648 : BitVec 32 := Scalar.select v646 v647 v641
  let c0_i32_776 : BitVec 32 := 0#32
  ![v638.toNat, 0, v648.toNat, 0]
def k1_off14 (i : grid1.Coords) (k1_t1 : Fin k1_t1_loop.trips) (c1_i32_729 : BitVec 32) (c0_i32_745 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let v605 : BitVec 32 := Scalar.addi v242 c1_i32_729
  let c2_i32_744 : BitVec 32 := 2#32
  let v619 : BitVec 32 := Scalar.muli v605 c2_i32_744
  let v620 : BitVec 32 := Scalar.addi v2 v619
  let v621 : BitVec 32 := Scalar.addi v620 c0_i32_745
  let c0_i32_747 : BitVec 32 := 0#32
  let v623 : BitVec 1 := Scalar.cmpi .sgt v621 c0_i32_747
  let v624 : BitVec 32 := Scalar.extui v623
  let c0_i32_748 : BitVec 32 := 0#32
  let v625 : BitVec 1 := Scalar.cmpi .slt v621 c0_i32_748
  let v626 : BitVec 32 := Scalar.extui v625
  let v627 : BitVec 32 := Scalar.subi v624 v626
  let c4_i32_746 : BitVec 32 := 4#32
  let c0_i32_749 : BitVec 32 := 0#32
  let v628 : BitVec 1 := Scalar.cmpi .sgt c4_i32_746 c0_i32_749
  let v629 : BitVec 32 := Scalar.extui v628
  let c0_i32_750 : BitVec 32 := 0#32
  let v630 : BitVec 1 := Scalar.cmpi .slt c4_i32_746 c0_i32_750
  let v631 : BitVec 32 := Scalar.extui v630
  let v632 : BitVec 32 := Scalar.subi v629 v631
  let v633 : BitVec 1 := Scalar.cmpi .ne v627 v632
  let v634 : BitVec 32 := Scalar.remsi v621 c4_i32_746
  let c0_i32_751 : BitVec 32 := 0#32
  let v635 : BitVec 1 := Scalar.cmpi .ne v634 c0_i32_751
  let v636 : BitVec 1 := Scalar.andi v633 v635
  let v622 : BitVec 32 := Scalar.divsi v621 c4_i32_746
  let c1_i32_752 : BitVec 32 := 1#32
  let v637 : BitVec 32 := Scalar.subi v622 c1_i32_752
  let v638 : BitVec 32 := Scalar.select v636 v637 v622
  let c1_i32_779 : BitVec 32 := 1#32
  let c4_i32_753 : BitVec 32 := 4#32
  let c0_i32_754 : BitVec 32 := 0#32
  let v639 : BitVec 1 := Scalar.cmpi .eq c4_i32_753 c0_i32_754
  let c1_i32_755 : BitVec 32 := 1#32
  let v640 : BitVec 32 := Scalar.select v639 c1_i32_755 c4_i32_753
  let v641 : BitVec 32 := Scalar.remsi v621 v640
  let c0_i32_757 : BitVec 32 := 0#32
  let v643 : BitVec 1 := Scalar.cmpi .slt v641 c0_i32_757
  let c0_i32_758 : BitVec 32 := 0#32
  let v644 : BitVec 1 := Scalar.cmpi .slt v640 c0_i32_758
  let v645 : BitVec 1 := Scalar.xori v643 v644
  let c0_i32_756 : BitVec 32 := 0#32
  let v642 : BitVec 1 := Scalar.cmpi .ne v641 c0_i32_756
  let v646 : BitVec 1 := Scalar.andi v645 v642
  let v647 : BitVec 32 := Scalar.addi v641 v640
  let v648 : BitVec 32 := Scalar.select v646 v647 v641
  let c0_i32_781 : BitVec 32 := 0#32
  ![v638.toNat, 1, v648.toNat, 0]
def k1_cond3 (k1_t1 : Fin k1_t1_loop.trips) : BitVec 1 :=
  let c2_i32_794 : BitVec 32 := 2#32
  let c0_i32_106 : BitVec 32 := 0#32
  let c1_i32_107 : BitVec 32 := 1#32
  let arg17 : BitVec 32 := Scf.iv c0_i32_106 c1_i32_107 k1_t1
  let v703 : BitVec 32 := Scalar.muli c2_i32_794 arg17
  let c2_i32_795 : BitVec 32 := 2#32
  let v704 : BitVec 32 := Scalar.addi v703 c2_i32_795
  let c32_i32_796 : BitVec 32 := 32#32
  let v705 : BitVec 1 := Scalar.cmpi .slt v704 c32_i32_796
  let v706 : BitVec 32 := Scalar.extui v705
  let c0_i32_797 : BitVec 32 := 0#32
  let v707 : BitVec 1 := Scalar.cmpi .ne v706 c0_i32_797
  v707

def k1_off15 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_1271 : BitVec 32 := 2#32
  let c0_i32_106 : BitVec 32 := 0#32
  let c1_i32_107 : BitVec 32 := 1#32
  let arg17 : BitVec 32 := Scf.iv c0_i32_106 c1_i32_107 k1_t1
  let v1106 : BitVec 32 := Scalar.muli c2_i32_1271 arg17
  let c2_i32_1272 : BitVec 32 := 2#32
  let v1107 : BitVec 32 := Scalar.addi v1106 c2_i32_1272
  let c2_i32_1273 : BitVec 32 := 2#32
  let v1108 : BitVec 32 := Scalar.muli v1107 c2_i32_1273
  let c2_i32_1274 : BitVec 32 := 2#32
  let v1109 : BitVec 32 := Scalar.muli v1108 c2_i32_1274
  let v1110 : BitVec 32 := Scalar.addi v2 v1109
  let c0_i32_1275 : BitVec 32 := 0#32
  let c0_i32_1276 : BitVec 32 := 0#32
  ![v1110.toNat, 0, 0]
def k1_cond4 (k1_t1 : Fin k1_t1_loop.trips) : BitVec 1 :=
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c2_i32_1023 : BitVec 32 := 2#32
  let v837 : BitVec 32 := Scalar.addi v242 c2_i32_1023
  let c2_i32_1024 : BitVec 32 := 2#32
  let v838 : BitVec 1 := Scalar.cmpi .sge v837 c2_i32_1024
  let v839 : BitVec 32 := Scalar.extui v838
  let c0_i32_1025 : BitVec 32 := 0#32
  let v840 : BitVec 1 := Scalar.cmpi .ne v839 c0_i32_1025
  v840

def k1_off16 (i : grid1.Coords) (k1_t1 : Fin k1_t1_loop.trips) (c0_i32_1272 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c2_i32_1023 : BitVec 32 := 2#32
  let v837 : BitVec 32 := Scalar.addi v242 c2_i32_1023
  let c2_i32_1271 : BitVec 32 := 2#32
  let v1106 : BitVec 32 := Scalar.muli v837 c2_i32_1271
  let v1107 : BitVec 32 := Scalar.addi v2 v1106
  let v1108 : BitVec 32 := Scalar.addi v1107 c0_i32_1272
  let c0_i32_1274 : BitVec 32 := 0#32
  let v1110 : BitVec 1 := Scalar.cmpi .sgt v1108 c0_i32_1274
  let v1111 : BitVec 32 := Scalar.extui v1110
  let c0_i32_1275 : BitVec 32 := 0#32
  let v1112 : BitVec 1 := Scalar.cmpi .slt v1108 c0_i32_1275
  let v1113 : BitVec 32 := Scalar.extui v1112
  let v1114 : BitVec 32 := Scalar.subi v1111 v1113
  let c4_i32_1273 : BitVec 32 := 4#32
  let c0_i32_1276 : BitVec 32 := 0#32
  let v1115 : BitVec 1 := Scalar.cmpi .sgt c4_i32_1273 c0_i32_1276
  let v1116 : BitVec 32 := Scalar.extui v1115
  let c0_i32_1277 : BitVec 32 := 0#32
  let v1117 : BitVec 1 := Scalar.cmpi .slt c4_i32_1273 c0_i32_1277
  let v1118 : BitVec 32 := Scalar.extui v1117
  let v1119 : BitVec 32 := Scalar.subi v1116 v1118
  let v1120 : BitVec 1 := Scalar.cmpi .ne v1114 v1119
  let v1121 : BitVec 32 := Scalar.remsi v1108 c4_i32_1273
  let c0_i32_1278 : BitVec 32 := 0#32
  let v1122 : BitVec 1 := Scalar.cmpi .ne v1121 c0_i32_1278
  let v1123 : BitVec 1 := Scalar.andi v1120 v1122
  let v1109 : BitVec 32 := Scalar.divsi v1108 c4_i32_1273
  let c1_i32_1279 : BitVec 32 := 1#32
  let v1124 : BitVec 32 := Scalar.subi v1109 c1_i32_1279
  let v1125 : BitVec 32 := Scalar.select v1123 v1124 v1109
  let c0_i32_1301 : BitVec 32 := 0#32
  let c4_i32_1280 : BitVec 32 := 4#32
  let c0_i32_1281 : BitVec 32 := 0#32
  let v1126 : BitVec 1 := Scalar.cmpi .eq c4_i32_1280 c0_i32_1281
  let c1_i32_1282 : BitVec 32 := 1#32
  let v1127 : BitVec 32 := Scalar.select v1126 c1_i32_1282 c4_i32_1280
  let v1128 : BitVec 32 := Scalar.remsi v1108 v1127
  let c0_i32_1284 : BitVec 32 := 0#32
  let v1130 : BitVec 1 := Scalar.cmpi .slt v1128 c0_i32_1284
  let c0_i32_1285 : BitVec 32 := 0#32
  let v1131 : BitVec 1 := Scalar.cmpi .slt v1127 c0_i32_1285
  let v1132 : BitVec 1 := Scalar.xori v1130 v1131
  let c0_i32_1283 : BitVec 32 := 0#32
  let v1129 : BitVec 1 := Scalar.cmpi .ne v1128 c0_i32_1283
  let v1133 : BitVec 1 := Scalar.andi v1132 v1129
  let v1134 : BitVec 32 := Scalar.addi v1128 v1127
  let v1135 : BitVec 32 := Scalar.select v1133 v1134 v1128
  let c0_i32_1303 : BitVec 32 := 0#32
  ![v1125.toNat, 0, v1135.toNat, 0]
def k1_off17 (i : grid1.Coords) (k1_t1 : Fin k1_t1_loop.trips) (c0_i32_1272 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c2_i32_1023 : BitVec 32 := 2#32
  let v837 : BitVec 32 := Scalar.addi v242 c2_i32_1023
  let c2_i32_1271 : BitVec 32 := 2#32
  let v1106 : BitVec 32 := Scalar.muli v837 c2_i32_1271
  let v1107 : BitVec 32 := Scalar.addi v2 v1106
  let v1108 : BitVec 32 := Scalar.addi v1107 c0_i32_1272
  let c0_i32_1274 : BitVec 32 := 0#32
  let v1110 : BitVec 1 := Scalar.cmpi .sgt v1108 c0_i32_1274
  let v1111 : BitVec 32 := Scalar.extui v1110
  let c0_i32_1275 : BitVec 32 := 0#32
  let v1112 : BitVec 1 := Scalar.cmpi .slt v1108 c0_i32_1275
  let v1113 : BitVec 32 := Scalar.extui v1112
  let v1114 : BitVec 32 := Scalar.subi v1111 v1113
  let c4_i32_1273 : BitVec 32 := 4#32
  let c0_i32_1276 : BitVec 32 := 0#32
  let v1115 : BitVec 1 := Scalar.cmpi .sgt c4_i32_1273 c0_i32_1276
  let v1116 : BitVec 32 := Scalar.extui v1115
  let c0_i32_1277 : BitVec 32 := 0#32
  let v1117 : BitVec 1 := Scalar.cmpi .slt c4_i32_1273 c0_i32_1277
  let v1118 : BitVec 32 := Scalar.extui v1117
  let v1119 : BitVec 32 := Scalar.subi v1116 v1118
  let v1120 : BitVec 1 := Scalar.cmpi .ne v1114 v1119
  let v1121 : BitVec 32 := Scalar.remsi v1108 c4_i32_1273
  let c0_i32_1278 : BitVec 32 := 0#32
  let v1122 : BitVec 1 := Scalar.cmpi .ne v1121 c0_i32_1278
  let v1123 : BitVec 1 := Scalar.andi v1120 v1122
  let v1109 : BitVec 32 := Scalar.divsi v1108 c4_i32_1273
  let c1_i32_1279 : BitVec 32 := 1#32
  let v1124 : BitVec 32 := Scalar.subi v1109 c1_i32_1279
  let v1125 : BitVec 32 := Scalar.select v1123 v1124 v1109
  let c1_i32_1306 : BitVec 32 := 1#32
  let c4_i32_1280 : BitVec 32 := 4#32
  let c0_i32_1281 : BitVec 32 := 0#32
  let v1126 : BitVec 1 := Scalar.cmpi .eq c4_i32_1280 c0_i32_1281
  let c1_i32_1282 : BitVec 32 := 1#32
  let v1127 : BitVec 32 := Scalar.select v1126 c1_i32_1282 c4_i32_1280
  let v1128 : BitVec 32 := Scalar.remsi v1108 v1127
  let c0_i32_1284 : BitVec 32 := 0#32
  let v1130 : BitVec 1 := Scalar.cmpi .slt v1128 c0_i32_1284
  let c0_i32_1285 : BitVec 32 := 0#32
  let v1131 : BitVec 1 := Scalar.cmpi .slt v1127 c0_i32_1285
  let v1132 : BitVec 1 := Scalar.xori v1130 v1131
  let c0_i32_1283 : BitVec 32 := 0#32
  let v1129 : BitVec 1 := Scalar.cmpi .ne v1128 c0_i32_1283
  let v1133 : BitVec 1 := Scalar.andi v1132 v1129
  let v1134 : BitVec 32 := Scalar.addi v1128 v1127
  let v1135 : BitVec 32 := Scalar.select v1133 v1134 v1128
  let c0_i32_1308 : BitVec 32 := 0#32
  ![v1125.toNat, 1, v1135.toNat, 0]
@[reducible] def k1_t6_loop : Scf.Loop 32 :=
  let c0_i32_1028 : BitVec 32 := 0#32
  let c32_i32_1029 : BitVec 32 := 32#32
  let v845 : BitVec 32 := Scalar.addi c0_i32_1028 c32_i32_1029
  let c1_i32_1030 : BitVec 32 := 1#32
  ⟨c0_i32_1028, v845, c1_i32_1030⟩
def k1_off18 (k1_t6 : Fin k1_t6_loop.trips) (c0_i32_1274 : BitVec 32) (c0_i32_1275 : BitVec 32) : Fin 2 → Nat :=
  let c0_i32_1273 : BitVec 32 := 0#32
  let c0_i32_1272 : BitVec 32 := 0#32
  let c0_i32_1028 : BitVec 32 := 0#32
  let c1_i32_1030 : BitVec 32 := 1#32
  let arg18 : BitVec 32 := Scf.iv c0_i32_1028 c1_i32_1030 k1_t6
  let c4_i32_1271 : BitVec 32 := 4#32
  let v1106 : BitVec 32 := Scalar.muli arg18 c4_i32_1271
  let v1107 : BitVec 32 := Scalar.addi c0_i32_1272 v1106
  let v1108 : BitVec 32 := Scalar.addi c0_i32_1273 v1107
  let v1109 : BitVec 32 := Scalar.addi v1108 c0_i32_1274
  let v1110 : BitVec 32 := Scalar.addi v1109 c0_i32_1275
  let v1111 : Index := Scalar.indexCast v1110
  let c0 : Index := 0#32
  ![v1111.toNat, 0]

def k1_chk17 (v1250 : IVec S16 32) : Prop :=
  (∀ a x, ((![v1250] : Fin 1 → IVec S16 32) a x).toNat < S4096.size a)
theorem k1_idx17_inb : ∀ (v1250 : IVec S16 32) (k1_hw17 : k1_chk17 v1250), ∀ a x, ((![v1250] : Fin 1 → IVec S16 32) a x).toNat < S4096.size a := fun v1250 k1_hw17 => k1_hw17

def k1_chk18 (v1253 : IVec S16 32) : Prop :=
  (∀ a x, ((![v1253] : Fin 1 → IVec S16 32) a x).toNat < S4096.size a)
theorem k1_idx18_inb : ∀ (v1253 : IVec S16 32) (k1_hw18 : k1_chk18 v1253), ∀ a x, ((![v1253] : Fin 1 → IVec S16 32) a x).toNat < S4096.size a := fun v1253 k1_hw18 => k1_hw18

def k1_chk19 (v1256 : IVec S16 32) : Prop :=
  (∀ a x, ((![v1256] : Fin 1 → IVec S16 32) a x).toNat < S4096.size a)
theorem k1_idx19_inb : ∀ (v1256 : IVec S16 32) (k1_hw19 : k1_chk19 v1256), ∀ a x, ((![v1256] : Fin 1 → IVec S16 32) a x).toNat < S4096.size a := fun v1256 k1_hw19 => k1_hw19

def k1_chk20 (v1259 : IVec S16 32) : Prop :=
  (∀ a x, ((![v1259] : Fin 1 → IVec S16 32) a x).toNat < S4096.size a)
theorem k1_idx20_inb : ∀ (v1259 : IVec S16 32) (k1_hw20 : k1_chk20 v1259), ∀ a x, ((![v1259] : Fin 1 → IVec S16 32) a x).toNat < S4096.size a := fun v1259 k1_hw20 => k1_hw20
@[reducible] def k1_t7_loop : Scf.Loop 32 :=
  let c0_i32_1034 : BitVec 32 := 0#32
  let c32_i32_1035 : BitVec 32 := 32#32
  let v850 : BitVec 32 := Scalar.addi c0_i32_1034 c32_i32_1035
  let c1_i32_1036 : BitVec 32 := 1#32
  ⟨c0_i32_1034, v850, c1_i32_1036⟩
def k1_off19 (k1_t7 : Fin k1_t7_loop.trips) (c0_i32_1274 : BitVec 32) (c0_i32_1275 : BitVec 32) : Fin 2 → Nat :=
  let c1024_i32_1273 : BitVec 32 := 1024#32
  let c0_i32_1272 : BitVec 32 := 0#32
  let c0_i32_1034 : BitVec 32 := 0#32
  let c1_i32_1036 : BitVec 32 := 1#32
  let arg18 : BitVec 32 := Scf.iv c0_i32_1034 c1_i32_1036 k1_t7
  let c4_i32_1271 : BitVec 32 := 4#32
  let v1106 : BitVec 32 := Scalar.muli arg18 c4_i32_1271
  let v1107 : BitVec 32 := Scalar.addi c0_i32_1272 v1106
  let v1108 : BitVec 32 := Scalar.addi c1024_i32_1273 v1107
  let v1109 : BitVec 32 := Scalar.addi v1108 c0_i32_1274
  let v1110 : BitVec 32 := Scalar.addi v1109 c0_i32_1275
  let v1111 : Index := Scalar.indexCast v1110
  let c0 : Index := 0#32
  ![v1111.toNat, 0]

def k1_chk21 (v1250 : IVec S16 32) : Prop :=
  (∀ a x, ((![v1250] : Fin 1 → IVec S16 32) a x).toNat < S4096.size a)
theorem k1_idx21_inb : ∀ (v1250 : IVec S16 32) (k1_hw21 : k1_chk21 v1250), ∀ a x, ((![v1250] : Fin 1 → IVec S16 32) a x).toNat < S4096.size a := fun v1250 k1_hw21 => k1_hw21

def k1_chk22 (v1253 : IVec S16 32) : Prop :=
  (∀ a x, ((![v1253] : Fin 1 → IVec S16 32) a x).toNat < S4096.size a)
theorem k1_idx22_inb : ∀ (v1253 : IVec S16 32) (k1_hw22 : k1_chk22 v1253), ∀ a x, ((![v1253] : Fin 1 → IVec S16 32) a x).toNat < S4096.size a := fun v1253 k1_hw22 => k1_hw22

def k1_chk23 (v1256 : IVec S16 32) : Prop :=
  (∀ a x, ((![v1256] : Fin 1 → IVec S16 32) a x).toNat < S4096.size a)
theorem k1_idx23_inb : ∀ (v1256 : IVec S16 32) (k1_hw23 : k1_chk23 v1256), ∀ a x, ((![v1256] : Fin 1 → IVec S16 32) a x).toNat < S4096.size a := fun v1256 k1_hw23 => k1_hw23

def k1_chk24 (v1259 : IVec S16 32) : Prop :=
  (∀ a x, ((![v1259] : Fin 1 → IVec S16 32) a x).toNat < S4096.size a)
theorem k1_idx24_inb : ∀ (v1259 : IVec S16 32) (k1_hw24 : k1_chk24 v1259), ∀ a x, ((![v1259] : Fin 1 → IVec S16 32) a x).toNat < S4096.size a := fun v1259 k1_hw24 => k1_hw24
def k1_cond5 (k1_t1 : Fin k1_t1_loop.trips) : BitVec 1 :=
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c4_i32_1088 : BitVec 32 := 4#32
  let v935 : BitVec 32 := Scalar.addi v242 c4_i32_1088
  let c64_i32 : BitVec 32 := 64#32
  let v936 : BitVec 1 := Scalar.cmpi .slt v935 c64_i32
  let v937 : BitVec 32 := Scalar.extui v936
  let c0_i32_1089 : BitVec 32 := 0#32
  let v938 : BitVec 1 := Scalar.cmpi .ne v937 c0_i32_1089
  v938

def k1_off20 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_1271 : BitVec 32 := 2#32
  let c0_i32_106 : BitVec 32 := 0#32
  let c1_i32_107 : BitVec 32 := 1#32
  let arg17 : BitVec 32 := Scf.iv c0_i32_106 c1_i32_107 k1_t1
  let v1106 : BitVec 32 := Scalar.muli c2_i32_1271 arg17
  let c2_i32_1272 : BitVec 32 := 2#32
  let v1107 : BitVec 32 := Scalar.addi v1106 c2_i32_1272
  let c2_i32_1273 : BitVec 32 := 2#32
  let v1108 : BitVec 32 := Scalar.muli v1107 c2_i32_1273
  let c2_i32_1274 : BitVec 32 := 2#32
  let v1109 : BitVec 32 := Scalar.muli v1108 c2_i32_1274
  let v1110 : BitVec 32 := Scalar.addi v2 v1109
  let c0_i32_1275 : BitVec 32 := 0#32
  let c0_i32_1276 : BitVec 32 := 0#32
  ![v1110.toNat, 0, 0]
def k1_cond6 (k1_t1 : Fin k1_t1_loop.trips) : BitVec 1 :=
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c3_i32_1202 : BitVec 32 := 3#32
  let v1003 : BitVec 32 := Scalar.addi v242 c3_i32_1202
  let c2_i32_1203 : BitVec 32 := 2#32
  let v1004 : BitVec 1 := Scalar.cmpi .sge v1003 c2_i32_1203
  let v1005 : BitVec 32 := Scalar.extui v1004
  let c0_i32_1204 : BitVec 32 := 0#32
  let v1006 : BitVec 1 := Scalar.cmpi .ne v1005 c0_i32_1204
  v1006

def k1_off21 (i : grid1.Coords) (k1_t1 : Fin k1_t1_loop.trips) (c0_i32_1272 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c3_i32_1202 : BitVec 32 := 3#32
  let v1003 : BitVec 32 := Scalar.addi v242 c3_i32_1202
  let c2_i32_1271 : BitVec 32 := 2#32
  let v1106 : BitVec 32 := Scalar.muli v1003 c2_i32_1271
  let v1107 : BitVec 32 := Scalar.addi v2 v1106
  let v1108 : BitVec 32 := Scalar.addi v1107 c0_i32_1272
  let c0_i32_1274 : BitVec 32 := 0#32
  let v1110 : BitVec 1 := Scalar.cmpi .sgt v1108 c0_i32_1274
  let v1111 : BitVec 32 := Scalar.extui v1110
  let c0_i32_1275 : BitVec 32 := 0#32
  let v1112 : BitVec 1 := Scalar.cmpi .slt v1108 c0_i32_1275
  let v1113 : BitVec 32 := Scalar.extui v1112
  let v1114 : BitVec 32 := Scalar.subi v1111 v1113
  let c4_i32_1273 : BitVec 32 := 4#32
  let c0_i32_1276 : BitVec 32 := 0#32
  let v1115 : BitVec 1 := Scalar.cmpi .sgt c4_i32_1273 c0_i32_1276
  let v1116 : BitVec 32 := Scalar.extui v1115
  let c0_i32_1277 : BitVec 32 := 0#32
  let v1117 : BitVec 1 := Scalar.cmpi .slt c4_i32_1273 c0_i32_1277
  let v1118 : BitVec 32 := Scalar.extui v1117
  let v1119 : BitVec 32 := Scalar.subi v1116 v1118
  let v1120 : BitVec 1 := Scalar.cmpi .ne v1114 v1119
  let v1121 : BitVec 32 := Scalar.remsi v1108 c4_i32_1273
  let c0_i32_1278 : BitVec 32 := 0#32
  let v1122 : BitVec 1 := Scalar.cmpi .ne v1121 c0_i32_1278
  let v1123 : BitVec 1 := Scalar.andi v1120 v1122
  let v1109 : BitVec 32 := Scalar.divsi v1108 c4_i32_1273
  let c1_i32_1279 : BitVec 32 := 1#32
  let v1124 : BitVec 32 := Scalar.subi v1109 c1_i32_1279
  let v1125 : BitVec 32 := Scalar.select v1123 v1124 v1109
  let c0_i32_1301 : BitVec 32 := 0#32
  let c4_i32_1280 : BitVec 32 := 4#32
  let c0_i32_1281 : BitVec 32 := 0#32
  let v1126 : BitVec 1 := Scalar.cmpi .eq c4_i32_1280 c0_i32_1281
  let c1_i32_1282 : BitVec 32 := 1#32
  let v1127 : BitVec 32 := Scalar.select v1126 c1_i32_1282 c4_i32_1280
  let v1128 : BitVec 32 := Scalar.remsi v1108 v1127
  let c0_i32_1284 : BitVec 32 := 0#32
  let v1130 : BitVec 1 := Scalar.cmpi .slt v1128 c0_i32_1284
  let c0_i32_1285 : BitVec 32 := 0#32
  let v1131 : BitVec 1 := Scalar.cmpi .slt v1127 c0_i32_1285
  let v1132 : BitVec 1 := Scalar.xori v1130 v1131
  let c0_i32_1283 : BitVec 32 := 0#32
  let v1129 : BitVec 1 := Scalar.cmpi .ne v1128 c0_i32_1283
  let v1133 : BitVec 1 := Scalar.andi v1132 v1129
  let v1134 : BitVec 32 := Scalar.addi v1128 v1127
  let v1135 : BitVec 32 := Scalar.select v1133 v1134 v1128
  let c0_i32_1303 : BitVec 32 := 0#32
  ![v1125.toNat, 0, v1135.toNat, 0]
def k1_off22 (i : grid1.Coords) (k1_t1 : Fin k1_t1_loop.trips) (c0_i32_1272 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_106 : BitVec 32 := 0#32
  let c1_i32_107 : BitVec 32 := 1#32
  let arg17 : BitVec 32 := Scf.iv c0_i32_106 c1_i32_107 k1_t1
  let c4_i32_207 : BitVec 32 := 4#32
  let v242 : BitVec 32 := Scalar.muli arg17 c4_i32_207
  let c3_i32_1202 : BitVec 32 := 3#32
  let v1003 : BitVec 32 := Scalar.addi v242 c3_i32_1202
  let c2_i32_1271 : BitVec 32 := 2#32
  let v1106 : BitVec 32 := Scalar.muli v1003 c2_i32_1271
  let v1107 : BitVec 32 := Scalar.addi v2 v1106
  let v1108 : BitVec 32 := Scalar.addi v1107 c0_i32_1272
  let c0_i32_1274 : BitVec 32 := 0#32
  let v1110 : BitVec 1 := Scalar.cmpi .sgt v1108 c0_i32_1274
  let v1111 : BitVec 32 := Scalar.extui v1110
  let c0_i32_1275 : BitVec 32 := 0#32
  let v1112 : BitVec 1 := Scalar.cmpi .slt v1108 c0_i32_1275
  let v1113 : BitVec 32 := Scalar.extui v1112
  let v1114 : BitVec 32 := Scalar.subi v1111 v1113
  let c4_i32_1273 : BitVec 32 := 4#32
  let c0_i32_1276 : BitVec 32 := 0#32
  let v1115 : BitVec 1 := Scalar.cmpi .sgt c4_i32_1273 c0_i32_1276
  let v1116 : BitVec 32 := Scalar.extui v1115
  let c0_i32_1277 : BitVec 32 := 0#32
  let v1117 : BitVec 1 := Scalar.cmpi .slt c4_i32_1273 c0_i32_1277
  let v1118 : BitVec 32 := Scalar.extui v1117
  let v1119 : BitVec 32 := Scalar.subi v1116 v1118
  let v1120 : BitVec 1 := Scalar.cmpi .ne v1114 v1119
  let v1121 : BitVec 32 := Scalar.remsi v1108 c4_i32_1273
  let c0_i32_1278 : BitVec 32 := 0#32
  let v1122 : BitVec 1 := Scalar.cmpi .ne v1121 c0_i32_1278
  let v1123 : BitVec 1 := Scalar.andi v1120 v1122
  let v1109 : BitVec 32 := Scalar.divsi v1108 c4_i32_1273
  let c1_i32_1279 : BitVec 32 := 1#32
  let v1124 : BitVec 32 := Scalar.subi v1109 c1_i32_1279
  let v1125 : BitVec 32 := Scalar.select v1123 v1124 v1109
  let c1_i32_1306 : BitVec 32 := 1#32
  let c4_i32_1280 : BitVec 32 := 4#32
  let c0_i32_1281 : BitVec 32 := 0#32
  let v1126 : BitVec 1 := Scalar.cmpi .eq c4_i32_1280 c0_i32_1281
  let c1_i32_1282 : BitVec 32 := 1#32
  let v1127 : BitVec 32 := Scalar.select v1126 c1_i32_1282 c4_i32_1280
  let v1128 : BitVec 32 := Scalar.remsi v1108 v1127
  let c0_i32_1284 : BitVec 32 := 0#32
  let v1130 : BitVec 1 := Scalar.cmpi .slt v1128 c0_i32_1284
  let c0_i32_1285 : BitVec 32 := 0#32
  let v1131 : BitVec 1 := Scalar.cmpi .slt v1127 c0_i32_1285
  let v1132 : BitVec 1 := Scalar.xori v1130 v1131
  let c0_i32_1283 : BitVec 32 := 0#32
  let v1129 : BitVec 1 := Scalar.cmpi .ne v1128 c0_i32_1283
  let v1133 : BitVec 1 := Scalar.andi v1132 v1129
  let v1134 : BitVec 32 := Scalar.addi v1128 v1127
  let v1135 : BitVec 32 := Scalar.select v1133 v1134 v1128
  let c0_i32_1308 : BitVec 32 := 0#32
  ![v1125.toNat, 1, v1135.toNat, 0]
@[reducible] def k1_t8_loop : Scf.Loop 32 :=
  let c0_i32_1207 : BitVec 32 := 0#32
  let c32_i32_1208 : BitVec 32 := 32#32
  let v1011 : BitVec 32 := Scalar.addi c0_i32_1207 c32_i32_1208
  let c1_i32_1209 : BitVec 32 := 1#32
  ⟨c0_i32_1207, v1011, c1_i32_1209⟩
def k1_off23 (k1_t8 : Fin k1_t8_loop.trips) (c0_i32_1274 : BitVec 32) (c0_i32_1275 : BitVec 32) : Fin 2 → Nat :=
  let c0_i32_1273 : BitVec 32 := 0#32
  let c0_i32_1272 : BitVec 32 := 0#32
  let c0_i32_1207 : BitVec 32 := 0#32
  let c1_i32_1209 : BitVec 32 := 1#32
  let arg18 : BitVec 32 := Scf.iv c0_i32_1207 c1_i32_1209 k1_t8
  let c4_i32_1271 : BitVec 32 := 4#32
  let v1106 : BitVec 32 := Scalar.muli arg18 c4_i32_1271
  let v1107 : BitVec 32 := Scalar.addi c0_i32_1272 v1106
  let v1108 : BitVec 32 := Scalar.addi c0_i32_1273 v1107
  let v1109 : BitVec 32 := Scalar.addi v1108 c0_i32_1274
  let v1110 : BitVec 32 := Scalar.addi v1109 c0_i32_1275
  let v1111 : Index := Scalar.indexCast v1110
  let c0 : Index := 0#32
  ![v1111.toNat, 0]

def k1_chk25 (v1250 : IVec S16 32) : Prop :=
  (∀ a x, ((![v1250] : Fin 1 → IVec S16 32) a x).toNat < S4096.size a)
theorem k1_idx25_inb : ∀ (v1250 : IVec S16 32) (k1_hw25 : k1_chk25 v1250), ∀ a x, ((![v1250] : Fin 1 → IVec S16 32) a x).toNat < S4096.size a := fun v1250 k1_hw25 => k1_hw25

def k1_chk26 (v1253 : IVec S16 32) : Prop :=
  (∀ a x, ((![v1253] : Fin 1 → IVec S16 32) a x).toNat < S4096.size a)
theorem k1_idx26_inb : ∀ (v1253 : IVec S16 32) (k1_hw26 : k1_chk26 v1253), ∀ a x, ((![v1253] : Fin 1 → IVec S16 32) a x).toNat < S4096.size a := fun v1253 k1_hw26 => k1_hw26

def k1_chk27 (v1256 : IVec S16 32) : Prop :=
  (∀ a x, ((![v1256] : Fin 1 → IVec S16 32) a x).toNat < S4096.size a)
theorem k1_idx27_inb : ∀ (v1256 : IVec S16 32) (k1_hw27 : k1_chk27 v1256), ∀ a x, ((![v1256] : Fin 1 → IVec S16 32) a x).toNat < S4096.size a := fun v1256 k1_hw27 => k1_hw27

def k1_chk28 (v1259 : IVec S16 32) : Prop :=
  (∀ a x, ((![v1259] : Fin 1 → IVec S16 32) a x).toNat < S4096.size a)
theorem k1_idx28_inb : ∀ (v1259 : IVec S16 32) (k1_hw28 : k1_chk28 v1259), ∀ a x, ((![v1259] : Fin 1 → IVec S16 32) a x).toNat < S4096.size a := fun v1259 k1_hw28 => k1_hw28
@[reducible] def k1_t9_loop : Scf.Loop 32 :=
  let c0_i32_1213 : BitVec 32 := 0#32
  let c32_i32_1214 : BitVec 32 := 32#32
  let v1016 : BitVec 32 := Scalar.addi c0_i32_1213 c32_i32_1214
  let c1_i32_1215 : BitVec 32 := 1#32
  ⟨c0_i32_1213, v1016, c1_i32_1215⟩
def k1_off24 (k1_t9 : Fin k1_t9_loop.trips) (c0_i32_1274 : BitVec 32) (c0_i32_1275 : BitVec 32) : Fin 2 → Nat :=
  let c1024_i32_1273 : BitVec 32 := 1024#32
  let c0_i32_1272 : BitVec 32 := 0#32
  let c0_i32_1213 : BitVec 32 := 0#32
  let c1_i32_1215 : BitVec 32 := 1#32
  let arg18 : BitVec 32 := Scf.iv c0_i32_1213 c1_i32_1215 k1_t9
  let c4_i32_1271 : BitVec 32 := 4#32
  let v1106 : BitVec 32 := Scalar.muli arg18 c4_i32_1271
  let v1107 : BitVec 32 := Scalar.addi c0_i32_1272 v1106
  let v1108 : BitVec 32 := Scalar.addi c1024_i32_1273 v1107
  let v1109 : BitVec 32 := Scalar.addi v1108 c0_i32_1274
  let v1110 : BitVec 32 := Scalar.addi v1109 c0_i32_1275
  let v1111 : Index := Scalar.indexCast v1110
  let c0 : Index := 0#32
  ![v1111.toNat, 0]

def k1_chk29 (v1250 : IVec S16 32) : Prop :=
  (∀ a x, ((![v1250] : Fin 1 → IVec S16 32) a x).toNat < S4096.size a)
theorem k1_idx29_inb : ∀ (v1250 : IVec S16 32) (k1_hw29 : k1_chk29 v1250), ∀ a x, ((![v1250] : Fin 1 → IVec S16 32) a x).toNat < S4096.size a := fun v1250 k1_hw29 => k1_hw29

def k1_chk30 (v1253 : IVec S16 32) : Prop :=
  (∀ a x, ((![v1253] : Fin 1 → IVec S16 32) a x).toNat < S4096.size a)
theorem k1_idx30_inb : ∀ (v1253 : IVec S16 32) (k1_hw30 : k1_chk30 v1253), ∀ a x, ((![v1253] : Fin 1 → IVec S16 32) a x).toNat < S4096.size a := fun v1253 k1_hw30 => k1_hw30

def k1_chk31 (v1256 : IVec S16 32) : Prop :=
  (∀ a x, ((![v1256] : Fin 1 → IVec S16 32) a x).toNat < S4096.size a)
theorem k1_idx31_inb : ∀ (v1256 : IVec S16 32) (k1_hw31 : k1_chk31 v1256), ∀ a x, ((![v1256] : Fin 1 → IVec S16 32) a x).toNat < S4096.size a := fun v1256 k1_hw31 => k1_hw31

def k1_chk32 (v1259 : IVec S16 32) : Prop :=
  (∀ a x, ((![v1259] : Fin 1 → IVec S16 32) a x).toNat < S4096.size a)
theorem k1_idx32_inb : ∀ (v1259 : IVec S16 32) (k1_hw32 : k1_chk32 v1259), ∀ a x, ((![v1259] : Fin 1 → IVec S16 32) a x).toNat < S4096.size a := fun v1259 k1_hw32 => k1_hw32
def k1_cond7 (k1_t1 : Fin k1_t1_loop.trips) : BitVec 1 :=
  let c2_i32_1267 : BitVec 32 := 2#32
  let c0_i32_106 : BitVec 32 := 0#32
  let c1_i32_107 : BitVec 32 := 1#32
  let arg17 : BitVec 32 := Scf.iv c0_i32_106 c1_i32_107 k1_t1
  let v1101 : BitVec 32 := Scalar.muli c2_i32_1267 arg17
  let c3_i32_1268 : BitVec 32 := 3#32
  let v1102 : BitVec 32 := Scalar.addi v1101 c3_i32_1268
  let c32_i32_1269 : BitVec 32 := 32#32
  let v1103 : BitVec 1 := Scalar.cmpi .slt v1102 c32_i32_1269
  let v1104 : BitVec 32 := Scalar.extui v1103
  let c0_i32_1270 : BitVec 32 := 0#32
  let v1105 : BitVec 1 := Scalar.cmpi .ne v1104 c0_i32_1270
  v1105

def k1_off25 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_1271 : BitVec 32 := 2#32
  let c0_i32_106 : BitVec 32 := 0#32
  let c1_i32_107 : BitVec 32 := 1#32
  let arg17 : BitVec 32 := Scf.iv c0_i32_106 c1_i32_107 k1_t1
  let v1106 : BitVec 32 := Scalar.muli c2_i32_1271 arg17
  let c3_i32_1272 : BitVec 32 := 3#32
  let v1107 : BitVec 32 := Scalar.addi v1106 c3_i32_1272
  let c2_i32_1273 : BitVec 32 := 2#32
  let v1108 : BitVec 32 := Scalar.muli v1107 c2_i32_1273
  let c2_i32_1274 : BitVec 32 := 2#32
  let v1109 : BitVec 32 := Scalar.muli v1108 c2_i32_1274
  let v1110 : BitVec 32 := Scalar.addi v2 v1109
  let c0_i32_1275 : BitVec 32 := 0#32
  let c0_i32_1276 : BitVec 32 := 0#32
  ![v1110.toNat, 0, 0]
def k1_off26 (i : grid1.Coords) (c0_i32_110 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_109 : BitVec 32 := 0#32
  let v78 : BitVec 32 := Scalar.addi v2 c0_i32_109
  let v79 : BitVec 32 := Scalar.addi v78 c0_i32_110
  let c0_i32_112 : BitVec 32 := 0#32
  let v81 : BitVec 1 := Scalar.cmpi .sgt v79 c0_i32_112
  let v82 : BitVec 32 := Scalar.extui v81
  let c0_i32_113 : BitVec 32 := 0#32
  let v83 : BitVec 1 := Scalar.cmpi .slt v79 c0_i32_113
  let v84 : BitVec 32 := Scalar.extui v83
  let v85 : BitVec 32 := Scalar.subi v82 v84
  let c4_i32_111 : BitVec 32 := 4#32
  let c0_i32_114 : BitVec 32 := 0#32
  let v86 : BitVec 1 := Scalar.cmpi .sgt c4_i32_111 c0_i32_114
  let v87 : BitVec 32 := Scalar.extui v86
  let c0_i32_115 : BitVec 32 := 0#32
  let v88 : BitVec 1 := Scalar.cmpi .slt c4_i32_111 c0_i32_115
  let v89 : BitVec 32 := Scalar.extui v88
  let v90 : BitVec 32 := Scalar.subi v87 v89
  let v91 : BitVec 1 := Scalar.cmpi .ne v85 v90
  let v92 : BitVec 32 := Scalar.remsi v79 c4_i32_111
  let c0_i32_116 : BitVec 32 := 0#32
  let v93 : BitVec 1 := Scalar.cmpi .ne v92 c0_i32_116
  let v94 : BitVec 1 := Scalar.andi v91 v93
  let v80 : BitVec 32 := Scalar.divsi v79 c4_i32_111
  let c1_i32_117 : BitVec 32 := 1#32
  let v95 : BitVec 32 := Scalar.subi v80 c1_i32_117
  let v96 : BitVec 32 := Scalar.select v94 v95 v80
  let c0_i32_139 : BitVec 32 := 0#32
  let c4_i32_118 : BitVec 32 := 4#32
  let c0_i32_119 : BitVec 32 := 0#32
  let v97 : BitVec 1 := Scalar.cmpi .eq c4_i32_118 c0_i32_119
  let c1_i32_120 : BitVec 32 := 1#32
  let v98 : BitVec 32 := Scalar.select v97 c1_i32_120 c4_i32_118
  let v99 : BitVec 32 := Scalar.remsi v79 v98
  let c0_i32_122 : BitVec 32 := 0#32
  let v101 : BitVec 1 := Scalar.cmpi .slt v99 c0_i32_122
  let c0_i32_123 : BitVec 32 := 0#32
  let v102 : BitVec 1 := Scalar.cmpi .slt v98 c0_i32_123
  let v103 : BitVec 1 := Scalar.xori v101 v102
  let c0_i32_121 : BitVec 32 := 0#32
  let v100 : BitVec 1 := Scalar.cmpi .ne v99 c0_i32_121
  let v104 : BitVec 1 := Scalar.andi v103 v100
  let v105 : BitVec 32 := Scalar.addi v99 v98
  let v106 : BitVec 32 := Scalar.select v104 v105 v99
  let c0_i32_141 : BitVec 32 := 0#32
  ![v96.toNat, 0, v106.toNat, 0]
def k1_off27 (i : grid1.Coords) (c0_i32_110 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_109 : BitVec 32 := 0#32
  let v78 : BitVec 32 := Scalar.addi v2 c0_i32_109
  let v79 : BitVec 32 := Scalar.addi v78 c0_i32_110
  let c0_i32_112 : BitVec 32 := 0#32
  let v81 : BitVec 1 := Scalar.cmpi .sgt v79 c0_i32_112
  let v82 : BitVec 32 := Scalar.extui v81
  let c0_i32_113 : BitVec 32 := 0#32
  let v83 : BitVec 1 := Scalar.cmpi .slt v79 c0_i32_113
  let v84 : BitVec 32 := Scalar.extui v83
  let v85 : BitVec 32 := Scalar.subi v82 v84
  let c4_i32_111 : BitVec 32 := 4#32
  let c0_i32_114 : BitVec 32 := 0#32
  let v86 : BitVec 1 := Scalar.cmpi .sgt c4_i32_111 c0_i32_114
  let v87 : BitVec 32 := Scalar.extui v86
  let c0_i32_115 : BitVec 32 := 0#32
  let v88 : BitVec 1 := Scalar.cmpi .slt c4_i32_111 c0_i32_115
  let v89 : BitVec 32 := Scalar.extui v88
  let v90 : BitVec 32 := Scalar.subi v87 v89
  let v91 : BitVec 1 := Scalar.cmpi .ne v85 v90
  let v92 : BitVec 32 := Scalar.remsi v79 c4_i32_111
  let c0_i32_116 : BitVec 32 := 0#32
  let v93 : BitVec 1 := Scalar.cmpi .ne v92 c0_i32_116
  let v94 : BitVec 1 := Scalar.andi v91 v93
  let v80 : BitVec 32 := Scalar.divsi v79 c4_i32_111
  let c1_i32_117 : BitVec 32 := 1#32
  let v95 : BitVec 32 := Scalar.subi v80 c1_i32_117
  let v96 : BitVec 32 := Scalar.select v94 v95 v80
  let c1_i32_144 : BitVec 32 := 1#32
  let c4_i32_118 : BitVec 32 := 4#32
  let c0_i32_119 : BitVec 32 := 0#32
  let v97 : BitVec 1 := Scalar.cmpi .eq c4_i32_118 c0_i32_119
  let c1_i32_120 : BitVec 32 := 1#32
  let v98 : BitVec 32 := Scalar.select v97 c1_i32_120 c4_i32_118
  let v99 : BitVec 32 := Scalar.remsi v79 v98
  let c0_i32_122 : BitVec 32 := 0#32
  let v101 : BitVec 1 := Scalar.cmpi .slt v99 c0_i32_122
  let c0_i32_123 : BitVec 32 := 0#32
  let v102 : BitVec 1 := Scalar.cmpi .slt v98 c0_i32_123
  let v103 : BitVec 1 := Scalar.xori v101 v102
  let c0_i32_121 : BitVec 32 := 0#32
  let v100 : BitVec 1 := Scalar.cmpi .ne v99 c0_i32_121
  let v104 : BitVec 1 := Scalar.andi v103 v100
  let v105 : BitVec 32 := Scalar.addi v99 v98
  let v106 : BitVec 32 := Scalar.select v104 v105 v99
  let c0_i32_146 : BitVec 32 := 0#32
  ![v96.toNat, 1, v106.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x512x512x8 : Shape := ⟨4, ![2, 512, 512, 8]⟩
abbrev S100000x16 : Shape := ⟨2, ![100000, 16]⟩
abbrev S2x8x512x512 : Shape := ⟨4, ![2, 8, 512, 512]⟩
abbrev S_ : Shape := ⟨0, ![]⟩
abbrev S16x100000 : Shape := ⟨2, ![16, 100000]⟩
abbrev S2x8x512x512x1 : Shape := ⟨5, ![2, 8, 512, 512, 1]⟩
abbrev S1 : Shape := ⟨1, ![1]⟩
abbrev S1x1x1x1x1 : Shape := ⟨5, ![1, 1, 1, 1, 1]⟩
abbrev S16x2x8x512x512 : Shape := ⟨5, ![16, 2, 8, 512, 512]⟩
abbrev S2x16x8x512x512 : Shape := ⟨5, ![2, 16, 8, 512, 512]⟩
abbrev S2x1x8x512x512 : Shape := ⟨5, ![2, 1, 8, 512, 512]⟩
abbrev S2x16x512x512 : Shape := ⟨4, ![2, 16, 512, 512]⟩
abbrev S2x512x512 : Shape := ⟨3, ![2, 512, 512]⟩
abbrev S2x1x512x512 : Shape := ⟨4, ![2, 1, 512, 512]⟩
abbrev S2x512x512x16 : Shape := ⟨4, ![2, 512, 512, 16]⟩

abbrev nBuf : Space → Nat
  | .hbm => 71
  | .vmem => 0
  | .smem => 0
  | _ => 0

abbrev bufTy : (tb : Table) → Fin (tcTables nBuf tb) → BufTy
  | .hbm, ⟨0, _⟩ => ⟨S2x512x512x8, .i32⟩
  | .hbm, ⟨1, _⟩ => ⟨S2x512x512x8, .f32⟩
  | .hbm, ⟨2, _⟩ => ⟨S100000x16, .f32⟩
  | .hbm, ⟨3, _⟩ => ⟨S2x8x512x512, .f32⟩
  | .hbm, ⟨4, _⟩ => ⟨S_, .f32⟩
  | .hbm, ⟨5, _⟩ => ⟨S2x8x512x512, .f32⟩
  | .hbm, ⟨6, _⟩ => ⟨S2x8x512x512, .f32⟩
  | .hbm, ⟨7, _⟩ => ⟨S_, .f32⟩
  | .hbm, ⟨8, _⟩ => ⟨S2x8x512x512, .f32⟩
  | .hbm, ⟨9, _⟩ => ⟨S2x8x512x512, .f32⟩
  | .hbm, ⟨10, _⟩ => ⟨S_, .f32⟩
  | .hbm, ⟨11, _⟩ => ⟨S2x8x512x512, .f32⟩
  | .hbm, ⟨12, _⟩ => ⟨S2x8x512x512, .i1⟩
  | .hbm, ⟨13, _⟩ => ⟨S_, .f32⟩
  | .hbm, ⟨14, _⟩ => ⟨S_, .f32⟩
  | .hbm, ⟨15, _⟩ => ⟨S2x8x512x512, .f32⟩
  | .hbm, ⟨16, _⟩ => ⟨S2x8x512x512, .f32⟩
  | .hbm, ⟨17, _⟩ => ⟨S2x8x512x512, .i32⟩
  | .hbm, ⟨18, _⟩ => ⟨S16x100000, .f32⟩
  | .hbm, ⟨19, _⟩ => ⟨S_, .i32⟩
  | .hbm, ⟨20, _⟩ => ⟨S2x8x512x512, .i32⟩
  | .hbm, ⟨21, _⟩ => ⟨S2x8x512x512, .i1⟩
  | .hbm, ⟨22, _⟩ => ⟨S2x8x512x512, .f32⟩
  | .hbm, ⟨23, _⟩ => ⟨S2x8x512x512, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2x8x512x512, .i32⟩
  | .hbm, ⟨28, _⟩ => ⟨S2x8x512x512, .i32⟩
  | .hbm, ⟨29, _⟩ => ⟨S_, .i32⟩
  | .hbm, ⟨30, _⟩ => ⟨S2x8x512x512, .i32⟩
  | .hbm, ⟨31, _⟩ => ⟨S2x8x512x512, .i32⟩
  | .hbm, ⟨32, _⟩ => ⟨S_, .i32⟩
  | .hbm, ⟨33, _⟩ => ⟨S2x8x512x512, .i32⟩
  | .hbm, ⟨34, _⟩ => ⟨S2x8x512x512, .i1⟩
  | .hbm, ⟨35, _⟩ => ⟨S_, .i32⟩
  | .hbm, ⟨36, _⟩ => ⟨S2x8x512x512, .i32⟩
  | .hbm, ⟨37, _⟩ => ⟨S2x8x512x512, .i32⟩
  | .hbm, ⟨38, _⟩ => ⟨S2x8x512x512, .i32⟩
  | .hbm, ⟨39, _⟩ => ⟨S2x8x512x512x1, .i32⟩
  | .hbm, ⟨40, _⟩ => ⟨S1, .i32⟩
  | .hbm, ⟨41, _⟩ => ⟨S_, .i32⟩
  | .hbm, ⟨42, _⟩ => ⟨S2x8x512x512x1, .i32⟩
  | .hbm, ⟨43, _⟩ => ⟨S2x8x512x512x1, .i1⟩
  | .hbm, ⟨44, _⟩ => ⟨S1x1x1x1x1, .i32⟩
  | .hbm, ⟨45, _⟩ => ⟨S2x8x512x512x1, .i32⟩
  | .hbm, ⟨46, _⟩ => ⟨S2x8x512x512x1, .i1⟩
  | .hbm, ⟨47, _⟩ => ⟨S2x8x512x512x1, .i1⟩
  | .hbm, ⟨48, _⟩ => ⟨S_, .i1⟩
  | .hbm, ⟨49, _⟩ => ⟨S2x8x512x512, .i1⟩
  | .hbm, ⟨50, _⟩ => ⟨S16x2x8x512x512, .f32⟩
  | .hbm, ⟨51, _⟩ => ⟨S16x2x8x512x512, .i1⟩
  | .hbm, ⟨52, _⟩ => ⟨S_, .f32⟩
  | .hbm, ⟨53, _⟩ => ⟨S16x2x8x512x512, .f32⟩
  | .hbm, ⟨54, _⟩ => ⟨S16x2x8x512x512, .f32⟩
  | .hbm, ⟨55, _⟩ => ⟨S2x16x8x512x512, .f32⟩
  | .hbm, ⟨56, _⟩ => ⟨S2x1x8x512x512, .f32⟩
  | .hbm, ⟨57, _⟩ => ⟨S2x16x8x512x512, .f32⟩
  | .hbm, ⟨58, _⟩ => ⟨S2x16x8x512x512, .f32⟩
  | .hbm, ⟨59, _⟩ => ⟨S_, .f32⟩
  | .hbm, ⟨60, _⟩ => ⟨S2x16x512x512, .f32⟩
  | .hbm, ⟨61, _⟩ => ⟨S_, .f32⟩
  | .hbm, ⟨62, _⟩ => ⟨S2x512x512, .f32⟩
  | .hbm, ⟨63, _⟩ => ⟨S_, .f32⟩
  | .hbm, ⟨64, _⟩ => ⟨S_, .f32⟩
  | .hbm, ⟨65, _⟩ => ⟨S2x512x512, .f32⟩
  | .hbm, ⟨66, _⟩ => ⟨S2x512x512, .f32⟩
  | .hbm, ⟨67, _⟩ => ⟨S2x1x512x512, .f32⟩
  | .hbm, ⟨68, _⟩ => ⟨S2x16x512x512, .f32⟩
  | .hbm, ⟨69, _⟩ => ⟨S2x16x512x512, .f32⟩
  | .hbm, ⟨70, _⟩ => ⟨S2x512x512x16, .f32⟩
  | _, _ => ⟨S2x512x512x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_5 : Ref sig .tc := ⟨.hbm, 59, rfl⟩
abbrev main_v20 : Ref sig .tc := ⟨.hbm, 60, rfl⟩
abbrev main_cst_6 : Ref sig .tc := ⟨.hbm, 61, rfl⟩
abbrev main_v21 : Ref sig .tc := ⟨.hbm, 62, rfl⟩
abbrev main_cst_7 : Ref sig .tc := ⟨.hbm, 63, rfl⟩
abbrev main_call3_v0 : Ref sig .tc := ⟨.hbm, 64, rfl⟩
abbrev main_call3_v1 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Proof.Gather.lean ====
/-
  Indirect gathers issued into one batch. A chunk's gathers all signal one DMA semaphore, so none of them is awaited
  alone: the batch's deliveries are the rows of all its gathers, numbered gather by gather. `wp_gatherBatch` issues one
  gather, and `rowGot_join` puts the rows of one gather together again once the batch is drained.
-/
module

public import Idealize.ShloMosaic.Lib.Batch
public import Idealize.ShloMosaic.Lib.SparseCore.Stream
public import Idealize.ShloMosaic.Lib.Tactic

@[expose] public section

noncomputable section

namespace Cert.Render

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Transfers `k, …, k + o - 1` taken off the pending ones. -/
theorem pending_take {n k o : ℕ} (h : k + o ≤ n) (Φ : Fin n → sProp 𝕄) :
    bigSep (pending k) Φ
      = iprop(bigSep Finset.univ (fun j : Fin o => Φ ⟨k + j.val, by have := j.isLt; omega⟩) ∗ bigSep (pending (k + o)) Φ) := by
  have lt : ∀ j : Fin o, k + j.val < n := fun j => by have := j.isLt; omega
  let f : Fin o → Fin n := fun j => ⟨k + j.val, lt j⟩
  have hf : Function.Injective f := fun x y h => Fin.ext (by have h' : k + x.val = k + y.val := congrArg Fin.val h; omega)
  have hval : ∀ j, (f j).val = k + j.val := fun _ => rfl
  have hs : pending (n := n) k = (Finset.univ.map ⟨f, hf⟩) ∪ pending (k + o) := by
    ext t
    simp only [pending, Finset.mem_filter, Finset.mem_univ, _root_.true_and, Finset.mem_union, Finset.mem_map, Function.Embedding.coeFn_mk]
    constructor
    · intro ht
      by_cases hh : k + o ≤ t.val
      · exact .inr hh
      · exact .inl ⟨⟨t.val - k, by omega⟩, Fin.ext (by rw [hval]; change k + (t.val - k) = _; omega)⟩
    · rintro (⟨j, rfl⟩ | h)
      · rw [hval]; omega
      · omega
  have hd : Disjoint (Finset.univ.map ⟨f, hf⟩) (pending (n := n) (k + o)) := by
    rw [Finset.disjoint_left]
    intro t h1 h2
    simp only [pending, Finset.mem_filter, Finset.mem_univ, _root_.true_and, Finset.mem_map, Function.Embedding.coeFn_mk] at h1 h2
    obtain ⟨j, rfl⟩ := h1
    rw [hval] at h2
    have := j.isLt
    omega
  rw [hs, BI.bigSep_union hd, BI.bigSep_map]; rfl

/-- The entry of the list which row `j` of a gather is named by. -/
def listEntry {o : ℕ} (hn : si.numel = o) (j : Fin o) : si.Idx := si.rowMajor.symm (j.cast hn.symm)

theorem listEntry_bijective {o : ℕ} (hn : si.numel = o) : Function.Bijective (listEntry (si := si) hn) :=
  si.rowMajor.symm.bijective.comp (finCongr hn.symm).bijective

/-- What row `j` of a gather delivers: the destination's row written with the source row the list names, the list's
    entry back and a piece of the source back. -/
def rowGot (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare} ((dst.view.slice (s.rowRect hg.axis' j)).write (Elt F) fd
        (fun i => src.view.read (Elt F) fs (hg.rowIdx (rows (offs.view.read (Elt F) fo) hn hin j) i)) Finset.univ))
      ∗ (offs.view.loc c ↦[{offs.view.emb (listEntry hn j)}]{qo} fo)) ∗ (src.view.loc c ↦[src.view.set]{pieceOf q _ ho j} fs))

instance rowGot_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    BI.Storable (upEmb : UEmb _ 𝕄) (rowGot c src dst hg offs hn ho q qo fs fd fo hin j) := by
  unfold rowGot; infer_instance

/-- The rows of one gather together: the destination holds the gathered rows, the list and the source are back. -/
theorem rowGot_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowGot c src dst hg offs hn ho q qo fs fd fo hin)
      ⊢ (iprop((dst.view.loc c ↦[dst.view.set]{fullShare}
                  (dst.view.write (Elt F) fd (gatherPayload hg (src.view.read (Elt F) fs) (rows (offs.view.read (Elt F) fo) hn hin)) Finset.univ))
            ∗ (src.view.loc c ↦[src.view.set]{q} fs) ∗ (offs.view.loc c ↦[offs.view.set]{qo} fo)) : sProp 𝕄) := by
  have hrows : ∀ (W : s.Idx → Elt F e), (∀ j i, src.view.read (Elt F) fs (hg.rowIdx (rows (offs.view.read (Elt F) fo) hn hin j) i) = W ((s.rowRect hg.axis' j).emb i)) →
      (bigSep Finset.univ (fun j => (dst.view.loc c ↦[(dst.view.slice (s.rowRect hg.axis' j)).set]{fullShare} ((dst.view.slice (s.rowRect hg.axis' j)).write (Elt F) fd
        (fun i => src.view.read (Elt F) fs (hg.rowIdx (rows (offs.view.read (Elt F) fo) hn hin j) i)) Finset.univ) : sProp 𝕄)))
        ⊢ (dst.view.loc c ↦[dst.view.set]{fullShare} (dst.view.write (Elt F) fd W Finset.univ) : sProp 𝕄) := fun W hW =>
    pointsTo_rows_write c dst.view hg.axis' fd _ W hW
  unfold rowGot
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (hrows _ (fun j i => by unfold gatherPayload; rw [Shape.Gathers.idx_rowRect_emb])) $$ Hrows
  isplitl [Hsrc]; · iapply (Entails.of_eq (pointsTo_piecesOf (src.view.set) fs ho q).symm) $$ Hsrc
  iapply (Entails.of_eq (pointsTo_entries c offs.view (listEntry hn) (listEntry_bijective hn) qo fo).symm) $$ Hoffs

/-- One gather issued into a batch whose transfers `w, …` are its rows: holding a share of the source, the destination,
    the list with every entry in range, and the batch with `w` transfers issued, the thread issues the gather and holds the
    batch with its rows issued too. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) {n : ℕ} {D : Fin n → sProp 𝕄} (N w u : ℕ)
    (hN : ∀ j, (dst.slice (s.rowRect hg.axis' j) (s.stride_rowRect hg.axis' j)).view.dmaCredit = N)
    (ho : 0 < s.size hg.axis') (hw : w + s.size hg.axis' ≤ n) (hu : u ≤ w * N)
    (hin : ∀ x, (offs.view.read (Elt F) fo x).toNat < s₀.size hg.axis)
    (hD : ∀ j : Fin (s.size hg.axis'), rowGot c src dst hg offs hn ho q qo fs fd fo hin j ⊢ D ⟨w + j.val, by have := j.isLt; omega⟩) :
    iprop((src.view.loc c ↦[src.view.set]{q} fs) ∗ (dst.view.loc c ↦[dst.view.set]{fullShare} fd)
        ∗ (offs.view.loc c ↦[offs.view.set]{qo} fo) ∗ Batch EC c (.dma sem) ι N D w u)
      ⊢ iprop((Batch EC c (.dma sem) ι N D (w + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let v : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl (fun j _ => hN j), Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_take hw (fun t => count EC (γ t) 0))) $$ HI
  icases HI' with ⟨Ht, HI⟩
  ihave Hd' := (Entails.of_eq (pointsTo_rows c dst.view hg.axis' fullShare fd)) $$ Hd
  ihave Ho' := (Entails.of_eq (pointsTo_entries c offs.view (listEntry hn) (listEntry_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Ht]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ (offs.view.loc c ↦[{offs.view.emb (listEntry hn j)}]{qo} fo))
          ∗ (src.view.loc c ↦[src.view.set]{pieceOf q _ ho j} fs)) ∗ count EC (γ ⟨w + j.val, by have := j.isLt; omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd (v j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from hN j]
        iapply (batch_creditUpdate EC (D := D) ⟨w + j.val, by have := j.isLt; omega⟩ (hD j))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Ht]; · isplitl [H2] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (w + s.size hg.axis') * N - u = (w * N - u) + s.size hg.axis' * N by rw [Nat.add_mul]; omega, ← tallyAt_add]
  icombine Hcred Hcred' as H
  iexact H

end Cert.Render
-- ==== Proof.Steps.lean ====
/-
  The tile kernel's body in four kinds of steps: sixteen gathers of 128 table rows each, the sixteen waits for them, the
  four copies of a chunk's reduced block to the output, and the four waits for those. `trip_eq` says that one trip of the
  printed main loop is these steps in order, `kernel_eq` the same of the whole kernel.
-/
module

public import proofs.«01_k».proof.Proof.Gen.KernelIdeal.Skeleton

@[expose] public section

noncomputable section

namespace Cert.Render

open Idealize.ShloMosaic Idealize.SL.Sem
open Cert.KernelIdeal Cert.KernelIdeal.Gen

variable {F : FTy → Type} [FloatOps F]

/-- Steps `f k, …, f (k + n - 1)` in order. -/
def steps {E : Type → Type} (f : ℕ → Prog E PUnit) : ℕ → ℕ → Prog E PUnit
  | _, 0 => .ret ⟨⟩
  | k, n + 1 => f k >>= fun _ => steps f (k + 1) n

variable (i : grid1.Coords)
  (tab : Memref sig .scVector .hbm S102400x16 .f32) (idx : Memref sig .scVector .vmem S4x8x128 .i32)
  (rows : Memref sig .scVector .vmem S2048x16 .f32) (outv : Memref sig .scVector .vmem S4096 .f32)
  (out : Memref sig .scVector .hbm S1024x2x4x1024 .f32) (sem : DmaSem sig)

theorem rowWin_inb (w : ℕ) : ∀ a, (![128 * (w % 16), 0] : Fin 2 → Nat) a + S128x16.size a ≤ S2048x16.size a := by
  have : w % 16 < 16 := Nat.mod_lt _ (by decide)
  intro a; fin_cases a
  · change 128 * (w % 16) + 128 ≤ 2048; omega
  · exact Nat.le_refl _

theorem idxWin_inb (h w : ℕ) : ∀ a, (![2 * (h % 2) + w % 16 / 8, w % 8, 0] : Fin 3 → Nat) a + S1x1x128.size a ≤ S4x8x128.size a := by
  intro a; fin_cases a
  · change 2 * (h % 2) + w % 16 / 8 + 1 ≤ 4; omega
  · change w % 8 + 1 ≤ 8; omega
  · exact Nat.le_refl _

/-- The table as the gathers slice it. -/
abbrev tabWin : Memref sig .scVector .hbm S102400x16 .f32 :=
  tab.slice (Rect.unit (s := S102400x16) ![0, 0] S102400x16.size inb_S102400x16_S102400x16_0_0) (fun _ => rfl)
/-- Rows `128 w, …` of the row buffer. -/
abbrev rowWin (w : ℕ) : Memref sig .scVector .vmem S128x16 .f32 :=
  rows.slice (Rect.unit (s := S2048x16) ![128 * (w % 16), 0] S128x16.size (rowWin_inb w)) (fun _ => rfl)
/-- The 128 indices which gather `w` of half `h` of the index buffer reads. -/
abbrev idxWin (h w : ℕ) : Memref sig .scVector .vmem S128 .i32 :=
  (idx.slice (Rect.unit (s := S4x8x128) ![2 * (h % 2) + w % 16 / 8, w % 8, 0] S1x1x128.size (idxWin_inb h w)) (fun _ => rfl)).squeeze S128
    squeezes_S1x1x128_S128

/-- Gather `w` of a chunk. -/
def gatherStep (h w : ℕ) : Prog (TpuEff nD τ sig (Elt F) Λ₀ (.scVector ((i 0).castLE hcore1) ((i 1).castLE hsub1))) PUnit :=
  SparseCore.enqueueIndirectGather rfl (tabWin tab) (rowWin rows w) gathers_S102400x16_S128x16 (idxWin idx h w) rfl sem
    (View.wordExact_bits rfl) rfl (Or.inl rfl)

/-- The wait for gather `w` of a chunk. -/
def drainStep (w : ℕ) : Prog (TpuEff nD τ sig (Elt F) Λ₀ (.scVector ((i 0).castLE hcore1) ((i 1).castLE hsub1))) PUnit :=
  SparseCore.waitIndirectGather sem (tabWin tab) (rowWin rows w) (View.wordExact_bits rfl) (View.wordExact_bits rfl)

theorem outvWin_inb (q : ℕ) : ∀ a, (![1024 * (q % 4)] : Fin 1 → Nat) a + S1024.size a ≤ S4096.size a := by
  intro a; fin_cases a; change 1024 * (q % 4) + 1024 ≤ 4096; omega

/-- Quarter `q` of a slot's reduced block. -/
abbrev outvWin (q : ℕ) : Memref sig .scVector .vmem S1024 .f32 :=
  outv.slice (Rect.unit (s := S4096) ![1024 * (q % 4)] S1024.size (outvWin_inb q)) (fun _ => rfl)
/-- The 1024 output words at an offset. -/
abbrev outWin (off : Fin 4 → ℕ) (h : ∀ a, off a + S1x1x1x1024.size a ≤ S1024x2x4x1024.size a) : Memref sig .scVector .hbm S1024 .f32 :=
  (out.slice (Rect.unit (s := S1024x2x4x1024) off S1x1x1x1024.size h) (fun _ => rfl)).squeeze S1024 squeezes_S1x1x1x1024_S1024

/-- The copy of quarter `q` to the output. -/
def outStep (q : ℕ) (off : Fin 4 → ℕ) (h : ∀ a, off a + S1x1x1x1024.size a ≤ S1024x2x4x1024.size a) :
    Prog (TpuEff nD τ sig (Elt F) Λ₀ (.scVector ((i 0).castLE hcore1) ((i 1).castLE hsub1))) PUnit :=
  Prog.lift (.enqueueDma (outvWin outv q) (.here (outWin out off h)) (.dma sem) (View.wordExact_bits rfl) ((View.wordExact_bits rfl).reshape _ _)
    ⟨Or.inl rfl, trivial⟩)

/-- The wait for the copy of quarter `q`. -/
def outWaitStep (q : ℕ) (off : Fin 4 → ℕ) (h : ∀ a, off a + S1x1x1x1024.size a ≤ S1024x2x4x1024.size a) :
    Prog (TpuEff nD τ sig (Elt F) Λ₀ (.scVector ((i 0).castLE hcore1) ((i 1).castLE hsub1))) PUnit :=
  Prog.lift (.waitDma2 sem (outvWin outv q) (outWin out off h) (View.wordExact_bits rfl) ((View.wordExact_bits rfl).reshape _ _))

variable (A B : Fin 2 → Fin 4 → ℕ) (hA : ∀ r, ∀ a, A r a + S1x1x1x1024.size a ≤ S1024x2x4x1024.size a)
  (hB : ∀ r, ∀ a, B r a + S1x1x1x1024.size a ≤ S1024x2x4x1024.size a)

/-- The four copies of a chunk: block `r`'s channels 0–7 go to `A r`, its channels 8–15 to `B r`. -/
def outAll : Prog (TpuEff nD τ sig (Elt F) Λ₀ (.scVector ((i 0).castLE hcore1) ((i 1).castLE hsub1))) PUnit :=
  outStep i outv out sem 0 (A 0) (hA 0) >>= fun _ => outStep i outv out sem 1 (B 0) (hB 0) >>= fun _ =>
  outStep i outv out sem 2 (A 1) (hA 1) >>= fun _ => outStep i outv out sem 3 (B 1) (hB 1)

/-- The four waits for them. -/
def outWaitAll : Prog (TpuEff nD τ sig (Elt F) Λ₀ (.scVector ((i 0).castLE hcore1) ((i 1).castLE hsub1))) PUnit :=
  outWaitStep i outv out sem 0 (A 0) (hA 0) >>= fun _ => outWaitStep i outv out sem 1 (B 0) (hB 0) >>= fun _ =>
  outWaitStep i outv out sem 2 (A 1) (hA 1) >>= fun _ => outWaitStep i outv out sem 3 (B 1) (hB 1)

/-- The copy of two chunks' indices into an index buffer. -/
def idxStep (ih : Memref sig .scVector .hbm S4096x8x128 .i32) (hidx : idx.IsWhole) (off : Fin 3 → ℕ) (h : ∀ a, off a + S4x8x128.size a ≤ S4096x8x128.size a) :
    Prog (TpuEff nD τ sig (Elt F) Λ₀ (.scVector ((i 0).castLE hcore1) ((i 1).castLE hsub1))) PUnit :=
  Prog.lift (.enqueueDma (ih.slice (Rect.unit (s := S4096x8x128) off S4x8x128.size h) (fun _ => rfl)) (.here idx) (.dma sem) (View.wordExact_bits rfl) hidx.wordExact
    ⟨Or.inl rfl, trivial⟩)

/-- The wait for that copy. -/
def idxWaitStep (ih : Memref sig .scVector .hbm S4096x8x128 .i32) (hidx : idx.IsWhole) (off : Fin 3 → ℕ) (h : ∀ a, off a + S4x8x128.size a ≤ S4096x8x128.size a) :
    Prog (TpuEff nD τ sig (Elt F) Λ₀ (.scVector ((i 0).castLE hcore1) ((i 1).castLE hsub1))) PUnit :=
  Prog.lift (.waitDma2 sem (ih.slice (Rect.unit (s := S4096x8x128) off S4x8x128.size h) (fun _ => rfl)) idx (View.wordExact_bits rfl) hidx.wordExact)

variable (arg2 : Memref sig .scVector .hbm S4096x8x128 .i32) (harg2 : arg2.IsWhole) (arg3 : Memref sig .scVector .hbm S102400x16 .f32) (harg3 : arg3.IsWhole)
  (arg4 : Memref sig .scVector .hbm S1024x2x4x1024 .f32) (harg4 : arg4.IsWhole) (arg5 : Memref sig .scVector .vmem S4x8x128 .i32) (harg5 : arg5.IsWhole)
  (arg6 : Memref sig .scVector .vmem S4x8x128 .i32) (harg6 : arg6.IsWhole) (arg7 : Memref sig .scVector .vmem S2048x16 .f32) (harg7 : arg7.IsWhole)
  (arg8 : Memref sig .scVector .vmem S2048x16 .f32) (harg8 : arg8.IsWhole) (arg9 : Memref sig .scVector .vmem S4096 .f32) (harg9 : arg9.IsWhole)
  (arg10 : Memref sig .scVector .vmem S4096 .f32) (harg10 : arg10.IsWhole) (arg11 arg12 arg13 arg14 arg15 arg16 : DmaSems sig S_)
  (v2 : BitVec 32) (v3 : IVec S16 32)

/-- The pure part of a trip: the chunk the trip begins at. -/
abbrev chunk0 (t : Fin k1_t1_loop.trips) : BitVec 32 := Scalar.muli (Scf.iv 0#32 1#32 t) 4#32

/-- The first half of a trip of the main loop, in steps. -/
def tripA (t : Fin k1_t1_loop.trips) : Prog (TpuEff nD τ sig (Elt F) Λ₀ (.scVector ((i 0).castLE hcore1) ((i 1).castLE hsub1))) PUnit :=
  steps (gatherStep i arg3 arg5 arg8 arg12.sem 1) 0 16 >>= fun _ =>
  steps (drainStep i arg3 arg7 arg11.sem) 0 16 >>= fun _ =>
  (if h : k1_cond1 t = 1#1 then
      outWaitAll i arg9 arg4 arg15.sem (fun r => k1_off2 i t (BitVec.ofNat 32 r.val)) (fun r => k1_off3 i t (BitVec.ofNat 32 r.val)) (fun r => k1_off2_inb i t h r) (fun r => k1_off3_inb i t h r)
    else pure ⟨⟩) >>= fun _ =>
  Scf.Loop.for k1_t2_loop k1_t2_ok ⟨⟩ (k1_t2_body i arg2 harg2 arg3 harg3 arg4 harg4 arg5 harg5 arg6 harg6 arg7 harg7 arg8 harg8 arg9 harg9 arg10 harg10 arg11 arg12 arg13 arg14 arg15 arg16 v2 v3 t (chunk0 t)) >>= fun _ =>
  Scf.Loop.for k1_t3_loop k1_t3_ok ⟨⟩ (k1_t3_body i arg2 harg2 arg3 harg3 arg4 harg4 arg5 harg5 arg6 harg6 arg7 harg7 arg8 harg8 arg9 harg9 arg10 harg10 arg11 arg12 arg13 arg14 arg15 arg16 v2 v3 t (chunk0 t)) >>= fun _ =>
  outAll i arg9 arg4 arg15.sem (fun r => k1_off6 i t (BitVec.ofNat 32 r.val)) (fun r => k1_off7 i t (BitVec.ofNat 32 r.val)) (fun r => k1_off6_inb i t r) (fun r => k1_off7_inb i t r) >>= fun _ =>
  idxWaitStep i arg6 arg14.sem arg2 harg6 (k1_off8 i t) (k1_off8_inb i t) >>= fun _ =>
  steps (gatherStep i arg3 arg6 arg7 arg11.sem 0) 0 16 >>= fun _ =>
  steps (drainStep i arg3 arg8 arg12.sem) 0 16 >>= fun _ =>
  (if h : k1_cond2 t = 1#1 then
      outWaitAll i arg10 arg4 arg16.sem (fun r => k1_off9 i t (BitVec.ofNat 32 r.val)) (fun r => k1_off10 i t (BitVec.ofNat 32 r.val)) (fun r => k1_off9_inb i t h r) (fun r => k1_off10_inb i t h r)
    else pure ⟨⟩) >>= fun _ =>
  Scf.Loop.for k1_t4_loop k1_t4_ok ⟨⟩ (k1_t4_body i arg2 harg2 arg3 harg3 arg4 harg4 arg5 harg5 arg6 harg6 arg7 harg7 arg8 harg8 arg9 harg9 arg10 harg10 arg11 arg12 arg13 arg14 arg15 arg16 v2 v3 t (chunk0 t) 1#32) >>= fun _ =>
  Scf.Loop.for k1_t5_loop k1_t5_ok ⟨⟩ (k1_t5_body i arg2 harg2 arg3 harg3 arg4 harg4 arg5 harg5 arg6 harg6 arg7 harg7 arg8 harg8 arg9 harg9 arg10 harg10 arg11 arg12 arg13 arg14 arg15 arg16 v2 v3 t (chunk0 t) 1#32) >>= fun _ =>
  outAll i arg10 arg4 arg16.sem (fun r => k1_off13 i t 1#32 (BitVec.ofNat 32 r.val)) (fun r => k1_off14 i t 1#32 (BitVec.ofNat 32 r.val)) (fun r => k1_off13_inb i t 0 r) (fun r => k1_off14_inb i t 0 r) >>= fun _ =>
  (if h : k1_cond3 t = 1#1 then idxStep i arg5 arg13.sem arg2 harg5 (k1_off15 i t) (k1_off15_inb i t h) else pure ⟨⟩)

/-- The second half. -/
def tripB (t : Fin k1_t1_loop.trips) : Prog (TpuEff nD τ sig (Elt F) Λ₀ (.scVector ((i 0).castLE hcore1) ((i 1).castLE hsub1))) Unit :=
  steps (gatherStep i arg3 arg6 arg8 arg12.sem 1) 0 16 >>= fun _ =>
  steps (drainStep i arg3 arg7 arg11.sem) 0 16 >>= fun _ =>
  (if h : k1_cond4 t = 1#1 then
      outWaitAll i arg9 arg4 arg15.sem (fun r => k1_off16 i t (BitVec.ofNat 32 r.val)) (fun r => k1_off17 i t (BitVec.ofNat 32 r.val)) (fun r => k1_off16_inb i t h r) (fun r => k1_off17_inb i t h r)
    else pure ⟨⟩) >>= fun _ =>
  Scf.Loop.for k1_t6_loop k1_t6_ok ⟨⟩ (k1_t6_body i arg2 harg2 arg3 harg3 arg4 harg4 arg5 harg5 arg6 harg6 arg7 harg7 arg8 harg8 arg9 harg9 arg10 harg10 arg11 arg12 arg13 arg14 arg15 arg16 v2 v3 t (chunk0 t)) >>= fun _ =>
  Scf.Loop.for k1_t7_loop k1_t7_ok ⟨⟩ (k1_t7_body i arg2 harg2 arg3 harg3 arg4 harg4 arg5 harg5 arg6 harg6 arg7 harg7 arg8 harg8 arg9 harg9 arg10 harg10 arg11 arg12 arg13 arg14 arg15 arg16 v2 v3 t (chunk0 t)) >>= fun _ =>
  outAll i arg9 arg4 arg15.sem (fun r => k1_off13 i t 2#32 (BitVec.ofNat 32 r.val)) (fun r => k1_off14 i t 2#32 (BitVec.ofNat 32 r.val)) (fun r => k1_off13_inb i t 1 r) (fun r => k1_off14_inb i t 1 r) >>= fun _ =>
  (if h : k1_cond5 t = 1#1 then
      idxWaitStep i arg5 arg13.sem arg2 harg5 (k1_off20 i t) (k1_off20_inb i t h) >>= fun _ =>
      steps (gatherStep i arg3 arg5 arg7 arg11.sem 0) 0 16
    else pure ⟨⟩) >>= fun _ =>
  steps (drainStep i arg3 arg8 arg12.sem) 0 16 >>= fun _ =>
  (if h : k1_cond6 t = 1#1 then
      outWaitAll i arg10 arg4 arg16.sem (fun r => k1_off21 i t (BitVec.ofNat 32 r.val)) (fun r => k1_off22 i t (BitVec.ofNat 32 r.val)) (fun r => k1_off21_inb i t h r) (fun r => k1_off22_inb i t h r)
    else pure ⟨⟩) >>= fun _ =>
  Scf.Loop.for k1_t8_loop k1_t8_ok ⟨⟩ (k1_t8_body i arg2 harg2 arg3 harg3 arg4 harg4 arg5 harg5 arg6 harg6 arg7 harg7 arg8 harg8 arg9 harg9 arg10 harg10 arg11 arg12 arg13 arg14 arg15 arg16 v2 v3 t (chunk0 t)) >>= fun _ =>
  Scf.Loop.for k1_t9_loop k1_t9_ok ⟨⟩ (k1_t9_body i arg2 harg2 arg3 harg3 arg4 harg4 arg5 harg5 arg6 harg6 arg7 harg7 arg8 harg8 arg9 harg9 arg10 harg10 arg11 arg12 arg13 arg14 arg15 arg16 v2 (Scalar.addi (chunk0 t) 3#32) (k1_pay346 v3) k1_pay347) >>= fun _ =>
  outAll i arg10 arg4 arg16.sem (fun r => k1_off13 i t 3#32 (BitVec.ofNat 32 r.val)) (fun r => k1_off14 i t 3#32 (BitVec.ofNat 32 r.val)) (fun r => k1_off13_inb i t 2 r) (fun r => k1_off14_inb i t 2 r) >>= fun _ =>
  (if h : k1_cond7 t = 1#1 then idxStep i arg6 arg14.sem arg2 harg6 (k1_off25 i t) (k1_off25_inb i t h) else pure ⟨⟩)

/-- One trip of the main loop, in steps. -/
def trip (t : Fin k1_t1_loop.trips) : Prog (TpuEff nD τ sig (Elt F) Λ₀ (.scVector ((i 0).castLE hcore1) ((i 1).castLE hsub1))) Unit :=
  tripA i arg2 harg2 arg3 harg3 arg4 harg4 arg5 harg5 arg6 harg6 arg7 harg7 arg8 harg8 arg9 harg9 arg10 harg10 arg11 arg12 arg13 arg14 arg15 arg16 v2 v3 t >>= fun _ => tripB i arg2 harg2 arg3 harg3 arg4 harg4 arg5 harg5 arg6 harg6 arg7 harg7 arg8 harg8 arg9 harg9 arg10 harg10 arg11 arg12 arg13 arg14 arg15 arg16 v2 v3 t

/-- The first half of a trip as it is printed. -/
def printedA (k1_t1 : Fin k1_t1_loop.trips) : Prog (TpuEff nD τ sig (Elt F) Λ₀ (.scVector ((i 0).castLE hcore1) ((i 1).castLE hsub1))) (Σ' (_ : BitVec 32), BitVec 32) := do
  let ⟨arg17, v242⟩ : Σ' (arg17 : BitVec 32), BitVec 32 ← k1_part44 i arg2 harg2 arg3 harg3 arg4 harg4 arg5 harg5 arg6 harg6 arg7 harg7 arg8 harg8 arg9 harg9 arg10 harg10 arg11 arg12 arg13 arg14 arg15 arg16 0#32 1#32 k1_t1
  k1_part45 i arg2 harg2 arg3 harg3 arg4 harg4 arg5 harg5 arg6 harg6 arg7 harg7 arg8 harg8 arg9 harg9 arg10 harg10 arg11 arg12 arg13 arg14 arg15 arg16
  k1_part46 i arg2 harg2 arg3 harg3 arg4 harg4 arg5 harg5 arg6 harg6 arg7 harg7 arg8 harg8 arg9 harg9 arg10 harg10 arg11 arg12 arg13 arg14 arg15 arg16
  k1_part47 i arg2 harg2 arg3 harg3 arg4 harg4 arg5 harg5 arg6 harg6 arg7 harg7 arg8 harg8 arg9 harg9 arg10 harg10 arg11 arg12 arg13 arg14 arg15 arg16
  k1_part48 i arg2 harg2 arg3 harg3 arg4 harg4 arg5 harg5 arg6 harg6 arg7 harg7 arg8 harg8 arg9 harg9 arg10 harg10 arg11 arg12 arg13 arg14 arg15 arg16
  k1_part49 i arg2 harg2 arg3 harg3 arg4 harg4 arg5 harg5 arg6 harg6 arg7 harg7 arg8 harg8 arg9 harg9 arg10 harg10 arg11 arg12 arg13 arg14 arg15 arg16
  let c2_i32_446 : BitVec 32 ← k1_part50 i arg2 harg2 arg3 harg3 arg4 harg4 arg5 harg5 arg6 harg6 arg7 harg7 arg8 harg8 arg9 harg9 arg10 harg10 arg11 arg12 arg13 arg14 arg15 arg16 v2 v3 k1_t1 v242
  let ⟨v417, c4_i32_463, v418, v423, v424⟩ : Σ' (v417 : BitVec 32) (c4_i32_463 : BitVec 32) (v418 : BitVec 32) (v423 : BitVec 32), BitVec 1 ← k1_part51 i arg2 harg2 arg3 harg3 arg4 harg4 arg5 harg5 arg6 harg6 arg7 harg7 arg8 harg8 arg9 harg9 arg10 harg10 arg11 arg12 arg13 arg14 arg15 arg16 v2 v242 c2_i32_446
  k1_part52 i arg2 harg2 arg3 harg3 arg4 harg4 arg5 harg5 arg6 harg6 arg7 harg7 arg8 harg8 arg9 harg9 arg10 harg10 arg11 arg12 arg13 arg14 arg15 arg16 k1_t1 v417 c4_i32_463 v418 v423 v424
  k1_part53 i arg2 harg2 arg3 harg3 arg4 harg4 arg5 harg5 arg6 harg6 arg7 harg7 arg8 harg8 arg9 harg9 arg10 harg10 arg11 arg12 arg13 arg14 arg15 arg16 v2 k1_t1 arg17 v242
  k1_part54 i arg2 harg2 arg3 harg3 arg4 harg4 arg5 harg5 arg6 harg6 arg7 harg7 arg8 harg8 arg9 harg9 arg10 harg10 arg11 arg12 arg13 arg14 arg15 arg16
  k1_part55 i arg2 harg2 arg3 harg3 arg4 harg4 arg5 harg5 arg6 harg6 arg7 harg7 arg8 harg8 arg9 harg9 arg10 harg10 arg11 arg12 arg13 arg14 arg15 arg16
  k1_part56 i arg2 harg2 arg3 harg3 arg4 harg4 arg5 harg5 arg6 harg6 arg7 harg7 arg8 harg8 arg9 harg9 arg10 harg10 arg11 arg12 arg13 arg14 arg15 arg16
  k1_part57 i arg2 harg2 arg3 harg3 arg4 harg4 arg5 harg5 arg6 harg6 arg7 harg7 arg8 harg8 arg9 harg9 arg10 harg10 arg11 arg12 arg13 arg14 arg15 arg16
  k1_part58 i arg2 harg2 arg3 harg3 arg4 harg4 arg5 harg5 arg6 harg6 arg7 harg7 arg8 harg8 arg9 harg9 arg10 harg10 arg11 arg12 arg13 arg14 arg15 arg16
  let c1_i32_729 : BitVec 32 ← k1_part59 i arg2 harg2 arg3 harg3 arg4 harg4 arg5 harg5 arg6 harg6 arg7 harg7 arg8 harg8 arg9 harg9 arg10 harg10 arg11 arg12 arg13 arg14 arg15 arg16
  let ⟨v605, v621⟩ : Σ' (v605 : BitVec 32), BitVec 32 ← k1_part60 i arg2 harg2 arg3 harg3 arg4 harg4 arg5 harg5 arg6 harg6 arg7 harg7 arg8 harg8 arg9 harg9 arg10 harg10 arg11 arg12 arg13 arg14 arg15 arg16 v2 v3 k1_t1 v242 c1_i32_729
  let ⟨v671, v676, v677⟩ : Σ' (v671 : BitVec 32) (v676 : BitVec 1), BitVec 32 ← k1_part61 i arg2 harg2 arg3 harg3 arg4 harg4 arg5 harg5 arg6 harg6 arg7 harg7 arg8 harg8 arg9 harg9 arg10 harg10 arg11 arg12 arg13 arg14 arg15 arg16 v2 v605 v621
  let _c3 : BitVec 32 ← k1_part62 i arg2 harg2 arg3 harg3 arg4 harg4 arg5 harg5 arg6 harg6 arg7 harg7 arg8 harg8 arg9 harg9 arg10 harg10 arg11 arg12 arg13 arg14 arg15 arg16 v2 k1_t1 arg17 v671 v676 v677
  pure ⟨arg17, v242⟩

/-- The second half of a trip as it is printed. -/
def printedB (k1_t1 : Fin k1_t1_loop.trips) (arg17 v242 : BitVec 32) : Prog (TpuEff nD τ sig (Elt F) Λ₀ (.scVector ((i 0).castLE hcore1) ((i 1).castLE hsub1))) Unit := do
  k1_part63 i arg2 harg2 arg3 harg3 arg4 harg4 arg5 harg5 arg6 harg6 arg7 harg7 arg8 harg8 arg9 harg9 arg10 harg10 arg11 arg12 arg13 arg14 arg15 arg16 v242 3#32
  k1_part64 i arg2 harg2 arg3 harg3 arg4 harg4 arg5 harg5 arg6 harg6 arg7 harg7 arg8 harg8 arg9 harg9 arg10 harg10 arg11 arg12 arg13 arg14 arg15 arg16
  k1_part65 i arg2 harg2 arg3 harg3 arg4 harg4 arg5 harg5 arg6 harg6 arg7 harg7 arg8 harg8 arg9 harg9 arg10 harg10 arg11 arg12 arg13 arg14 arg15 arg16
  k1_part66 i arg2 harg2 arg3 harg3 arg4 harg4 arg5 harg5 arg6 harg6 arg7 harg7 arg8 harg8 arg9 harg9 arg10 harg10 arg11 arg12 arg13 arg14 arg15 arg16
  k1_part67 i arg2 harg2 arg3 harg3 arg4 harg4 arg5 harg5 arg6 harg6 arg7 harg7 arg8 harg8 arg9 harg9 arg10 harg10 arg11 arg12 arg13 arg14 arg15 arg16
  k1_part68 i arg2 harg2 arg3 harg3 arg4 harg4 arg5 harg5 arg6 harg6 arg7 harg7 arg8 harg8 arg9 harg9 arg10 harg10 arg11 arg12 arg13 arg14 arg15 arg16
  let ⟨v837, v852⟩ : Σ' (v837 : BitVec 32), BitVec 32 ← k1_part69 i arg2 harg2 arg3 harg3 arg4 harg4 arg5 harg5 arg6 harg6 arg7 harg7 arg8 harg8 arg9 harg9 arg10 harg10 arg11 arg12 arg13 arg14 arg15 arg16 v2 v3 k1_t1 v242
  let ⟨v883, c4_i32_1055, v884, v889, v891, c0_i32_1059⟩ : Σ' (v883 : BitVec 32) (c4_i32_1055 : BitVec 32) (v884 : BitVec 32) (v889 : BitVec 32) (v891 : BitVec 32), BitVec 32 ← k1_part70 i arg2 harg2 arg3 harg3 arg4 harg4 arg5 harg5 arg6 harg6 arg7 harg7 arg8 harg8 arg9 harg9 arg10 harg10 arg11 arg12 arg13 arg14 arg15 arg16 v2 v837 v852
  k1_part71 i arg2 harg2 arg3 harg3 arg4 harg4 arg5 harg5 arg6 harg6 arg7 harg7 arg8 harg8 arg9 harg9 arg10 harg10 arg11 arg12 arg13 arg14 arg15 arg16 k1_t1 v883 c4_i32_1055 v884 v889 v891 c0_i32_1059
  k1_part72 i arg2 harg2 arg3 harg3 arg4 harg4 arg5 harg5 arg6 harg6 arg7 harg7 arg8 harg8 arg9 harg9 arg10 harg10 arg11 arg12 arg13 arg14 arg15 arg16 v2 k1_t1 arg17 v242
  k1_part73 i arg2 harg2 arg3 harg3 arg4 harg4 arg5 harg5 arg6 harg6 arg7 harg7 arg8 harg8 arg9 harg9 arg10 harg10 arg11 arg12 arg13 arg14 arg15 arg16
  k1_part74 i arg2 harg2 arg3 harg3 arg4 harg4 arg5 harg5 arg6 harg6 arg7 harg7 arg8 harg8 arg9 harg9 arg10 harg10 arg11 arg12 arg13 arg14 arg15 arg16
  let ⟨v1003, v1013, v1014⟩ : Σ' (v1003 : BitVec 32) (v1013 : IVec S16 32), IVec S16 32 ← k1_part75 i arg2 harg2 arg3 harg3 arg4 harg4 arg5 harg5 arg6 harg6 arg7 harg7 arg8 harg8 arg9 harg9 arg10 harg10 arg11 arg12 arg13 arg14 arg15 arg16 v2 v3 k1_t1 v242
  let ⟨v1049, c4_i32_1234, v1050, c0_i32_1235⟩ : Σ' (v1049 : BitVec 32) (c4_i32_1234 : BitVec 32) (v1050 : BitVec 32), BitVec 32 ← k1_part76 i arg2 harg2 arg3 harg3 arg4 harg4 arg5 harg5 arg6 harg6 arg7 harg7 arg8 harg8 arg9 harg9 arg10 harg10 arg11 arg12 arg13 arg14 arg15 arg16 v2 v1003 v1013 v1014
  k1_part77 i arg2 harg2 arg3 harg3 arg4 harg4 arg5 harg5 arg6 harg6 arg7 harg7 arg8 harg8 arg9 harg9 arg10 harg10 arg11 arg12 arg13 arg14 arg15 arg16 k1_t1 v1049 c4_i32_1234 v1050 c0_i32_1235
  let v1086 : Memref sig .scVector .hbm S1x1x1x1024 .f32 := arg4.slice (Rect.unit (s := S1024x2x4x1024) (k1_off14 i k1_t1 3#32 0#32) S1x1x1x1024.size (k1_off14_inb i k1_t1 2 0)) (fun _ => rfl)
  let v1087 : Memref sig .scVector .hbm S1024 .f32 := v1086.squeeze S1024 squeezes_S1x1x1x1024_S1024
  let v1088 : Memref sig .scVector .vmem S1024 .f32 := arg10.slice (Rect.unit (s := S4096) ![1024] S1024.size inb_S4096_S1024_1024) (fun _ => rfl)
  Prog.lift (.enqueueDma v1088 (.here v1087) (.dma arg16.sem) (View.wordExact_bits rfl) ((View.wordExact_bits rfl).reshape _ _) ⟨Or.inl rfl, trivial⟩)
  let v1092 : Memref sig .scVector .hbm S1x1x1x1024 .f32 := arg4.slice (Rect.unit (s := S1024x2x4x1024) (k1_off13 i k1_t1 3#32 1#32) S1x1x1x1024.size (k1_off13_inb i k1_t1 2 1)) (fun _ => rfl)
  let v1093 : Memref sig .scVector .hbm S1024 .f32 := v1092.squeeze S1024 squeezes_S1x1x1x1024_S1024
  let v1094 : Memref sig .scVector .vmem S1024 .f32 := arg10.slice (Rect.unit (s := S4096) ![2048] S1024.size inb_S4096_S1024_2048) (fun _ => rfl)
  Prog.lift (.enqueueDma v1094 (.here v1093) (.dma arg16.sem) (View.wordExact_bits rfl) ((View.wordExact_bits rfl).reshape _ _) ⟨Or.inl rfl, trivial⟩)
  let v1098 : Memref sig .scVector .hbm S1x1x1x1024 .f32 := arg4.slice (Rect.unit (s := S1024x2x4x1024) (k1_off14 i k1_t1 3#32 1#32) S1x1x1x1024.size (k1_off14_inb i k1_t1 2 1)) (fun _ => rfl)
  let v1099 : Memref sig .scVector .hbm S1024 .f32 := v1098.squeeze S1024 squeezes_S1x1x1x1024_S1024
  let v1100 : Memref sig .scVector .vmem S1024 .f32 := arg10.slice (Rect.unit (s := S4096) ![3072] S1024.size inb_S4096_S1024_3072) (fun _ => rfl)
  Prog.lift (.enqueueDma v1100 (.here v1099) (.dma arg16.sem) (View.wordExact_bits rfl) ((View.wordExact_bits rfl).reshape _ _) ⟨Or.inl rfl, trivial⟩)
  if k1_h7 : k1_cond7 k1_t1 = 1#1 then do
    let v1112 : Memref sig .scVector .hbm S4x8x128 .i32 := arg2.slice (Rect.unit (s := S4096x8x128) (k1_off25 i k1_t1) S4x8x128.size (k1_off25_inb i k1_t1 k1_h7)) (fun _ => rfl)
    Prog.lift (.enqueueDma v1112 (.here arg6) (.dma arg14.sem) (View.wordExact_bits rfl) harg6.wordExact ⟨Or.inl rfl, trivial⟩)
    pure ⟨⟩
  else do
    pure ⟨⟩
  pure ⟨⟩

/-- The guards: the first drains of both slots are the ones after trip 0, the refills the ones before trip 15. -/
theorem cond2_eq : ∀ t, k1_cond2 t = k1_cond1 t := by decide
theorem cond4_eq : ∀ t, k1_cond4 t = 1#1 := by decide
theorem cond5_eq : ∀ t, k1_cond5 t = k1_cond3 t := by decide
theorem cond6_eq : ∀ t, k1_cond6 t = 1#1 := by decide
theorem cond7_eq : ∀ t, k1_cond7 t = k1_cond3 t := by decide

/-- Every trip drains or refills. -/
theorem cond13 : ∀ t, k1_cond1 t = 1#1 ∨ k1_cond3 t = 1#1 := by decide

theorem bind_congr' {E : Type → Type} {α β : Type} {x y : Prog E α} {f g : α → Prog E β} (h : x = y) (k : ∀ a, f a = g a) :
    (x >>= f) = (y >>= g) := by rw [h, funext k]

theorem steps_cons {E : Type → Type} {α : Type} (f : ℕ → Prog E PUnit) (k n : ℕ) (p : PUnit → Prog E α) :
    (steps f k (n + 1) >>= p) = (f k >>= fun _ => steps f (k + 1) n >>= p) := by
  simp only [steps, bind_assoc]

theorem steps_nil {E : Type → Type} {α : Type} (f : ℕ → Prog E PUnit) (k : ℕ) (p : PUnit → Prog E α) :
    (steps f k 0 >>= p) = p ⟨⟩ := rfl

theorem steps_append {E : Type → Type} {α : Type} (f : ℕ → Prog E PUnit) (k n n' : ℕ) (p : PUnit → Prog E α) :
    (steps f k (n + n') >>= p) = (steps f k n >>= fun _ => steps f (k + n) n' >>= p) := by
  induction n generalizing k with
  | zero => rw [Nat.zero_add]; rfl
  | succ n ih =>
    rw [Nat.succ_add]
    change ((f k >>= fun _ => steps f (k + 1) (n + n')) >>= p) = ((f k >>= fun _ => steps f (k + 1) n) >>= _)
    rw [bind_assoc, bind_assoc]
    simp only [ih, Nat.add_assoc, Nat.add_comm 1]

set_option maxRecDepth 65536 in
set_option maxHeartbeats 4000000 in
theorem printedA_eq (t : Fin k1_t1_loop.trips) :
    printedA (F := F) i arg2 harg2 arg3 harg3 arg4 harg4 arg5 harg5 arg6 harg6 arg7 harg7 arg8 harg8 arg9 harg9 arg10 harg10 arg11 arg12 arg13 arg14 arg15 arg16 v2 v3 t = (tripA i arg2 harg2 arg3 harg3 arg4 harg4 arg5 harg5 arg6 harg6 arg7 harg7 arg8 harg8 arg9 harg9 arg10 harg10 arg11 arg12 arg13 arg14 arg15 arg16 v2 v3 t >>= fun _ => pure ⟨Scf.iv 0#32 1#32 t, chunk0 t⟩) := by
  by_cases h1 : k1_cond1 t = 1#1 <;> by_cases h3 : k1_cond3 t = 1#1
  · have h2 : k1_cond2 t = 1#1 := by rw [cond2_eq]; exact h1
    simp only [printedA, tripA, outAll, outWaitAll, ↓dif_pos h1, ↓dif_pos h2, ↓dif_pos h3, bind_assoc, pure_bind, k1_part1_eq_skeleton, k1_part1_skel, k1_part2_eq_skeleton, k1_part2_skel, k1_part11_eq_skeleton, k1_part11_skel, k1_part12_eq_skeleton, k1_part12_skel, k1_part44_eq_skeleton, k1_part44_skel, k1_part45_eq_skeleton, k1_part45_skel, k1_part46_eq_skeleton, k1_part46_skel, k1_part47_eq_skeleton, k1_part47_skel, k1_part48_eq_skeleton, k1_part48_skel, k1_part49_eq_skeleton, k1_part49_skel, k1_part50_eq_skeleton, k1_part50_skel, k1_part51_eq_skeleton, k1_part51_skel, k1_part52_eq_skeleton, k1_part52_skel, k1_part53_eq_skeleton, k1_part53_skel, k1_part54_eq_skeleton, k1_part54_skel, k1_part55_eq_skeleton, k1_part55_skel, k1_part56_eq_skeleton, k1_part56_skel, k1_part57_eq_skeleton, k1_part57_skel, k1_part58_eq_skeleton, k1_part58_skel, k1_part59_eq_skeleton, k1_part59_skel, k1_part60_eq_skeleton, k1_part60_skel, k1_part61_eq_skeleton, k1_part61_skel, k1_part62_eq_skeleton, k1_part62_skel]
    rfl
  · have h2 : k1_cond2 t = 1#1 := by rw [cond2_eq]; exact h1
    simp only [printedA, tripA, outAll, outWaitAll, ↓dif_pos h1, ↓dif_pos h2, ↓dif_neg h3, bind_assoc, pure_bind, k1_part1_eq_skeleton, k1_part1_skel, k1_part2_eq_skeleton, k1_part2_skel, k1_part11_eq_skeleton, k1_part11_skel, k1_part12_eq_skeleton, k1_part12_skel, k1_part44_eq_skeleton, k1_part44_skel, k1_part45_eq_skeleton, k1_part45_skel, k1_part46_eq_skeleton, k1_part46_skel, k1_part47_eq_skeleton, k1_part47_skel, k1_part48_eq_skeleton, k1_part48_skel, k1_part49_eq_skeleton, k1_part49_skel, k1_part50_eq_skeleton, k1_part50_skel, k1_part51_eq_skeleton, k1_part51_skel, k1_part52_eq_skeleton, k1_part52_skel, k1_part53_eq_skeleton, k1_part53_skel, k1_part54_eq_skeleton, k1_part54_skel, k1_part55_eq_skeleton, k1_part55_skel, k1_part56_eq_skeleton, k1_part56_skel, k1_part57_eq_skeleton, k1_part57_skel, k1_part58_eq_skeleton, k1_part58_skel, k1_part59_eq_skeleton, k1_part59_skel, k1_part60_eq_skeleton, k1_part60_skel, k1_part61_eq_skeleton, k1_part61_skel, k1_part62_eq_skeleton, k1_part62_skel]
    rfl
  · have h2 : ¬ k1_cond2 t = 1#1 := by rw [cond2_eq]; exact h1
    simp only [printedA, tripA, outAll, outWaitAll, ↓dif_neg h1, ↓dif_neg h2, ↓dif_pos h3, bind_assoc, pure_bind, k1_part1_eq_skeleton, k1_part1_skel, k1_part2_eq_skeleton, k1_part2_skel, k1_part11_eq_skeleton, k1_part11_skel, k1_part12_eq_skeleton, k1_part12_skel, k1_part44_eq_skeleton, k1_part44_skel, k1_part45_eq_skeleton, k1_part45_skel, k1_part46_eq_skeleton, k1_part46_skel, k1_part47_eq_skeleton, k1_part47_skel, k1_part48_eq_skeleton, k1_part48_skel, k1_part49_eq_skeleton, k1_part49_skel, k1_part50_eq_skeleton, k1_part50_skel, k1_part51_eq_skeleton, k1_part51_skel, k1_part52_eq_skeleton, k1_part52_skel, k1_part53_eq_skeleton, k1_part53_skel, k1_part54_eq_skeleton, k1_part54_skel, k1_part55_eq_skeleton, k1_part55_skel, k1_part56_eq_skeleton, k1_part56_skel, k1_part57_eq_skeleton, k1_part57_skel, k1_part58_eq_skeleton, k1_part58_skel, k1_part59_eq_skeleton, k1_part59_skel, k1_part60_eq_skeleton, k1_part60_skel, k1_part61_eq_skeleton, k1_part61_skel, k1_part62_eq_skeleton, k1_part62_skel]
    rfl
  · exact absurd (cond13 t) (by simp [h1, h3])

set_option maxRecDepth 65536 in
set_option maxHeartbeats 4000000 in
theorem printedB_eq (t : Fin k1_t1_loop.trips) :
    printedB (F := F) i arg2 harg2 arg3 harg3 arg4 harg4 arg5 harg5 arg6 harg6 arg7 harg7 arg8 harg8 arg9 harg9 arg10 harg10 arg11 arg12 arg13 arg14 arg15 arg16 v2 v3 t (Scf.iv 0#32 1#32 t) (chunk0 t) = tripB i arg2 harg2 arg3 harg3 arg4 harg4 arg5 harg5 arg6 harg6 arg7 harg7 arg8 harg8 arg9 harg9 arg10 harg10 arg11 arg12 arg13 arg14 arg15 arg16 v2 v3 t := by
  have h4 := cond4_eq t
  have h6 := cond6_eq t
  by_cases h3 : k1_cond3 t = 1#1
  · have h5 : k1_cond5 t = 1#1 := by rw [cond5_eq]; exact h3
    have h7 : k1_cond7 t = 1#1 := by rw [cond7_eq]; exact h3
    simp only [printedB, tripB, outAll, outWaitAll, ↓dif_pos h4, ↓dif_pos h5, ↓dif_pos h6, ↓dif_pos h7, bind_assoc, pure_bind, k1_part21_eq_skeleton, k1_part21_skel, k1_part22_eq_skeleton, k1_part22_skel, k1_part31_eq_skeleton, k1_part31_skel, k1_part32_eq_skeleton, k1_part32_skel, k1_part33_eq_skeleton, k1_part33_skel, k1_part34_eq_skeleton, k1_part34_skel, k1_part35_eq_skeleton, k1_part35_skel, k1_part63_eq_skeleton, k1_part63_skel, k1_part64_eq_skeleton, k1_part64_skel, k1_part65_eq_skeleton, k1_part65_skel, k1_part66_eq_skeleton, k1_part66_skel, k1_part67_eq_skeleton, k1_part67_skel, k1_part68_eq_skeleton, k1_part68_skel, k1_part69_eq_skeleton, k1_part69_skel, k1_part70_eq_skeleton, k1_part70_skel, k1_part71_eq_skeleton, k1_part71_skel, k1_part72_eq_skeleton, k1_part72_skel, k1_part73_eq_skeleton, k1_part73_skel, k1_part74_eq_skeleton, k1_part74_skel, k1_part75_eq_skeleton, k1_part75_skel, k1_part76_eq_skeleton, k1_part76_skel, k1_part77_eq_skeleton, k1_part77_skel]
    rfl
  · have h5 : ¬ k1_cond5 t = 1#1 := by rw [cond5_eq]; exact h3
    have h7 : ¬ k1_cond7 t = 1#1 := by rw [cond7_eq]; exact h3
    simp only [printedB, tripB, outAll, outWaitAll, ↓dif_pos h4, ↓dif_neg h5, ↓dif_pos h6, ↓dif_neg h7, bind_assoc, pure_bind, k1_part21_eq_skeleton, k1_part21_skel, k1_part22_eq_skeleton, k1_part22_skel, k1_part31_eq_skeleton, k1_part31_skel, k1_part32_eq_skeleton, k1_part32_skel, k1_part33_eq_skeleton, k1_part33_skel, k1_part34_eq_skeleton, k1_part34_skel, k1_part35_eq_skeleton, k1_part35_skel, k1_part63_eq_skeleton, k1_part63_skel, k1_part64_eq_skeleton, k1_part64_skel, k1_part65_eq_skeleton, k1_part65_skel, k1_part66_eq_skeleton, k1_part66_skel, k1_part67_eq_skeleton, k1_part67_skel, k1_part68_eq_skeleton, k1_part68_skel, k1_part69_eq_skeleton, k1_part69_skel, k1_part70_eq_skeleton, k1_part70_skel, k1_part71_eq_skeleton, k1_part71_skel, k1_part72_eq_skeleton, k1_part72_skel, k1_part73_eq_skeleton, k1_part73_skel, k1_part74_eq_skeleton, k1_part74_skel, k1_part75_eq_skeleton, k1_part75_skel, k1_part76_eq_skeleton, k1_part76_skel, k1_part77_eq_skeleton, k1_part77_skel]
    rfl

set_option maxRecDepth 65536 in
theorem printed_eq (t : Fin k1_t1_loop.trips) :
    k1_t1_body (F := F) i arg2 harg2 arg3 harg3 arg4 harg4 arg5 harg5 arg6 harg6 arg7 harg7 arg8 harg8 arg9 harg9 arg10 harg10 arg11 arg12 arg13 arg14 arg15 arg16 v2 v3 t ()
      = (printedA i arg2 harg2 arg3 harg3 arg4 harg4 arg5 harg5 arg6 harg6 arg7 harg7 arg8 harg8 arg9 harg9 arg10 harg10 arg11 arg12 arg13 arg14 arg15 arg16 v2 v3 t >>= fun p => printedB i arg2 harg2 arg3 harg3 arg4 harg4 arg5 harg5 arg6 harg6 arg7 harg7 arg8 harg8 arg9 harg9 arg10 harg10 arg11 arg12 arg13 arg14 arg15 arg16 v2 v3 t p.1 p.2) := by
  simp only [k1_t1_body, k1_part78_eq_skeleton, k1_part78_skel, printedA, printedB, bind_assoc, pure_bind]
  rfl

/-- A trip as printed is the steps. -/
theorem trip_eq (t : Fin k1_t1_loop.trips) :
    k1_t1_body (F := F) i arg2 harg2 arg3 harg3 arg4 harg4 arg5 harg5 arg6 harg6 arg7 harg7 arg8 harg8 arg9 harg9 arg10 harg10 arg11 arg12 arg13 arg14 arg15 arg16 v2 v3 t ()
      = trip i arg2 harg2 arg3 harg3 arg4 harg4 arg5 harg5 arg6 harg6 arg7 harg7 arg8 harg8 arg9 harg9 arg10 harg10 arg11 arg12 arg13 arg14 arg15 arg16 v2 v3 t := by
  rw [printed_eq, printedA_eq, bind_assoc]
  simp only [pure_bind, printedB_eq]
  rfl

/-- A tile's first block of pixels. -/
abbrev wid128 : BitVec 32 :=
  Scalar.muli (Scalar.addi (Scalar.muli (BitVec.ofNat 32 (i 1).val) 2#32) (BitVec.ofNat 32 (i 0).val)) 128#32
/-- The lane numbers 0–15. -/
abbrev lanes : IVec S16 32 := iota .scVector S16 32 [0] iota_S16_d0_w32_scVector

/-- The whole kernel, in steps. -/
def kern : Prog (TpuEff nD τ sig (Elt F) Λ₀ (.scVector ((i 0).castLE hcore1) ((i 1).castLE hsub1))) PUnit :=
  idxStep i arg5 arg13.sem arg2 harg5 (k1_off1 i 0#32) (k1_off1_inb i 0) >>= fun _ =>
  idxWaitStep i arg5 arg13.sem arg2 harg5 (k1_off1 i 0#32) (k1_off1_inb i 0) >>= fun _ =>
  idxStep i arg6 arg14.sem arg2 harg6 (k1_off1 i 4#32) (k1_off1_inb i 1) >>= fun _ =>
  steps (gatherStep i arg3 arg5 arg7 arg11.sem 0) 0 16 >>= fun _ =>
  Scf.Loop.for k1_t1_loop k1_t1_ok ⟨⟩ (k1_t1_body i arg2 harg2 arg3 harg3 arg4 harg4 arg5 harg5 arg6 harg6 arg7 harg7 arg8 harg8 arg9 harg9 arg10 harg10 arg11 arg12 arg13 arg14 arg15 arg16 (wid128 i) lanes) >>= fun _ =>
  outWaitAll i arg9 arg4 arg15.sem (fun r => k1_off26 i (BitVec.ofNat 32 r.val)) (fun r => k1_off27 i (BitVec.ofNat 32 r.val)) (fun r => k1_off26_inb i r) (fun r => k1_off27_inb i r) >>= fun _ =>
  outWaitAll i arg10 arg4 arg16.sem (fun r => k1_off26 i (BitVec.ofNat 32 r.val)) (fun r => k1_off27 i (BitVec.ofNat 32 r.val)) (fun r => k1_off26_inb i r) (fun r => k1_off27_inb i r)

set_option maxRecDepth 65536 in
set_option maxHeartbeats 4000000 in
/-- The kernel as printed is the steps. -/
theorem kern_eq : cc1_k (F := F) i arg2 harg2 arg3 harg3 arg4 harg4 arg5 harg5 arg6 harg6 arg7 harg7 arg8 harg8 arg9 harg9 arg10 harg10 arg11 arg12 arg13 arg14 arg15 arg16 = kern i arg2 harg2 arg3 harg3 arg4 harg4 arg5 harg5 arg6 harg6 arg7 harg7 arg8 harg8 arg9 harg9 arg10 harg10 arg11 arg12 arg13 arg14 arg15 arg16 := by
  simp only [cc1_k_eq_skeleton, cc1_k_skel, kern, outAll, outWaitAll, bind_assoc, pure_bind, k1_part79_eq_skeleton, k1_part79_skel, k1_part80_eq_skeleton, k1_part80_skel, k1_part81_eq_skeleton, k1_part81_skel, k1_part82_eq_skeleton, k1_part82_skel, k1_part83_eq_skeleton, k1_part83_skel, k1_part84_eq_skeleton, k1_part84_skel, k1_part85_eq_skeleton, k1_part85_skel, k1_part86_eq_skeleton, k1_part86_skel]
  rfl

end Cert.Render

end
-- ==== Proof.Common.lean ====
/-
  What the modules of the run share: the program as the launch theorem sees it, the resource algebra, a tile's thread,
  and facts about memrefs owned at their contents (`owns`).
-/
module

public import proofs.«01_k».proof.Defs
public import proofs.«01_k».proof.Proof.Gather
public import proofs.«01_k».proof.Proof.Steps
public import Idealize.ShloMosaic.Lib.Memref
public import Idealize.ShloMosaic.Lib.SparseCore.Quiescent
public import Idealize.ShloMosaic.Lib.SparseCore.Ops
public import Idealize.ShloMosaic.Lib.SparseCore.Launch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Render

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)

variable {F : FTy → Type}

abbrev 𝒱₀ : Variants := Variants.none

abbrev UH : Type := URounds (GSem nD τ sig) ℕ
abbrev UP : Type := URounds (GSem nD τ sig) Unit
abbrev UU : Type := UH × (UP × Counters)

/-- The resource algebra of the run. -/
abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-- The thread of tile `L`. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The waits made so far, and one more of the tile's own. -/
theorem waits_insert {W W' : Waits sig (HIx 1)} (h : ∀ p ∈ W', p ∈ W ∨ p.2 = none) (s : SemLoc sig) :
    ∀ p ∈ insert (s, none) W', p ∈ W ∨ p.2 = none := fun p hp => by
  rcases Finset.mem_insert.mp hp with rfl | hp
  · exact Or.inr rfl
  · exact h p hp

/-- A separating product of separating products. -/
theorem bigSep_both {M : Type} [URA M] {I : Type} (s : Finset I) (Φ Ψ : I → sProp M) :
    bigSep s (fun i => iprop(Φ i ∗ Ψ i)) = iprop(bigSep s Φ ∗ bigSep s Ψ) := bigSep_sep s Φ Ψ

theorem bigSep_mono' {M : Type} [URA M] {I : Type} {s : Finset I} {Φ Ψ : I → sProp M} (h : ∀ i ∈ s, Φ i ⊢ Ψ i) : bigSep s Φ ⊢ bigSep s Ψ :=
  bigSep_mono h

section Owns

variable {nD : Nat} {τ : Topo} {sig : RefSig} {Val : EltTy → Type} {Ix : Type} [DecidableEq Ix] {Name : Type} [DecidableEq Name]
  {U : Type} [URA U] {Lvl : Type} [∀ e, Nonempty (Val e)]
  (c : Thread nD τ) {sp : Space} {s s' : Shape} {e : EltTy} (m : Memref sig c.2.kind sp s e) (q : PosShare TreeShare) (X : s.Idx → Val e)

/-- A memref owned at `X` is its elements held at some fixed buffer contents which read as `X`. -/
theorem owns_rep : (owns c m q X : sProp (MT nD τ sig Ix Val Name U Lvl)) = m.view.loc c ↦[m.view.set]{q} m.view.rep X := by
  have mk : ∀ {A B : sProp (MT nD τ sig Ix Val Name U Lvl)}, (A ⊢ B) → (B ⊢ A) → A = B := fun h h' => BI.equiv_iff.mp ⟨h, h'⟩
  refine mk ?_ ?_
  · unfold owns
    iintro ⟨%f, %hf, H⟩
    ihave H' := (pointsTo_rep_entails c m f q) $$ H
    subst hf; iexact H'
  · iintro H
    ihave H' := (owns_intro c m q (m.view.rep X)) $$ H
    rw [View.read_rep]
    iexact H'

/-- A memref squeezed is owned at the same elements. -/
theorem owns_squeeze (h : s.Squeezes s') :
    (owns c (m.squeeze s' h) q (fun j => X (Shape.reshapeEquiv h.numel_eq j)) : sProp (MT nD τ sig Ix Val Name U Lvl)) = owns c m q X := by
  have mk : ∀ {A B : sProp (MT nD τ sig Ix Val Name U Lvl)}, (A ⊢ B) → (B ⊢ A) → A = B := fun h h' => BI.equiv_iff.mp ⟨h, h'⟩
  refine mk ?_ ?_
  · unfold owns
    iintro ⟨%f, %hf, H⟩
    iexists f
    isplitr
    · ipureintro
      funext x
      have := congrFun hf ((Shape.reshapeEquiv h.numel_eq).symm x)
      simp only [Equiv.apply_symm_apply] at this
      rw [← this]
      change _ = m.view.read Val f (Shape.reshapeEquiv h.numel_eq ((Shape.reshapeEquiv h.numel_eq).symm x))
      rw [Equiv.apply_symm_apply]
    · ihave H' := (Entails.of_eq (show (((m.squeeze s' h).view.loc c ↦[(m.squeeze s' h).view.set]{q} f : sProp (MT nD τ sig Ix Val Name U Lvl))) = m.view.loc c ↦[m.view.set]{q} f by
        change (m.view.loc c ↦[(m.view.reshape s' h.numel_eq).set]{q} f : sProp (MT nD τ sig Ix Val Name U Lvl)) = _
        rw [View.set_reshape])) $$ H
      iexact H'
  · unfold owns
    iintro ⟨%f, %hf, H⟩
    iexists f
    isplitr
    · ipureintro
      funext x
      rw [← hf]; rfl
    · ihave H' := (Entails.of_eq (show (((m.squeeze s' h).view.loc c ↦[(m.squeeze s' h).view.set]{q} f : sProp (MT nD τ sig Ix Val Name U Lvl))) = m.view.loc c ↦[m.view.set]{q} f by
        change (m.view.loc c ↦[(m.view.reshape s' h.numel_eq).set]{q} f : sProp (MT nD τ sig Ix Val Name U Lvl)) = _
        rw [View.set_reshape]).symm) $$ H
      iexact H'

/-- A memref owned at a share is owned at the share's pieces. -/
theorem owns_pieces {o : ℕ} (ho : 0 < o) :
    (owns c m q X : sProp (MT nD τ sig Ix Val Name U Lvl)) = bigSep Finset.univ fun j : Fin o => owns c m (pieceOf q o ho j) X := by
  rw [owns_rep, pointsTo_piecesOf _ _ ho q]
  exact bigSep_congr fun j _ => (owns_rep c m _ X).symm

end Owns

end Cert.Render
-- ==== Proof.Fire.lean ====
/-
  A chunk's gathers: sixteen indirect copies of 128 table rows each on one semaphore, as one batch of 2048 rows, and the
  sixteen waits which bring the gathered rows back.
-/
module

public import proofs.«01_k».proof.Proof.Common
public import Idealize.ShloMosaic.Lib.ValueIdxCore

@[expose] public section

noncomputable section

namespace Cert.Render

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending bigSep_pending_step)

variable {F : FTy → Type} [FloatOps F]

local notation "𝕄" => MT nD τ sig (HIx 1) (Elt F) ℕ UU ℕ

/-- A rectangle holds the place of each of its indices. -/
theorem mem_rect {s : Shape} (r : Rect s) (y : r.shape.Idx) {x : s.Idx} (h : r.emb y = x) : x ∈ r.set := by
  rw [← r.map_emb_univ, ← h]; exact Finset.mem_map_of_mem _ (Finset.mem_univ _)

/-- The rows of the row buffer which gather `w` fills. -/
abbrev rowRect (w : Fin 16) : Rect S2048x16 := Rect.unit (s := S2048x16) ![128 * (w.val % 16), 0] S128x16.size (rowWin_inb w.val)

theorem rowRect_disj (w w' : Fin 16) (h : w ≠ w') : Disjoint (rowRect w).set (rowRect w').set := by
  have hv : w.val ≠ w'.val := fun e => h (Fin.ext e)
  have := w.isLt; have := w'.isLt
  refine Rect.disjoint_of_axis _ _ (0 : Fin 2) fun j hj j' hj' => ?_
  change j < 128 at hj; change j' < 128 at hj'
  change 128 * (w.val % 16) + 1 * j ≠ 128 * (w'.val % 16) + 1 * j'
  omega

theorem rowRect_cov : (Finset.univ : Finset (Fin 16)).biUnion (fun w => (rowRect w).set) = Finset.univ := by
  refine Finset.eq_univ_iff_forall.mpr fun x => ?_
  have h0 : (x 0).val < 2048 := (x 0).isLt
  refine Finset.mem_biUnion.mpr ⟨⟨(x 0).val / 128, by omega⟩, Finset.mem_univ _, mem_rect _ (ix2 (⟨(x 0).val % 128, Nat.mod_lt _ (by decide)⟩ : Fin 128) (x 1)) ?_⟩
  funext a
  match a with
  | ⟨0, _⟩ => refine Fin.ext ?_; change 128 * ((x 0).val / 128 % 16) + 1 * ((x 0).val % 128) = (x 0).val; omega
  | ⟨1, _⟩ => refine Fin.ext ?_; change 0 + 1 * (x 1).val = (x 1).val; omega

/-- The rows which gather `w` of half `h` reads, as the index buffer holds them. -/
def pick (I : S4x8x128.Idx → BitVec 32) (h w : ℕ) (j : S128.Idx) : BitVec 32 :=
  I (ix3 (⟨2 * (h % 2) + w % 16 / 8, by omega⟩ : Fin 4) (⟨w % 8, by omega⟩ : Fin 8) (j 0))

/-- The row buffer after a chunk's gathers: row `128 w + l` is the table row which entry `l` of list `w` names. -/
def gath (T : S102400x16.Idx → Elt F .f32) (I : S4x8x128.Idx → BitVec 32) (h : ℕ) : S2048x16.Idx → Elt F .f32 := fun x =>
  T (ix2 (⟨(pick I h ((x 0).val / 128) (ix1 (⟨(x 0).val % 128, Nat.mod_lt _ (by decide)⟩ : Fin 128))).toNat % 102400, Nat.mod_lt _ (by decide)⟩ : Fin 102400) (x 1))

variable (d : Dev nD) (L : grid1.Coords)
  (tab : Memref sig .scVector .hbm S102400x16 .f32) (idx : Memref sig .scVector .vmem S4x8x128 .i32)
  (rows : Memref sig .scVector .vmem S2048x16 .f32) (sem : DmaSem sig)
  (T : S102400x16.Idx → Elt F .f32) (I : S4x8x128.Idx → BitVec 32) (h : ℕ) (R : S2048x16.Idx → Elt F .f32)
  (q : PosShare TreeShare)

/-- A half of an index buffer, as the sixteen lists its gathers read. -/
def idxHalf : sProp 𝕄 := bigSep Finset.univ fun w : Fin 16 => owns (thr d L) (idxWin idx h w.val) fullShare (pick I h w.val)

variable (hI : ∀ x, (I x).toNat < 102400)

include hI in
theorem pick_in (w : ℕ) (x) : ((idxWin idx h w).view.read (Elt F) ((idxWin idx h w).view.rep (pick I h w)) x).toNat
    < S102400x16.size (gathers_S102400x16_S128x16).axis := by
  rw [View.read_rep]; exact hI _

/-- What row `j` of gather `w` delivers. -/
def gotAt (w : ℕ) (hw : w < 16) (j : ℕ) (hj : j < 128) : sProp 𝕄 :=
  rowGot (thr d L) (tabWin tab) (rowWin rows w) gathers_S102400x16_S128x16 (idxWin idx h w) rfl
    (show 0 < 128 by decide) (pieceOf q 16 (by decide) ⟨w, hw⟩) fullShare ((tabWin tab).view.rep T)
    ((rowWin rows w).view.rep fun j => R ((rowRect ⟨w, hw⟩).emb j))
    ((idxWin idx h w).view.rep (pick I h w)) (pick_in idx I h hI _) ⟨j, hj⟩

/-- What row `t` of a chunk's batch delivers: row `t % 128` of gather `t / 128`. -/
def got (t : Fin 2048) : sProp 𝕄 :=
  gotAt d L tab idx rows T I h R q hI (t.val / 128) (by have := t.isLt; omega) (t.val % 128) (Nat.mod_lt _ (by decide))

theorem gotAt_congr {w w' j j' : ℕ} (hw : w < 16) (hw' : w' < 16) (hj : j < 128) (hj' : j' < 128) (e : w = w') (e' : j = j') :
    gotAt d L tab idx rows T I h R q hI w hw j hj = gotAt d L tab idx rows T I h R q hI w' hw' j' hj' := by
  subst e; subst e'; rfl

instance got_storable (t : Fin 2048) : BI.Storable (upEmb : UEmb _ 𝕄) (got d L tab idx rows T I h R q hI t) := by
  unfold got gotAt; exact rowGot_storable ..

/-- The units which one gathered row adds to its semaphore. -/
abbrev rowUnits : ℕ := 512

/-- A chunk's gathers in flight, none waited for. -/
def flying : sProp 𝕄 := iprop(∃ R, Batch (EC (F := F)) (thr d L) (.dma sem) none rowUnits (got d L tab idx rows T I h R q hI) 2048 0)

theorem units_row (w : ℕ) (j : Fin 128) :
    ((rowWin rows w).slice (S128x16.rowRect gathers_S102400x16_S128x16.axis' j) (S128x16.stride_rowRect gathers_S102400x16_S128x16.axis' j)).view.dmaCredit = rowUnits := rfl

theorem units_win (w : ℕ) : (rowWin rows w).view.dmaCredit = 128 * rowUnits := rfl

variable {α : Type} (Ψ : α → sProp (MT nD τ sig (HIx 1) (Elt F) ℕ UU ℕ))
variable (k : PUnit → Prog (TpuEff nD τ sig (Elt F) Λ₀ (thr d L).2) α)

/-- What gather `w` takes. -/
def gatherRes (w : Fin 16) : sProp 𝕄 :=
  iprop(owns (thr d L) (rowWin rows w.val) fullShare (fun j => R ((rowRect w).emb j)) ∗ owns (thr d L) (idxWin idx h w.val) fullShare (pick I h w.val)
    ∗ owns (thr d L) (tabWin tab) (pieceOf q 16 (by decide) w) T)

theorem gatherRes_rep (w : Fin 16) : gatherRes d L tab idx rows T I h R q w
    = (iprop(((rowWin rows w.val).view.loc (thr d L) ↦[(rowWin rows w.val).view.set]{fullShare} (rowWin rows w.val).view.rep (fun j => R ((rowRect w).emb j)))
      ∗ ((idxWin idx h w.val).view.loc (thr d L) ↦[(idxWin idx h w.val).view.set]{fullShare} (idxWin idx h w.val).view.rep (pick I h w.val))
      ∗ ((tabWin tab).view.loc (thr d L) ↦[(tabWin tab).view.set]{pieceOf q 16 (by decide) w} (tabWin tab).view.rep T)) : sProp 𝕄) := by
  unfold gatherRes; rw [owns_rep, owns_rep, owns_rep]

/-- The gathers from `w` on, issued. -/
theorem wp_gathersFrom (n w : ℕ) (hw : w + n = 16) :
    iprop(bigSep (pending (n := 16) w) (gatherRes d L tab idx rows T I h R q) ∗ Batch (EC (F := F)) (thr d L) (.dma sem) none rowUnits (got d L tab idx rows T I h R q hI) (128 * w) 0)
      ⊢ iprop((Batch (EC (F := F)) (thr d L) (.dma sem) none rowUnits (got d L tab idx rows T I h R q hI) 2048 0 -∗ wp frame (wpE defs₀ 𝒱₀ (thr d L) none) Set.univ (k ⟨⟩) Ψ)
          -∗ wp frame (wpE defs₀ 𝒱₀ (thr d L) none) Set.univ (steps (gatherStep L tab idx rows sem h) w n >>= k) Ψ) := by
  induction n generalizing w with
  | zero =>
    obtain rfl : w = 16 := by omega
    iintro ⟨-, HB⟩ Hk
    iapply Hk; iexact HB
  | succ n ih =>
    have hw' : w < 16 := by omega
    have hD : ∀ j : Fin 128, gotAt d L tab idx rows T I h R q hI w hw' j.val j.isLt ⊢ got d L tab idx rows T I h R q hI ⟨128 * w + j.val, by have := j.isLt; omega⟩ := fun j =>
      Entails.of_eq (gotAt_congr d L tab idx rows T I h R q hI _ _ _ _ (by have := j.isLt; change w = (128 * w + j.val) / 128; omega)
        (by have := j.isLt; change j.val = (128 * w + j.val) % 128; omega))
    rw [steps_cons, bigSep_pending_step _ w hw']
    rw [gatherRes_rep]
    iintro ⟨⟨⟨Hr, Hi, Ht⟩, Hrest⟩, HB⟩ Hk
    unfold gatherStep
    iapply (wp_gatherBatch (EC (F := F)) 𝒱₀ (thr d L) none (D := got d L tab idx rows T I h R q hI) none rowUnits (128 * w) 0 (units_row rows w) (show 0 < 128 by decide)
      (show 128 * w + 128 ≤ 2048 by omega) (Nat.zero_le _) (pick_in idx I h hI w) (fun j => ?_)) $$ [Ht Hr Hi HB]
    · exact hD j
    · isplitl [Ht]; · iexact Ht
      isplitl [Hr]; · iexact Hr
      isplitl [Hi]; · iexact Hi
      iexact HB
    iintro HB
    iapply (ih (w + 1) (by omega)) $$ [Hrest HB] [Hk]
    · isplitl [Hrest]; · iexact Hrest
      iexact HB
    · iexact Hk

/-- A chunk's gathers issued: the row buffer, the lists and the table's share fly until the waits. -/
theorem wp_fire :
    iprop(owns (thr d L) rows fullShare R ∗ idxHalf d L idx I h ∗ owns (thr d L) (tabWin tab) q T ∗ semVal (thr d L, .dma sem) 0)
      ⊢ iprop((flying d L tab idx rows sem T I h q hI -∗ wp frame (wpE defs₀ 𝒱₀ (thr d L) none) Set.univ (k ⟨⟩) Ψ)
          -∗ wp frame (wpE defs₀ 𝒱₀ (thr d L) none) Set.univ (steps (gatherStep L tab idx rows sem h) 0 16 >>= k) Ψ) := by
  iintro ⟨HR, HI, HT, Hv⟩ Hk
  iapply fupd_wp
  imod (Transfers.batch_alloc' (EC (F := F)) (thr d L) none rowUnits (got d L tab idx rows T I h R q hI)) $$ Hv with HB
  imodintro
  ihave HR' := (owns_rects (thr d L) rows fullShare rowRect (fun _ _ => rfl) rowRect_disj rowRect_cov R) $$ HR
  ihave HT' := (Entails.of_eq (owns_pieces (thr d L) (tabWin tab) q T (o := 16) (by decide))) $$ HT
  have hp : (bigSep (pending (n := 16) 0) (gatherRes d L tab idx rows T I h R q) : sProp 𝕄)
      = iprop((bigSep Finset.univ fun w : Fin 16 => owns (thr d L) (rows.slice (rowRect w) (fun _ => rfl)) fullShare (fun j => R ((rowRect w).emb j)))
        ∗ idxHalf d L idx I h ∗ (bigSep Finset.univ fun w : Fin 16 => owns (thr d L) (tabWin tab) (pieceOf q 16 (by decide) w) T)) := by
    rw [← Transfers.bigSep_pending_zero]
    unfold gatherRes idxHalf
    rw [bigSep_both, bigSep_both]; rfl
  iapply (wp_gathersFrom d L tab idx rows sem T I h R q hI Ψ k 16 0 rfl) $$ [HR' HI HT' HB] [Hk]
  · isplitl [HR' HI HT']
    · iapply (Entails.of_eq hp.symm)
      isplitl [HR']; · iexact HR'
      isplitl [HI]; · iexact HI
      iexact HT'
    · iexact HB
  · iintro HB
    iapply Hk
    unfold flying
    iexists R
    iexact HB

variable (O : CellTallies nD τ sig (HIx 1)) (W : Waits sig (HIx 1))

theorem drainStep_bind (w : ℕ) : (drainStep L tab rows sem w >>= k)
    = .op (.waitDma2 sem (tabWin tab) (rowWin rows w) (View.wordExact_bits rfl) (View.wordExact_bits rfl)) k := rfl

/-- The first `n` waits from wait `w`, with at least one left after them. -/
theorem wp_drainFrom (n w : ℕ) (hw : w + n < 16) :
    iprop(Transfers.MayWaits (thr d L) none O ∗ Batch (EC (F := F)) (thr d L) (.dma sem) none rowUnits (got d L tab idx rows T I h R q hI) 2048 (128 * w * rowUnits)
        ∗ (∃ W', ⌜∀ p ∈ W', p ∈ W ∨ p.2 = none⌝ ∗ owes (thr d L) O W'))
      ⊢ iprop((iprop(Batch (EC (F := F)) (thr d L) (.dma sem) none rowUnits (got d L tab idx rows T I h R q hI) 2048 (128 * (w + n) * rowUnits)
            ∗ (∃ W', ⌜∀ p ∈ W', p ∈ W ∨ p.2 = none⌝ ∗ owes (thr d L) O W')) -∗ wp frame (wpE defs₀ 𝒱₀ (thr d L) none) Set.univ (k ⟨⟩) Ψ)
          -∗ wp frame (wpE defs₀ 𝒱₀ (thr d L) none) Set.univ (steps (drainStep L tab rows sem) w n >>= k) Ψ) := by
  induction n generalizing w with
  | zero =>
    iintro ⟨-, HB, HO⟩ Hk
    iapply Hk
    isplitl [HB]; · iexact HB
    iexact HO
  | succ n ih =>
    rw [steps_cons]
    rw [drainStep_bind]
    iintro ⟨#Hmw, HB, %W', %hW', HO⟩ Hk
    have hu : 128 * w * rowUnits + 128 * rowUnits ≤ rowUnits * 2048 := by unfold rowUnits; omega
    iapply (Transfers.wp_waitBatchMulO (EC (F := F)) 𝒱₀ (thr d L) none none 128 (units_win rows w) (D := got d L tab idx rows T I h R q hI) hu) $$ [HB HO]
    · isplitl [HB]; · iexact HB
      isplitl [HO]; · iexact HO
      iapply (Transfers.MayWaits.elim (.dma sem)) $$ Hmw
    iintro ⟨HB, HO⟩
    iapply (ih (w + 1) (by omega)) $$ [HB HO] [Hk]
    · isplitr; · iexact Hmw
      isplitl [HB]
      · rw [show 128 * (w + 1) * rowUnits = 128 * w * rowUnits + 128 * rowUnits by unfold rowUnits; omega]; iexact HB
      iexists insert (SemLoc.dma sem, none) W'
      isplitr
      · ipureintro; exact waits_insert hW' _
      iexact HO
    · rw [show w + (n + 1) = w + 1 + n by omega]; iexact Hk

/-- What a whole chunk's batch delivers: the gathered rows, the lists and the table's share. -/
theorem got_join : bigSep Finset.univ (got d L tab idx rows T I h R q hI)
    ⊢ (iprop(owns (thr d L) rows fullShare (gath T I h) ∗ idxHalf d L idx I h ∗ owns (thr d L) (tabWin tab) q T) : sProp 𝕄) := by
  have hw : ∀ w : Fin 16, bigSep Finset.univ (fun j : Fin 128 => gotAt d L tab idx rows T I h R q hI w.val w.isLt j.val j.isLt)
      ⊢ (iprop(owns (thr d L) (rows.slice (rowRect w) (fun _ => rfl)) fullShare (fun j => gath T I h ((rowRect w).emb j))
        ∗ owns (thr d L) (idxWin idx h w.val) fullShare (pick I h w.val) ∗ owns (thr d L) (tabWin tab) (pieceOf q 16 (by decide) w) T) : sProp 𝕄) := fun w => by
    have hval : SparseCore.gatherPayload gathers_S102400x16_S128x16 ((tabWin tab).view.read (Elt F) ((tabWin tab).view.rep T))
        (SparseCore.rows ((idxWin idx h w.val).view.read (Elt F) ((idxWin idx h w.val).view.rep (pick I h w.val))) rfl (pick_in idx I h hI w.val))
        = fun j => gath T I h ((rowRect w).emb j) := by
      rw [View.read_rep]
      funext j
      have hj : (j 0).val < 128 := (j 0).isLt
      have hwl := w.isLt
      unfold SparseCore.gatherPayload gath
      refine congrArg T (funext fun b => ?_)
      match b with
      | ⟨0, _⟩ =>
        refine (Shape.Gathers.idx_axis gathers_S102400x16_S128x16 _ j).trans (Fin.ext ?_)
        unfold SparseCore.rows
        refine (congrArg BitVec.toNat (congrFun (View.read_rep _ _) _)).trans ?_
        change (pick I h w.val _).toNat = (pick I h ((128 * (w.val % 16) + 1 * (j 0).val) / 128) (ix1 _)).toNat % 102400
        rw [Nat.mod_eq_of_lt (show (pick I h _ _).toNat < 102400 from hI _), show (128 * (w.val % 16) + 1 * (j 0).val) / 128 = w.val by omega]
        refine congrArg (fun x => (pick I h w.val x).toNat) (funext fun a => ?_)
        match a with
        | ⟨0, _⟩ =>
          refine Fin.ext ((Shape.rowMajor_val_one _).symm.trans ?_)
          rw [Equiv.apply_symm_apply]
          change (j 0).val = (128 * (w.val % 16) + 1 * (j 0).val) % 128
          omega
      | ⟨1, _⟩ =>
        refine Fin.ext ((Shape.Gathers.idx_of_ne gathers_S102400x16_S128x16 _ j (1 : Fin 2) (by decide)).trans ?_)
        change (j 1).val = 0 + 1 * (j 1).val
        omega
    refine (rowGot_join (thr d L) (tabWin tab) (rowWin rows w.val) gathers_S102400x16_S128x16 (idxWin idx h w.val) rfl
      (show 0 < 128 by decide) (pieceOf q 16 (by decide) w) fullShare ((tabWin tab).view.rep T)
      ((rowWin rows w.val).view.rep fun j => R ((rowRect w).emb j))
      ((idxWin idx h w.val).view.rep (pick I h w.val)) (pick_in idx I h hI w.val)).trans ?_
    iintro ⟨Hr, Ht, Hi⟩
    isplitl [Hr]
    · ihave H' := (owns_intro (thr d L) (rowWin rows w.val) fullShare _) $$ Hr
      rw [View.read_write_univ, hval]
      iexact H'
    isplitl [Hi]
    · rw [owns_rep]; iexact Hi
    · rw [owns_rep]; iexact Ht
  have hre : (bigSep Finset.univ (got d L tab idx rows T I h R q hI) : sProp 𝕄)
      = bigSep Finset.univ fun w : Fin 16 => bigSep Finset.univ (fun j : Fin 128 => gotAt d L tab idx rows T I h R q hI w.val w.isLt j.val j.isLt) := by
    rw [bigSep_univ_equiv (finProdFinEquiv (m := 16) (n := 128)), bigSep_univ_prod]
    refine bigSep_congr fun w _ => bigSep_congr fun j _ => ?_
    unfold got
    have := j.isLt
    exact gotAt_congr d L tab idx rows T I h R q hI _ _ _ _ (by change (j.val + 128 * w.val) / 128 = w.val; omega) (by change (j.val + 128 * w.val) % 128 = j.val; omega)
  have h1 : (bigSep Finset.univ (got d L tab idx rows T I h R q hI) : sProp 𝕄)
      ⊢ iprop((bigSep Finset.univ fun w : Fin 16 => owns (thr d L) (rows.slice (rowRect w) (fun _ => rfl)) fullShare (fun j => gath T I h ((rowRect w).emb j)))
        ∗ (bigSep Finset.univ fun w : Fin 16 => owns (thr d L) (idxWin idx h w.val) fullShare (pick I h w.val))
        ∗ (bigSep Finset.univ fun w : Fin 16 => owns (thr d L) (tabWin tab) (pieceOf q 16 (by decide) w) T)) := by
    rw [hre]
    exact (bigSep_mono' fun w _ => hw w).trans (Entails.of_eq (by rw [bigSep_both, bigSep_both]))
  iintro HD
  ihave H := h1 $$ HD
  icases H with ⟨HR, HI, HT⟩
  isplitl [HR]
  · iapply (owns_of_rects (thr d L) rows fullShare rowRect (fun _ _ => rfl) rowRect_disj rowRect_cov (gath T I h)) $$ HR
  isplitl [HI]
  · unfold idxHalf; iexact HI
  · iapply (Entails.of_eq (owns_pieces (thr d L) (tabWin tab) q T (o := 16) _).symm) $$ HT

/-- A chunk's sixteen waits. -/
theorem wp_drain :
    iprop(Transfers.MayWaits (thr d L) none O ∗ flying d L tab idx rows sem T I h q hI
        ∗ (∃ W', ⌜∀ p ∈ W', p ∈ W ∨ p.2 = none⌝ ∗ owes (thr d L) O W'))
      ⊢ iprop((iprop(owns (thr d L) rows fullShare (gath T I h) ∗ idxHalf d L idx I h ∗ owns (thr d L) (tabWin tab) q T ∗ semVal (thr d L, .dma sem) 0
            ∗ (∃ W', ⌜∀ p ∈ W', p ∈ W ∨ p.2 = none⌝ ∗ owes (thr d L) O W')) -∗ wp frame (wpE defs₀ 𝒱₀ (thr d L) none) Set.univ (k ⟨⟩) Ψ)
          -∗ wp frame (wpE defs₀ 𝒱₀ (thr d L) none) Set.univ (steps (drainStep L tab rows sem) 0 16 >>= k) Ψ) := by
  have hs : (steps (drainStep L tab rows sem) 0 16 >>= k) = (steps (drainStep L tab rows sem) 0 15 >>= fun _ =>
      .op (.waitDma2 sem (tabWin tab) (rowWin rows 15) (View.wordExact_bits rfl) (View.wordExact_bits rfl)) k) := steps_append _ 0 15 1 k
  rw [hs]
  unfold flying
  iintro ⟨#Hmw, ⟨%R, HB⟩, HO⟩ Hk
  iapply (wp_drainFrom d L tab idx rows sem T I h R q hI Ψ _ O W 15 0 (by decide)) $$ [HB HO]
  · isplitr; · iexact Hmw
    isplitl [HB]; · iexact HB
    iexact HO
  iintro ⟨HB, %W', %hW', HO⟩
  have hu : 128 * (0 + 15) * rowUnits + 128 * rowUnits = rowUnits * 2048 := rfl
  iapply (Transfers.wp_waitBatchAllO (EC (F := F)) 𝒱₀ (thr d L) none none (units_win rows 15) (D := got d L tab idx rows T I h R q hI) (by decide) hu) $$ [HB HO]
  · isplitl [HB]; · iexact HB
    isplitl [HO]; · iexact HO
    iapply (Transfers.MayWaits.elim (.dma sem)) $$ Hmw
  iintro ⟨HD, Hv, HO⟩
  ihave H := (got_join d L tab idx rows T I h R q hI) $$ HD
  icases H with ⟨HR, HI, HT⟩
  iapply Hk
  isplitl [HR]; · iexact HR
  isplitl [HI]; · iexact HI
  isplitl [HT]; · iexact HT
  isplitl [Hv]; · iexact Hv
  iexists insert (SemLoc.dma sem, none) W'
  isplitr
  · ipureintro; exact waits_insert hW' _
  iexact HO

end Cert.Render
-- ==== Proof.Average.lean ====
/-
  The arithmetic of one chunk. A trip of the printed loops sums, for four pixels, the eight gathered rows of each
  pixel and stores the four averages, transposed, into the outgoing buffer.
-/
module

public import proofs.«01_k».proof.Proof.Fire

@[expose] public section

noncomputable section

namespace Cert.Render

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)

variable {F : FTy → Type} [FloatOps F]

/-- The average of eight rows of channels, summed in pairs. -/
def tree8 (a : Fin 8 → Vec F S16 .f32) : Vec F S16 .f32 :=
  mulf (addf (addf (addf (a 0) (a 1)) (addf (a 2) (a 3))) (addf (addf (a 4) (a 5)) (addf (a 6) (a 7)))) (broadcast S16 (Scalar.ofBits .f32 0x3E000000#32))

section Prog

variable (i : grid1.Coords)

/-- The programs of tile `i`. -/
abbrev TileProg (F : FTy → Type) (i : grid1.Coords) (α : Type) : Type 1 := Prog (TpuEff nD τ sig (Elt F) Λ₀ (.scVector ((i 0).castLE hcore1) ((i 1).castLE hsub1))) α

/-- One gathered row read. -/
def loadRow (rows : Memref sig .scVector .vmem S2048x16 .f32) (off : Fin 2 → ℕ) (h : ∀ a, off a + S1x16.size a ≤ S2048x16.size a) : TileProg F i (Vec F S16 .f32) :=
  Prog.lift (.load rows (Rect.unit (s := S2048x16) off S1x16.size h).toLoadRect (View.loadsAt_vmem h_S1x16)) >>= fun v =>
    pure (shapeCast S16 (v : Vec F S1x16 .f32) shapeCasts_S1x16_S16)

/-- A pixel's eight rows read and averaged. -/
def load8 (rows : Memref sig .scVector .vmem S2048x16 .f32) (off : Fin 8 → Fin 2 → ℕ) (h : ∀ k a, off k a + S1x16.size a ≤ S2048x16.size a) :
    TileProg F i (Vec F S16 .f32) :=
  loadRow i rows (off 0) (h 0) >>= fun a0 => loadRow i rows (off 1) (h 1) >>= fun a1 =>
  loadRow i rows (off 2) (h 2) >>= fun a2 => loadRow i rows (off 3) (h 3) >>= fun a3 =>
  loadRow i rows (off 4) (h 4) >>= fun a4 => loadRow i rows (off 5) (h 5) >>= fun a5 =>
  loadRow i rows (off 6) (h 6) >>= fun a6 => loadRow i rows (off 7) (h 7) >>= fun a7 =>
  pure (tree8 ![a0, a1, a2, a3, a4, a5, a6, a7])

/-- The side condition of a store through indices. -/
abbrev inOut (v : IVec S16 32) : Prop := ∀ a x, ((![v] : Fin 1 → IVec S16 32) a x).toNat < S4096.size a

/-- A pixel's average stored at the places `iv` names. -/
def storeRow (outv : Memref sig .scVector .vmem S4096 .f32) (iv : IVec S16 32) (dec : Decidable (inOut iv)) (y : Vec F S16 .f32) : TileProg F i PUnit :=
  Prog.lift (.assume (inOut iv) dec) >>= fun h =>
    SparseCore.vectorStoreIdx outv ![iv] y (fun _ => 1#1) false h.down (View.stores_vmem_bits_univ h_S4096 rfl)

/-- One trip: four pixels. -/
def redTrip (rows : Memref sig .scVector .vmem S2048x16 .f32) (outv : Memref sig .scVector .vmem S4096 .f32)
    (off : Fin 4 → Fin 8 → Fin 2 → ℕ) (h : ∀ r k a, off r k a + S1x16.size a ≤ S2048x16.size a)
    (iv : Fin 4 → IVec S16 32) (dec : ∀ r, Decidable (inOut (iv r))) : TileProg F i PUnit :=
  load8 i rows (off 0) (h 0) >>= fun y0 => load8 i rows (off 1) (h 1) >>= fun y1 =>
  load8 i rows (off 2) (h 2) >>= fun y2 => load8 i rows (off 3) (h 3) >>= fun y3 =>
  storeRow i outv (iv 0) (dec 0) y0 >>= fun _ => storeRow i outv (iv 1) (dec 1) y1 >>= fun _ =>
  storeRow i outv (iv 2) (dec 2) y2 >>= fun _ => storeRow i outv (iv 3) (dec 3) y3 >>= fun _ => pure ⟨⟩

/-- The places pixel `p` of a chunk's half `b` goes to: one per channel. -/
def lanesAt (b p : BitVec 32) : IVec S16 32 := addi (addi (muli (iota .scVector S16 32 [0] iota_S16_d0_w32_scVector) (broadcast S16 128#32)) (broadcast S16 b)) (broadcast S16 p)

/-- A trip's first pixel. -/
def pix (t : ℕ) : BitVec 32 := Scalar.addi 0#32 (Scalar.muli (Scf.iv 0#32 1#32 t) 4#32)

/-- The store indices of four pixels from `w` on. -/
def fourAt (b w : BitVec 32) (r : Fin 4) : IVec S16 32 :=
  ![lanesAt b (Scalar.addi w 0#32), lanesAt b (Scalar.addi w 1#32), lanesAt b (Scalar.addi w 2#32), lanesAt b (Scalar.addi w 3#32)] r

variable (arg2 : Memref sig .scVector .hbm S4096x8x128 .i32) (harg2 : arg2.IsWhole) (arg3 : Memref sig .scVector .hbm S102400x16 .f32) (harg3 : arg3.IsWhole) (arg4 : Memref sig .scVector .hbm S1024x2x4x1024 .f32) (harg4 : arg4.IsWhole) (arg5 : Memref sig .scVector .vmem S4x8x128 .i32) (harg5 : arg5.IsWhole) (arg6 : Memref sig .scVector .vmem S4x8x128 .i32) (harg6 : arg6.IsWhole) (arg7 : Memref sig .scVector .vmem S2048x16 .f32) (harg7 : arg7.IsWhole) (arg8 : Memref sig .scVector .vmem S2048x16 .f32) (harg8 : arg8.IsWhole) (arg9 : Memref sig .scVector .vmem S4096 .f32) (harg9 : arg9.IsWhole) (arg10 : Memref sig .scVector .vmem S4096 .f32) (harg10 : arg10.IsWhole) (arg11 arg12 arg13 arg14 arg15 arg16 : DmaSems sig S_) (v2 w : BitVec 32) (t : Fin k1_t1_loop.trips)

theorem t2_body_eq (t2 : Fin k1_t2_loop.trips) : ∃ h dec,
    k1_t2_body (F := F) i arg2 harg2 arg3 harg3 arg4 harg4 arg5 harg5 arg6 harg6 arg7 harg7 arg8 harg8 arg9 harg9 arg10 harg10 arg11 arg12 arg13 arg14 arg15 arg16 v2 lanes t w t2 ()
      = redTrip i arg7 arg9 (fun r k => k1_off4 t2 (BitVec.ofNat 32 r.val) (BitVec.ofNat 32 (128 * k.val))) h (fourAt 0#32 (pix t2)) dec := by
  refine ⟨fun r k => k1_off4_inb t2 r k, fun r => (match r with | 0 => k1_chk1.dec ((fourAt 0#32 (pix t2)) 0) | 1 => k1_chk2.dec ((fourAt 0#32 (pix t2)) 1) | 2 => k1_chk3.dec ((fourAt 0#32 (pix t2)) 2) | 3 => k1_chk4.dec ((fourAt 0#32 (pix t2)) 3)), ?_⟩
  simp only [k1_t2_body, k1_part3_eq_skeleton, k1_part3_skel, k1_part4_eq_skeleton, k1_part4_skel, k1_part5_eq_skeleton, k1_part5_skel, k1_part6_eq_skeleton, k1_part6_skel, redTrip, load8, loadRow, storeRow, bind_assoc, pure_bind]
  rfl

theorem t3_body_eq (t3 : Fin k1_t3_loop.trips) : ∃ h dec,
    k1_t3_body (F := F) i arg2 harg2 arg3 harg3 arg4 harg4 arg5 harg5 arg6 harg6 arg7 harg7 arg8 harg8 arg9 harg9 arg10 harg10 arg11 arg12 arg13 arg14 arg15 arg16 v2 lanes t w t3 ()
      = redTrip i arg7 arg9 (fun r k => k1_off5 t3 (BitVec.ofNat 32 r.val) (BitVec.ofNat 32 (128 * k.val))) h (fourAt 2048#32 (pix t3)) dec := by
  refine ⟨fun r k => k1_off5_inb t3 r k, fun r => (match r with | 0 => k1_chk5.dec ((fourAt 2048#32 (pix t3)) 0) | 1 => k1_chk6.dec ((fourAt 2048#32 (pix t3)) 1) | 2 => k1_chk7.dec ((fourAt 2048#32 (pix t3)) 2) | 3 => k1_chk8.dec ((fourAt 2048#32 (pix t3)) 3)), ?_⟩
  simp only [k1_t3_body, k1_part7_eq_skeleton, k1_part7_skel, k1_part8_eq_skeleton, k1_part8_skel, k1_part9_eq_skeleton, k1_part9_skel, k1_part10_eq_skeleton, k1_part10_skel, redTrip, load8, loadRow, storeRow, bind_assoc, pure_bind]
  rfl

theorem t4_body_eq (t4 : Fin k1_t4_loop.trips) : ∃ h dec,
    k1_t4_body (F := F) i arg2 harg2 arg3 harg3 arg4 harg4 arg5 harg5 arg6 harg6 arg7 harg7 arg8 harg8 arg9 harg9 arg10 harg10 arg11 arg12 arg13 arg14 arg15 arg16 v2 lanes t w 1#32 t4 ()
      = redTrip i arg8 arg10 (fun r k => k1_off11 t4 (BitVec.ofNat 32 r.val) (BitVec.ofNat 32 (128 * k.val))) h (fourAt 0#32 (pix t4)) dec := by
  refine ⟨fun r k => k1_off11_inb t4 r k, fun r => (match r with | 0 => k1_chk9.dec ((fourAt 0#32 (pix t4)) 0) | 1 => k1_chk10.dec ((fourAt 0#32 (pix t4)) 1) | 2 => k1_chk11.dec ((fourAt 0#32 (pix t4)) 2) | 3 => k1_chk12.dec ((fourAt 0#32 (pix t4)) 3)), ?_⟩
  simp only [k1_t4_body, k1_part13_eq_skeleton, k1_part13_skel, k1_part14_eq_skeleton, k1_part14_skel, k1_part15_eq_skeleton, k1_part15_skel, k1_part16_eq_skeleton, k1_part16_skel, redTrip, load8, loadRow, storeRow, bind_assoc, pure_bind]
  rfl

theorem t5_body_eq (t5 : Fin k1_t5_loop.trips) : ∃ h dec,
    k1_t5_body (F := F) i arg2 harg2 arg3 harg3 arg4 harg4 arg5 harg5 arg6 harg6 arg7 harg7 arg8 harg8 arg9 harg9 arg10 harg10 arg11 arg12 arg13 arg14 arg15 arg16 v2 lanes t w 1#32 t5 ()
      = redTrip i arg8 arg10 (fun r k => k1_off12 t5 (BitVec.ofNat 32 r.val) (BitVec.ofNat 32 (128 * k.val))) h (fourAt 2048#32 (pix t5)) dec := by
  refine ⟨fun r k => k1_off12_inb t5 r k, fun r => (match r with | 0 => k1_chk13.dec ((fourAt 2048#32 (pix t5)) 0) | 1 => k1_chk14.dec ((fourAt 2048#32 (pix t5)) 1) | 2 => k1_chk15.dec ((fourAt 2048#32 (pix t5)) 2) | 3 => k1_chk16.dec ((fourAt 2048#32 (pix t5)) 3)), ?_⟩
  simp only [k1_t5_body, k1_part17_eq_skeleton, k1_part17_skel, k1_part18_eq_skeleton, k1_part18_skel, k1_part19_eq_skeleton, k1_part19_skel, k1_part20_eq_skeleton, k1_part20_skel, redTrip, load8, loadRow, storeRow, bind_assoc, pure_bind]
  rfl

theorem t6_body_eq (t6 : Fin k1_t6_loop.trips) : ∃ h dec,
    k1_t6_body (F := F) i arg2 harg2 arg3 harg3 arg4 harg4 arg5 harg5 arg6 harg6 arg7 harg7 arg8 harg8 arg9 harg9 arg10 harg10 arg11 arg12 arg13 arg14 arg15 arg16 v2 lanes t w t6 ()
      = redTrip i arg7 arg9 (fun r k => k1_off18 t6 (BitVec.ofNat 32 r.val) (BitVec.ofNat 32 (128 * k.val))) h (fourAt 0#32 (pix t6)) dec := by
  refine ⟨fun r k => k1_off18_inb t6 r k, fun r => (match r with | 0 => k1_chk17.dec ((fourAt 0#32 (pix t6)) 0) | 1 => k1_chk18.dec ((fourAt 0#32 (pix t6)) 1) | 2 => k1_chk19.dec ((fourAt 0#32 (pix t6)) 2) | 3 => k1_chk20.dec ((fourAt 0#32 (pix t6)) 3)), ?_⟩
  simp only [k1_t6_body, k1_part23_eq_skeleton, k1_part23_skel, k1_part24_eq_skeleton, k1_part24_skel, k1_part25_eq_skeleton, k1_part25_skel, k1_part26_eq_skeleton, k1_part26_skel, redTrip, load8, loadRow, storeRow, bind_assoc, pure_bind]
  rfl

theorem t7_body_eq (t7 : Fin k1_t7_loop.trips) : ∃ h dec,
    k1_t7_body (F := F) i arg2 harg2 arg3 harg3 arg4 harg4 arg5 harg5 arg6 harg6 arg7 harg7 arg8 harg8 arg9 harg9 arg10 harg10 arg11 arg12 arg13 arg14 arg15 arg16 v2 lanes t w t7 ()
      = redTrip i arg7 arg9 (fun r k => k1_off19 t7 (BitVec.ofNat 32 r.val) (BitVec.ofNat 32 (128 * k.val))) h (fourAt 2048#32 (pix t7)) dec := by
  refine ⟨fun r k => k1_off19_inb t7 r k, fun r => (match r with | 0 => k1_chk21.dec ((fourAt 2048#32 (pix t7)) 0) | 1 => k1_chk22.dec ((fourAt 2048#32 (pix t7)) 1) | 2 => k1_chk23.dec ((fourAt 2048#32 (pix t7)) 2) | 3 => k1_chk24.dec ((fourAt 2048#32 (pix t7)) 3)), ?_⟩
  simp only [k1_t7_body, k1_part27_eq_skeleton, k1_part27_skel, k1_part28_eq_skeleton, k1_part28_skel, k1_part29_eq_skeleton, k1_part29_skel, k1_part30_eq_skeleton, k1_part30_skel, redTrip, load8, loadRow, storeRow, bind_assoc, pure_bind]
  rfl

theorem t8_body_eq (t8 : Fin k1_t8_loop.trips) : ∃ h dec,
    k1_t8_body (F := F) i arg2 harg2 arg3 harg3 arg4 harg4 arg5 harg5 arg6 harg6 arg7 harg7 arg8 harg8 arg9 harg9 arg10 harg10 arg11 arg12 arg13 arg14 arg15 arg16 v2 lanes t w t8 ()
      = redTrip i arg8 arg10 (fun r k => k1_off23 t8 (BitVec.ofNat 32 r.val) (BitVec.ofNat 32 (128 * k.val))) h (fourAt 0#32 (pix t8)) dec := by
  refine ⟨fun r k => k1_off23_inb t8 r k, fun r => (match r with | 0 => k1_chk25.dec ((fourAt 0#32 (pix t8)) 0) | 1 => k1_chk26.dec ((fourAt 0#32 (pix t8)) 1) | 2 => k1_chk27.dec ((fourAt 0#32 (pix t8)) 2) | 3 => k1_chk28.dec ((fourAt 0#32 (pix t8)) 3)), ?_⟩
  simp only [k1_t8_body, k1_part36_eq_skeleton, k1_part36_skel, k1_part37_eq_skeleton, k1_part37_skel, k1_part38_eq_skeleton, k1_part38_skel, k1_part39_eq_skeleton, k1_part39_skel, redTrip, load8, loadRow, storeRow, bind_assoc, pure_bind]
  rfl

theorem t9_body_eq (t9 : Fin k1_t9_loop.trips) : ∃ h dec,
    k1_t9_body (F := F) i arg2 harg2 arg3 harg3 arg4 harg4 arg5 harg5 arg6 harg6 arg7 harg7 arg8 harg8 arg9 harg9 arg10 harg10 arg11 arg12 arg13 arg14 arg15 arg16 v2 w (k1_pay346 lanes) k1_pay347 t9 ()
      = redTrip i arg8 arg10 (fun r k => k1_off24 t9 (BitVec.ofNat 32 r.val) (BitVec.ofNat 32 (128 * k.val))) h (fourAt 2048#32 (pix t9)) dec := by
  refine ⟨fun r k => k1_off24_inb t9 r k, fun r => (match r with | 0 => k1_chk29.dec ((fourAt 2048#32 (pix t9)) 0) | 1 => k1_chk30.dec ((fourAt 2048#32 (pix t9)) 1) | 2 => k1_chk31.dec ((fourAt 2048#32 (pix t9)) 2) | 3 => k1_chk32.dec ((fourAt 2048#32 (pix t9)) 3)), ?_⟩
  simp only [k1_t9_body, k1_part40_eq_skeleton, k1_part40_skel, k1_part41_eq_skeleton, k1_part41_skel, k1_part42_eq_skeleton, k1_part42_skel, k1_part43_eq_skeleton, k1_part43_skel, redTrip, load8, loadRow, storeRow, bind_assoc, pure_bind]
  rfl

end Prog

end Cert.Render

end
-- ==== Proof.Reduce.lean ====
/-
  What a chunk's two loops compute: from the gathered rows, the transposed averages.
-/
module

public import proofs.«01_k».proof.Proof.Average

@[expose] public section

noncomputable section

namespace Cert.Render

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)

variable {F : FTy → Type} [FloatOps F]

/-! ## A store through indices, element by element -/

section Fold

variable {A I : Type} {n : ℕ} (P : Fin n → I → Prop) [∀ k j, Decidable (P k j)] (y : Fin n → A)

theorem foldl_miss (l : List (Fin n)) (f : I → A) (j : I) (h : ∀ k ∈ l, ¬ P k j) :
    l.foldl (fun g k => fun j => if P k j then y k else g j) f j = f j := by
  induction l generalizing f with
  | nil => rfl
  | cons a l ih =>
    rw [List.foldl_cons, ih _ fun k hk => h k (List.mem_cons_of_mem _ hk)]
    exact if_neg (h a List.mem_cons_self)

theorem foldl_hit (l : List (Fin n)) (f : I → A) (j : I) (k : Fin n) (hk : k ∈ l) (hj : P k j) (hu : ∀ k', P k' j → k' = k) :
    l.foldl (fun g k => fun j => if P k j then y k else g j) f j = y k := by
  induction l generalizing f with
  | nil => exact absurd hk (List.not_mem_nil)
  | cons a l ih =>
    rw [List.foldl_cons]
    by_cases hl : k ∈ l
    · exact ih _ hl
    · have ha : a = k := ((List.mem_cons.mp hk).resolve_right hl).symm
      subst ha
      rw [foldl_miss P y l _ j fun k' hk' hP => hl (hu k' hP ▸ hk')]
      exact if_pos hj

end Fold

/-- One index vector. -/
abbrev idx1 (iv : IVec S16 32) : Fin S4096.rank → IVec ⟨1, ![16]⟩ 32 := ![iv]

/-- A lane, as an index. -/
abbrev lane (k : Fin 16) : S16.Idx := Shape.ofLane (d := ![16]) k

theorem storeIdx_fold (f : Vec F S4096 .f32) (iv : IVec S16 32) (v : Vec F S16 .f32) (h : inOut iv) :
    storeIdx f (idx1 iv) v (fun _ => 1#1) false h
      = (List.finRange 16).foldl (fun g k => fun j => if (j 0).val = (iv (lane k)).toNat then v (lane k) else g j) f := by
  simp only [storeIdx, Bool.false_eq_true, if_false]
  refine congrArg (fun φ => List.foldl φ f (List.finRange 16)) ?_
  funext g k
  refine (if_pos rfl).trans ?_
  funext j
  exact if_congr ⟨fun h' => h' 0, fun h' a => by obtain rfl : a = 0 := Subsingleton.elim _ _; exact h'⟩ _root_.rfl _root_.rfl

/-- The sixteen channels of row `n` of the gathered rows. -/
def rowVal (G : S2048x16.Idx → Elt F .f32) (n : ℕ) : Vec F S16 .f32 := fun x => G (ix2 ⟨n % 2048, Nat.mod_lt _ (by decide)⟩ (x 0))

/-- The average of pixel `p` of half `b`, over its eight neighbours. -/
def avgRow (G : S2048x16.Idx → Elt F .f32) (b p : ℕ) : Vec F S16 .f32 := tree8 fun k => rowVal G (p + 128 * k.val + 1024 * b)

/-- What a chunk's loops leave: halves, channels, pixels. -/
def redVal (G : S2048x16.Idx → Elt F .f32) : S4096.Idx → Elt F .f32 := fun j =>
  avgRow G ((j 0).val / 2048) ((j 0).val % 128) (ix1 ⟨(j 0).val % 2048 / 128, by omega⟩)

/-- The halves before `b`, and the first `n` pixels of half `b`, hold their averages. -/
def Good (G : S2048x16.Idx → Elt F .f32) (b n : ℕ) (X : S4096.Idx → Elt F .f32) : Prop :=
  ∀ j : S4096.Idx, ((j 0).val / 2048 < b ∨ ((j 0).val / 2048 = b ∧ (j 0).val % 128 < n)) → X j = redVal G j

theorem Good.zero (G : S2048x16.Idx → Elt F .f32) (X : S4096.Idx → Elt F .f32) : Good G 0 0 X := fun j h => by omega

theorem Good.next {G : S2048x16.Idx → Elt F .f32} {b : ℕ} {X : S4096.Idx → Elt F .f32} (h : Good G b 128 X) : Good G (b + 1) 0 X := fun j hj => h j (by omega)

theorem Good.full {G : S2048x16.Idx → Elt F .f32} {X : S4096.Idx → Elt F .f32} (h : Good G 2 0 X) : X = redVal G :=
  funext fun j => h j (by have : (j 0).val < 4096 := (j 0).isLt; omega)

/-- The places of pixel `n` of half `b`. -/
def Places (b n : ℕ) (iv : IVec S16 32) : Prop := ∀ x : S16.Idx, (iv x).toNat = 128 * (x 0).val + 2048 * b + n

theorem Places.inOut {b n : ℕ} {iv : IVec S16 32} (h : Places b n iv) (hb : b < 2) (hn : n < 128) : inOut iv := fun a x => by
  obtain rfl : a = 0 := Subsingleton.elim _ _
  have hx : (x 0).val < 16 := (x 0).isLt
  change (iv x).toNat < 4096
  rw [h x]; omega

theorem Good.step {G : S2048x16.Idx → Elt F .f32} {b n : ℕ} {X : S4096.Idx → Elt F .f32} (h : Good G b n X) (hn : n < 128)
    {iv : IVec S16 32} (hp : Places b n iv) (hi : Cert.Render.inOut iv) : Good G b (n + 1) (storeIdx X (idx1 iv) (avgRow G b n) (fun _ => 1#1) false hi) := fun j hj => by
  have hP : ∀ k : Fin 16, (j 0).val = (iv (lane k)).toNat ↔ (j 0).val = 128 * k.val + 2048 * b + n := fun k => by rw [hp (lane k)]; exact Iff.rfl
  rw [storeIdx_fold]
  by_cases hit : (j 0).val / 2048 = b ∧ (j 0).val % 128 = n
  · refine (foldl_hit (n := 16) (fun k j => (j 0).val = (iv (lane k)).toNat) (fun k => avgRow G b n (lane k)) _ X j ⟨(j 0).val % 2048 / 128, by omega⟩ (List.mem_finRange _)
      ((hP _).mpr (by change (j 0).val = 128 * ((j 0).val % 2048 / 128) + 2048 * b + n; omega))
      fun k' hk' => Fin.ext (by have := (hP k').mp hk'; have := k'.isLt; change k'.val = (j 0).val % 2048 / 128; omega)).trans ?_
    unfold redVal
    rw [hit.1, hit.2]
    congr 1
    funext a
    obtain rfl : a = 0 := Subsingleton.elim _ _
    rfl
  · refine (foldl_miss (n := 16) (fun k j => (j 0).val = (iv (lane k)).toNat) (fun k => avgRow G b n (lane k)) _ X j ?_).trans ?_
    · intro k _ hk
      have := (hP k).mp hk
      have := k.isLt
      omega
    · exact h j (by omega)

theorem places_four (t : ℕ) (ht : t < 32) (b : ℕ) (hb : b < 2) (r : Fin 4) : Places b (4 * t + r.val) (fourAt (BitVec.ofNat 32 (2048 * b)) (pix t) r) := fun x => by
  have hx : (x 0).val < 16 := (x 0).isLt
  have hl : ∀ p : BitVec 32, p.toNat < 128 → (lanesAt (BitVec.ofNat 32 (2048 * b)) p x).toNat = 128 * (x 0).val + 2048 * b + p.toNat := fun p hp => by
    change ((BitVec.ofNat 32 (0 * 16 + (x 0).val) * 128#32 + BitVec.ofNat 32 (2048 * b)) + p).toNat = _
    simp only [BitVec.toNat_add, BitVec.toNat_mul, BitVec.toNat_ofNat]
    omega
  have hw : ∀ k : ℕ, k < 4 → (Scalar.addi (pix t) (BitVec.ofNat 32 k)).toNat = 4 * t + k := fun k hk => by
    change ((0#32 + (0#32 + BitVec.ofNat 32 t * 1#32) * 4#32) + BitVec.ofNat 32 k).toNat = _
    simp only [BitVec.toNat_add, BitVec.toNat_mul, BitVec.toNat_ofNat]
    omega
  have h4 : fourAt (BitVec.ofNat 32 (2048 * b)) (pix t) r = lanesAt (BitVec.ofNat 32 (2048 * b)) (Scalar.addi (pix t) (BitVec.ofNat 32 r.val)) := by
    fin_cases r <;> rfl
  rw [h4, hl _ (by rw [hw _ r.isLt]; have := r.isLt; omega), hw _ r.isLt]

/-! ## The rules -/

variable (d : Dev nD) (L : grid1.Coords)
variable (rows : Memref sig .scVector .vmem S2048x16 .f32) (outv : Memref sig .scVector .vmem S4096 .f32)
variable (G : S2048x16.Idx → Elt F .f32)
variable {α : Type} (Ψ : α → sProp (MT nD τ sig (HIx 1) (Elt F) ℕ UU ℕ))

local notation "𝕄" => MT nD τ sig (HIx 1) (Elt F) ℕ UU ℕ

theorem wp_loadRow {off : Fin 2 → ℕ} (h : ∀ a, off a + S1x16.size a ≤ S2048x16.size a) (n : ℕ) (hoff : off = ![n, 0])
    (k : Vec F S16 .f32 → TileProg F L α) :
    (owns (thr d L) rows fullShare G : sProp 𝕄)
      ⊢ iprop((owns (thr d L) rows fullShare G -∗ wp frame (wpE (defs₀ (F := F)) 𝒱₀ (thr d L) none) Set.univ (k (rowVal G n)) Ψ)
        -∗ wp frame (wpE (defs₀ (F := F)) 𝒱₀ (thr d L) none) Set.univ (loadRow L rows off h >>= k) Ψ) := by
  subst hoff
  have hn : n < 2048 := by have := h 0; change n + 1 ≤ 2048 at this; omega
  rw [owns_rep]
  have hv : rowVal G n = shapeCast S16 (((rows.access (Rect.unit (s := S2048x16) ![n, 0] S1x16.size h)).read (Elt F) (rows.view.rep G) : Vec F S1x16 .f32)) shapeCasts_S1x16_S16 := by
    funext x
    change G _ = rows.view.read (Elt F) (rows.view.rep G) ((Rect.unit (s := S2048x16) ![n, 0] S1x16.size h).emb (Shape.reshapeEquiv shapeCasts_S1x16_S16 x))
    rw [View.read_rep]
    have hx : Shape.reshapeEquiv shapeCasts_S1x16_S16 x = ix2 (0 : Fin 1) (x 0) := Shape.reshapeEquiv_eq_of_rowMajor _ ((Shape.rowMajor_val_two (d := ![1, 16]) _).trans
      ((show 0 * 16 + (x 0).val = (x 0).val by omega).trans (Shape.rowMajor_val_one (d := ![16]) x).symm))
    rw [hx]
    congr 1
    funext a
    refine Fin.ext ?_
    match a with
    | 0 => change n % 2048 = n + 1 * 0; omega
    | 1 => change (x 0).val = 0 + 1 * (x 0).val; omega
  have hs : (loadRow L rows ![n, 0] h >>= k)
      = .op (.load rows (Rect.unit (s := S2048x16) ![n, 0] S1x16.size h).toLoadRect (View.loadsAt_vmem h_S1x16)) (fun v => k (shapeCast S16 (v : Vec F S1x16 .f32) shapeCasts_S1x16_S16)) := rfl
  rw [hs, hv]
  refine wp_load_rect (defs := defs₀) 𝒱₀ (thr d L) none Set.univ (Q := Ψ) (m := rows) (r := Rect.unit (s := S2048x16) ![n, 0] S1x16.size h) (S := rows.view.set) (f := rows.view.rep G) (q := fullShare)
    (hl := View.loadsAt_vmem h_S1x16) (k := fun v => k (shapeCast S16 (v : Vec F S1x16 .f32) shapeCasts_S1x16_S16)) ?_
  intro y hy
  rw [View.set_slice] at hy
  exact View.setOn_subset_set _ _ hy

theorem wp_load8 {off : Fin 8 → Fin 2 → ℕ} (h : ∀ k a, off k a + S1x16.size a ≤ S2048x16.size a) (n : Fin 8 → ℕ) (hoff : ∀ k, off k = ![n k, 0])
    (k : Vec F S16 .f32 → TileProg F L α) :
    (owns (thr d L) rows fullShare G : sProp 𝕄)
      ⊢ iprop((owns (thr d L) rows fullShare G -∗ wp frame (wpE (defs₀ (F := F)) 𝒱₀ (thr d L) none) Set.univ (k (tree8 fun kk => rowVal G (n kk))) Ψ)
        -∗ wp frame (wpE (defs₀ (F := F)) 𝒱₀ (thr d L) none) Set.univ (load8 L rows off h >>= k) Ψ) := by
  simp only [load8, bind_assoc, pure_bind]
  iintro H Hk
  iapply (wp_loadRow d L rows G Ψ (h 0) (n 0) (hoff 0) _) $$ H; iintro H
  iapply (wp_loadRow d L rows G Ψ (h 1) (n 1) (hoff 1) _) $$ H; iintro H
  iapply (wp_loadRow d L rows G Ψ (h 2) (n 2) (hoff 2) _) $$ H; iintro H
  iapply (wp_loadRow d L rows G Ψ (h 3) (n 3) (hoff 3) _) $$ H; iintro H
  iapply (wp_loadRow d L rows G Ψ (h 4) (n 4) (hoff 4) _) $$ H; iintro H
  iapply (wp_loadRow d L rows G Ψ (h 5) (n 5) (hoff 5) _) $$ H; iintro H
  iapply (wp_loadRow d L rows G Ψ (h 6) (n 6) (hoff 6) _) $$ H; iintro H
  iapply (wp_loadRow d L rows G Ψ (h 7) (n 7) (hoff 7) _) $$ H; iintro H
  iapply Hk $$ H

theorem wp_storeRow {b n : ℕ} (hb : b < 2) (hn : n < 128) {iv : IVec S16 32} (hp : Places b n iv) (dec : Decidable (inOut iv)) (k : PUnit → TileProg F L α) :
    (iprop(∃ X, ⌜Good G b n X⌝ ∗ owns (thr d L) outv fullShare X) : sProp 𝕄)
      ⊢ iprop((iprop(∃ X, ⌜Good G b (n + 1) X⌝ ∗ owns (thr d L) outv fullShare X) -∗ wp frame (wpE (defs₀ (F := F)) 𝒱₀ (thr d L) none) Set.univ (k ⟨⟩) Ψ)
        -∗ wp frame (wpE (defs₀ (F := F)) 𝒱₀ (thr d L) none) Set.univ (storeRow L outv iv dec (avgRow G b n) >>= k) Ψ) := by
  have hi := hp.inOut hb hn
  have hs : (storeRow L outv iv dec (avgRow G b n) >>= k)
      = .op (.assume (inOut iv) dec) (fun h => SparseCore.vectorStoreIdx outv ![iv] (avgRow G b n) (fun _ => 1#1) false h.down (View.stores_vmem_bits_univ h_S4096 rfl) >>= k) := rfl
  rw [hs, wp_assume_of (defs := defs₀ (F := F)) 𝒱₀ (thr d L) none Set.univ hi]
  iintro ⟨%X, %hX, H⟩ Hk
  ihave H := (Entails.of_eq (owns_rep (thr d L) outv fullShare X)) $$ H
  ihave H := (Entails.of_eq (show (outv.view.loc (thr d L) ↦[outv.view.set]{fullShare} outv.view.rep X : sProp 𝕄)
    = (outv.access (.whole S4096)).loc (thr d L) ↦[(outv.access (.whole S4096)).set]{fullShare} outv.view.rep X by
      rw [View.set_slice, Rect.set_whole]; rfl)) $$ H
  iapply (SparseCore.wp_vectorStoreIdx (defs := defs₀ (F := F)) 𝒱₀ (thr d L) none Set.univ (base := outv) (f := outv.view.rep X)) $$ H
  iintro H
  iapply Hk
  iexists storeIdx X (idx1 iv) (avgRow G b n) (fun _ => 1#1) false hi
  isplitr
  · ipureintro; exact hX.step hn hp hi
  · have hr : outv.view.read (Elt F) ((outv.access (.whole S4096)).write (Elt F) (outv.view.rep X)
        (storeIdx ((outv.access (.whole S4096)).read (Elt F) (outv.view.rep X)) (idx1 iv) (avgRow G b n) (fun _ => 1#1) false hi) Finset.univ)
        = storeIdx X (idx1 iv) (avgRow G b n) (fun _ => 1#1) false hi := by
      have hw : ∀ f, outv.view.read (Elt F) f = (outv.access (.whole S4096)).read (Elt F) f := fun f => by
        funext x
        change _ = outv.view.read (Elt F) f ((Rect.whole S4096).emb x)
        rw [Rect.emb_whole_apply]
      rw [hw, View.read_write_univ, ← hw, View.read_rep]
    rw [← hr]
    ihave H := (Entails.of_eq (show ((outv.access (.whole S4096)).loc (thr d L) ↦[(outv.access (.whole S4096)).set]{fullShare} ((outv.access (.whole S4096)).write (Elt F) (outv.view.rep X)
        (storeIdx ((outv.access (.whole S4096)).read (Elt F) (outv.view.rep X)) (idx1 iv) (avgRow G b n) (fun _ => 1#1) false hi) Finset.univ) : sProp 𝕄)
      = outv.view.loc (thr d L) ↦[outv.view.set]{fullShare} ((outv.access (.whole S4096)).write (Elt F) (outv.view.rep X)
        (storeIdx ((outv.access (.whole S4096)).read (Elt F) (outv.view.rep X)) (idx1 iv) (avgRow G b n) (fun _ => 1#1) false hi) Finset.univ) by
        rw [View.set_slice, Rect.set_whole]; rfl)) $$ H
    iapply (owns_intro (thr d L) outv fullShare _) $$ H

/-- The gathered rows, and the outgoing buffer with `n` pixels of half `b` done. -/
def chunkInv (b n : ℕ) : sProp 𝕄 := iprop(owns (thr d L) rows fullShare G ∗ ∃ X, ⌜Good G b n X⌝ ∗ owns (thr d L) outv fullShare X)

theorem wp_redTrip {b t : ℕ} (hb : b < 2) (ht : t < 32) (off : Fin 4 → Fin 8 → Fin 2 → ℕ) (h : ∀ r k a, off r k a + S1x16.size a ≤ S2048x16.size a)
    (hoff : ∀ r k, off r k = ![4 * t + r.val + 128 * k.val + 1024 * b, 0]) (dec) :
    (chunkInv d L rows outv G b (4 * t) : sProp 𝕄)
      ⊢ wp frame (wpE (defs₀ (F := F)) 𝒱₀ (thr d L) none) Set.univ (redTrip L rows outv off h (fourAt (BitVec.ofNat 32 (2048 * b)) (pix t)) dec)
          (fun _ => chunkInv d L rows outv G b (4 * (t + 1))) := by
  unfold redTrip chunkInv
  iintro ⟨H, Ho⟩
  iapply (wp_load8 d L rows G _ (h 0) (fun k => 4 * t + 0 + 128 * k.val + 1024 * b) (hoff 0) _) $$ H; iintro H
  iapply (wp_load8 d L rows G _ (h 1) (fun k => 4 * t + 1 + 128 * k.val + 1024 * b) (hoff 1) _) $$ H; iintro H
  iapply (wp_load8 d L rows G _ (h 2) (fun k => 4 * t + 2 + 128 * k.val + 1024 * b) (hoff 2) _) $$ H; iintro H
  iapply (wp_load8 d L rows G _ (h 3) (fun k => 4 * t + 3 + 128 * k.val + 1024 * b) (hoff 3) _) $$ H; iintro H
  iapply (wp_storeRow d L outv G _ hb (by omega) (places_four t ht b hb 0) (dec 0) _) $$ Ho; iintro Ho
  iapply (wp_storeRow d L outv G _ hb (by omega) (places_four t ht b hb 1) (dec 1) _) $$ Ho; iintro Ho
  iapply (wp_storeRow d L outv G _ hb (by omega) (places_four t ht b hb 2) (dec 2) _) $$ Ho; iintro Ho
  iapply (wp_storeRow d L outv G _ hb (by omega) (places_four t ht b hb 3) (dec 3) _) $$ Ho; iintro Ho
  iapply (Entails.of_eq (wp_pure _ _ _ _ _).symm)
  imodintro
  isplitl [H]
  · iexact H
  · iexact Ho

/-- One loop: a half's pixels, four a trip. -/
theorem wp_half {b : ℕ} (hb : b < 2) (l : Scf.Loop 32) (hl : l.trips = 32) (hok : l.OK) (body : Fin l.trips → PUnit → TileProg F L PUnit)
    (hbody : ∀ t : Fin l.trips, ∃ off : Fin 4 → Fin 8 → Fin 2 → ℕ, ∃ h dec, (∀ r k, off r k = ![4 * t.val + r.val + 128 * k.val + 1024 * b, 0]) ∧
      body t ⟨⟩ = redTrip L rows outv off h (fourAt (BitVec.ofNat 32 (2048 * b)) (pix t.val)) dec)
    (k : PUnit → TileProg F L α) :
    (chunkInv d L rows outv G b 0 : sProp 𝕄)
      ⊢ iprop((chunkInv d L rows outv G (b + 1) 0 -∗ wp frame (wpE (defs₀ (F := F)) 𝒱₀ (thr d L) none) Set.univ (k ⟨⟩) Ψ)
        -∗ wp frame (wpE (defs₀ (F := F)) 𝒱₀ (thr d L) none) Set.univ (Scf.Loop.for l hok ⟨⟩ body >>= k) Ψ) := by
  have hstep : ∀ (t : Fin (Scf.trips l.lb l.ub l.st)) (acc : PUnit), (chunkInv d L rows outv G b (4 * t.val) : sProp 𝕄)
      ⊢ wp frame (wpE (defs₀ (F := F)) 𝒱₀ (thr d L) none) Set.univ (body t acc) (fun _ => chunkInv d L rows outv G b (4 * (t.val + 1))) := fun t acc => by
    obtain ⟨off, h, dec, hoff, e⟩ := hbody t
    have ht : t.val < 32 := lt_of_lt_of_eq t.isLt hl
    rw [show body t acc = _ from e]
    exact wp_redTrip d L rows outv G hb ht off h hoff dec
  have hfin : (chunkInv d L rows outv G b (4 * Scf.trips l.lb l.ub l.st) : sProp 𝕄) ⊢ chunkInv d L rows outv G (b + 1) 0 := by
    rw [show Scf.trips l.lb l.ub l.st = 32 from hl]
    unfold chunkInv
    iintro ⟨H, %X, %hX, Ho⟩
    isplitl [H]
    · iexact H
    · iexists X; isplitr
      · ipureintro; exact hX.next
      · iexact Ho
  iintro H Hk
  iapply (Scf.wp_for_bind frame (wpE (defs₀ (F := F)) 𝒱₀ (thr d L) none) Set.univ l.lb l.ub l.st hok ⟨⟩ body (fun t _ => chunkInv d L rows outv G b (4 * t)) hstep) $$ H
  iintro %acc H
  iapply Hk
  iapply hfin $$ H

/-- A chunk's two loops. -/
theorem wp_reduce (l l' : Scf.Loop 32) (hl : l.trips = 32) (hl' : l'.trips = 32) (hok : l.OK) (hok' : l'.OK)
    (body : Fin l.trips → PUnit → TileProg F L PUnit) (body' : Fin l'.trips → PUnit → TileProg F L PUnit)
    (hbody : ∀ t : Fin l.trips, ∃ off : Fin 4 → Fin 8 → Fin 2 → ℕ, ∃ h dec, (∀ r k, off r k = ![4 * t.val + r.val + 128 * k.val + 1024 * 0, 0]) ∧
      body t ⟨⟩ = redTrip L rows outv off h (fourAt (BitVec.ofNat 32 (2048 * 0)) (pix t.val)) dec)
    (hbody' : ∀ t : Fin l'.trips, ∃ off : Fin 4 → Fin 8 → Fin 2 → ℕ, ∃ h dec, (∀ r k, off r k = ![4 * t.val + r.val + 128 * k.val + 1024 * 1, 0]) ∧
      body' t ⟨⟩ = redTrip L rows outv off h (fourAt (BitVec.ofNat 32 (2048 * 1)) (pix t.val)) dec)
    (k : PUnit → TileProg F L α) :
    (iprop(owns (thr d L) rows fullShare G ∗ ∃ X, owns (thr d L) outv fullShare X) : sProp 𝕄)
      ⊢ iprop((iprop(owns (thr d L) rows fullShare G ∗ owns (thr d L) outv fullShare (redVal G)) -∗ wp frame (wpE (defs₀ (F := F)) 𝒱₀ (thr d L) none) Set.univ (k ⟨⟩) Ψ)
        -∗ wp frame (wpE (defs₀ (F := F)) 𝒱₀ (thr d L) none) Set.univ (Scf.Loop.for l hok ⟨⟩ body >>= fun _ => Scf.Loop.for l' hok' ⟨⟩ body' >>= k) Ψ) := by
  have hst : (iprop(owns (thr d L) rows fullShare G ∗ ∃ X, owns (thr d L) outv fullShare X) : sProp 𝕄) ⊢ chunkInv d L rows outv G 0 0 := by
    unfold chunkInv
    iintro ⟨H, %X, Ho⟩
    isplitl [H]
    · iexact H
    · iexists X; isplitr
      · ipureintro; exact Good.zero G X
      · iexact Ho
  have hfin : (chunkInv d L rows outv G 2 0 : sProp 𝕄) ⊢ iprop(owns (thr d L) rows fullShare G ∗ owns (thr d L) outv fullShare (redVal G)) := by
    unfold chunkInv
    iintro ⟨H, %X, %hX, Ho⟩
    rw [hX.full]
    isplitl [H]
    · iexact H
    · iexact Ho
  iintro H Hk
  ihave H := hst $$ H
  iapply (wp_half d L rows outv G Ψ (by decide) l hl hok body hbody _) $$ H
  iintro H
  iapply (wp_half d L rows outv G Ψ (by decide) l' hl' hok' body' hbody' _) $$ H
  iintro H
  iapply Hk
  iapply hfin $$ H

end Cert.Render

end
-- ==== Proof.Copies.lean ====
/-
  The plain copies of a tile: its indices in, two chunks at a time, and its averages out, four copies a chunk on one
  semaphore.
-/
module

public import proofs.«01_k».proof.Proof.Reduce

@[expose] public section

noncomputable section

namespace Cert.Render

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending Flight)

variable {F : FTy → Type} [FloatOps F]

variable (d : Dev nD) (L : grid1.Coords)
variable {α : Type} (Ψ : α → sProp (MT nD τ sig (HIx 1) (Elt F) ℕ UU ℕ))

local notation "𝕄" => MT nD τ sig (HIx 1) (Elt F) ℕ UU ℕ

/-! ## The indices -/

section Idx

variable (ih : Memref sig .scVector .hbm S4096x8x128 .i32) (idx : Memref sig .scVector .vmem S4x8x128 .i32) (hidx : idx.IsWhole) (sem : DmaSem sig)
variable (off : Fin 3 → ℕ) (h : ∀ a, off a + S4x8x128.size a ≤ S4096x8x128.size a) (J : S4x8x128.Idx → Elt F .i32)
variable (k : PUnit → TileProg F L α)

/-- Four blocks of the index array. -/
abbrev ihWin : Memref sig .scVector .hbm S4x8x128 .i32 := ih.slice (Rect.unit (s := S4096x8x128) off S4x8x128.size h) (fun _ => rfl)

/-- The index copy in flight: it delivers the buffer at `J`. -/
def idxFly : sProp 𝕄 := Flight (EC (F := F)) (thr d L) (.dma sem) none (4 * 8 * 128 * 32) (owns (thr d L) idx fullShare J)

theorem wp_idxCopy :
    (iprop(owns (thr d L) (ihWin ih off h) fullShare J ∗ (∃ I, owns (thr d L) idx fullShare I) ∗ semVal (thr d L, .dma sem) 0) : sProp 𝕄)
      ⊢ iprop((idxFly d L idx sem J -∗ wp frame (wpE (defs₀ (F := F)) 𝒱₀ (thr d L) none) Set.univ (k ⟨⟩) Ψ)
        -∗ wp frame (wpE (defs₀ (F := F)) 𝒱₀ (thr d L) none) Set.univ (idxStep L idx sem ih hidx off h >>= k) Ψ) := by
  have hs : (idxStep (F := F) L idx sem ih hidx off h >>= k)
      = .op (.enqueueDma (ihWin ih off h) (.here idx) (.dma sem) (View.wordExact_bits rfl) hidx.wordExact ⟨Or.inl rfl, trivial⟩) k := rfl
  rw [hs]
  unfold idxFly
  iintro ⟨Hs, ⟨%I, Hd⟩, Hv⟩ Hk
  ihave Hs := (Entails.of_eq (owns_rep (thr d L) (ihWin ih off h) fullShare J)) $$ Hs
  ihave Hd := (Entails.of_eq (owns_rep (thr d L) idx fullShare I)) $$ Hd
  iapply (Transfers.wp_dmaLocal (EC (F := F)) (defs := defs₀ (F := F)) 𝒱₀ (thr d L) none (src := ihWin ih off h) (dst := idx) (Q := Ψ) (k := k)
    none (4 * 8 * 128 * 32) rfl (by decide) subset_rfl) $$ [Hs Hd Hv]
  · isplitl [Hs]; · iexact Hs
    isplitl [Hd]; · iexact Hd
    iexact Hv
  iintro Hf
  iapply Hk
  iapply (Transfers.Flight_mono (EC (F := F)) (thr d L) ?_) $$ Hf
  iintro ⟨Hd, -⟩
  have hr : idx.view.read (Elt F) (idx.view.write (Elt F) (idx.view.rep I) ((ihWin ih off h).view.read (Elt F) ((ihWin ih off h).view.rep J)) Finset.univ) = J := by
    rw [View.read_write_univ, View.read_rep]
  have := owns_intro (U := UU) (Name := ℕ) (Ix := HIx 1) (Lvl := ℕ) (thr d L) idx fullShare (idx.view.write (Elt F) (idx.view.rep I) ((ihWin ih off h).view.read (Elt F) ((ihWin ih off h).view.rep J)) Finset.univ)
  rw [hr] at this
  iapply this $$ Hd

theorem wp_idxWait (O : CellTallies nD τ sig (HIx 1)) (W : Waits sig (HIx 1)) :
    iprop(Transfers.MayWaits (thr d L) none O ∗ idxFly d L idx sem J
        ∗ (∃ W', ⌜∀ p ∈ W', p ∈ W ∨ p.2 = none⌝ ∗ owes (thr d L) O W'))
      ⊢ iprop((iprop(owns (thr d L) idx fullShare J ∗ semVal (thr d L, .dma sem) 0
            ∗ (∃ W', ⌜∀ p ∈ W', p ∈ W ∨ p.2 = none⌝ ∗ owes (thr d L) O W')) -∗ wp frame (wpE (defs₀ (F := F)) 𝒱₀ (thr d L) none) Set.univ (k ⟨⟩) Ψ)
          -∗ wp frame (wpE (defs₀ (F := F)) 𝒱₀ (thr d L) none) Set.univ (idxWaitStep L idx sem ih hidx off h >>= k) Ψ) := by
  have hs : (idxWaitStep (F := F) L idx sem ih hidx off h >>= k)
      = .op (.waitDma2 sem (ihWin ih off h) idx (View.wordExact_bits rfl) hidx.wordExact) k := rfl
  rw [hs]
  unfold idxFly
  iintro ⟨#Hmw, Hf, %W', %hW', HO⟩ Hk
  iapply (Transfers.wp_waitLocalO (EC (F := F)) 𝒱₀ (thr d L) none none (N := 4 * 8 * 128 * 32) rfl) $$ [Hf HO]
  · isplitl [Hf]; · iexact Hf
    isplitl [HO]; · iexact HO
    iapply (Transfers.MayWaits.elim (.dma sem)) $$ Hmw
  iintro ⟨HD, Hv, HO⟩
  iapply Hk
  isplitl [HD]; · iexact HD
  isplitl [Hv]; · iexact Hv
  iexists insert (SemLoc.dma sem, none) W'
  isplitr
  · ipureintro; exact waits_insert hW' _
  iexact HO

end Idx

instance owns_storable {sp : Space} {s : Shape} {e : EltTy} (m : Memref sig .scVector sp s e) (q : PosShare TreeShare) (X : s.Idx → Elt F e) :
    Storable (upEmb : UEmb _ 𝕄) (owns (thr d L) m q X : sProp 𝕄) := by
  rw [owns_rep]; infer_instance

/-- A separating product over four indices. -/
theorem bigSep_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

/-! ## The averages -/

theorem coords_lt : (L 0).val < 2 ∧ (L 1).val < 16 := ⟨(L 0).isLt, (L 1).isLt⟩

/-- Where channels `8 ct …` of the tile's block `n` go. -/
def oOff (n ct : ℕ) : Fin 4 → ℕ := ![64 * (L 1).val + 32 * (L 0).val + n % 128 / 4, ct % 2, n % 4, 0]

theorem oOff_inb (n ct : ℕ) : ∀ a, oOff L n ct a + S1x1x1x1024.size a ≤ S1024x2x4x1024.size a := by
  obtain ⟨h0, h1⟩ := coords_lt L
  intro a
  match a with
  | 0 => change 64 * (L 1).val + 32 * (L 0).val + n % 128 / 4 + 1 ≤ 1024; omega
  | 1 => change ct % 2 + 1 ≤ 2; omega
  | 2 => change n % 4 + 1 ≤ 4; omega
  | 3 => change 0 + 1024 ≤ 1024; omega

abbrev oWin (out : Memref sig .scVector .hbm S1024x2x4x1024 .f32) (n ct : ℕ) : Memref sig .scVector .hbm S1024 .f32 := outWin out (oOff L n ct) (oOff_inb L n ct)

/-- Its contents, of the whole output's. -/
def oVal (V : S1024x2x4x1024.Idx → Elt F .f32) (n ct : ℕ) : S1024.Idx → Elt F .f32 := fun j =>
  V (ix4 ⟨64 * (L 1).val + 32 * (L 0).val + n % 128 / 4, by have := coords_lt L; omega⟩ ⟨ct % 2, Nat.mod_lt _ (by decide)⟩ ⟨n % 4, Nat.mod_lt _ (by decide)⟩ (j 0))

section Out

variable (out : Memref sig .scVector .hbm S1024x2x4x1024 .f32) (outv : Memref sig .scVector .vmem S4096 .f32) (sem : DmaSem sig)
variable (V : S1024x2x4x1024.Idx → Elt F .f32) (g : ℕ)

/-- What copy `q` of chunk `g` delivers. -/
def outGot (q : ℕ) : sProp 𝕄 :=
  iprop(owns (thr d L) (outvWin outv q) fullShare (oVal L V (2 * g + q / 2) (q % 2)) ∗ owns (thr d L) (oWin L out (2 * g + q / 2) (q % 2)) fullShare (oVal L V (2 * g + q / 2) (q % 2)))

instance outGot_storable (q : ℕ) : Storable (upEmb : UEmb _ 𝕄) (outGot d L out outv V g q : sProp 𝕄) := by
  unfold outGot; infer_instance

/-- The units of one copy out. -/
abbrev outUnits : ℕ := 1024 * 32

/-- A chunk's copies in flight. -/
def outFly : sProp 𝕄 := Batch (EC (F := F)) (thr d L) (.dma sem) none outUnits (fun q : Fin 4 => outGot d L out outv V g q.val) 4 0

/-- A chunk's part of the output, at whatever it holds, -/
def outPend : sProp 𝕄 := bigSep Finset.univ fun q : Fin 4 => iprop(∃ Y, owns (thr d L) (oWin L out (2 * g + q.val / 2) (q.val % 2)) fullShare Y)
/-- and at its final value. -/
def outDone : sProp 𝕄 := bigSep Finset.univ fun q : Fin 4 => owns (thr d L) (oWin L out (2 * g + q.val / 2) (q.val % 2)) fullShare (oVal L V (2 * g + q.val / 2) (q.val % 2))

theorem wp_outStep (q : ℕ) (hq : q < 4) (off : Fin 4 → ℕ) (h : ∀ a, off a + S1x1x1x1024.size a ≤ S1024x2x4x1024.size a) (hoff : off = oOff L (2 * g + q / 2) (q % 2))
    (k : PUnit → TileProg F L α) :
    iprop(owns (thr d L) (outvWin outv q) fullShare (oVal L V (2 * g + q / 2) (q % 2)) ∗ (∃ Y, owns (thr d L) (oWin L out (2 * g + q / 2) (q % 2)) fullShare Y)
        ∗ Batch (EC (F := F)) (thr d L) (.dma sem) none outUnits (fun q : Fin 4 => outGot d L out outv V g q.val) q 0)
      ⊢ iprop((Batch (EC (F := F)) (thr d L) (.dma sem) none outUnits (fun q : Fin 4 => outGot d L out outv V g q.val) (q + 1) 0
            -∗ wp frame (wpE (defs₀ (F := F)) 𝒱₀ (thr d L) none) Set.univ (k ⟨⟩) Ψ)
        -∗ wp frame (wpE (defs₀ (F := F)) 𝒱₀ (thr d L) none) Set.univ (outStep L outv out sem q off h >>= k) Ψ) := by
  subst hoff
  have hs : (outStep (F := F) L outv out sem q (oOff L (2 * g + q / 2) (q % 2)) h >>= k)
      = .op (.enqueueDma (outvWin outv q) (.here (oWin L out (2 * g + q / 2) (q % 2))) (.dma sem) (View.wordExact_bits rfl) ((View.wordExact_bits rfl).reshape _ _) ⟨Or.inl rfl, trivial⟩) k := rfl
  rw [hs]
  iintro ⟨Hs, ⟨%Y, Hd⟩, HB⟩ Hk
  ihave Hs := (Entails.of_eq (owns_rep (thr d L) (outvWin outv q) fullShare _)) $$ Hs
  ihave Hd := (Entails.of_eq (owns_rep (thr d L) (oWin L out (2 * g + q / 2) (q % 2)) fullShare Y)) $$ Hd
  have hD : iprop(((oWin L out (2 * g + q / 2) (q % 2)).view.loc (thr d L) ↦[(oWin L out (2 * g + q / 2) (q % 2)).view.set]{fullShare} ((oWin L out (2 * g + q / 2) (q % 2)).view.write (Elt F) ((oWin L out (2 * g + q / 2) (q % 2)).view.rep Y)
        (ReadAs.same.apply ((outvWin outv q).view.read (Elt F) ((outvWin outv q).view.rep (oVal L V (2 * g + q / 2) (q % 2))))) Finset.univ))
      ∗ ((outvWin outv q).view.loc (thr d L) ↦[(outvWin outv q).view.set]{fullShare} ((outvWin outv q).view.rep (oVal L V (2 * g + q / 2) (q % 2)))))
      ⊢ (outGot d L out outv V g q : sProp 𝕄) := by
    unfold outGot
    rw [owns_rep (thr d L) (outvWin outv q)]
    have hr : (oWin L out (2 * g + q / 2) (q % 2)).view.read (Elt F) ((oWin L out (2 * g + q / 2) (q % 2)).view.write (Elt F) ((oWin L out (2 * g + q / 2) (q % 2)).view.rep Y)
        ((outvWin outv q).view.read (Elt F) ((outvWin outv q).view.rep (oVal L V (2 * g + q / 2) (q % 2)))) Finset.univ) = oVal L V (2 * g + q / 2) (q % 2) := by
      rw [View.read_write_univ, View.read_rep]
    have := owns_intro (U := UU) (Name := ℕ) (Ix := HIx 1) (Lvl := ℕ) (thr d L) (oWin L out (2 * g + q / 2) (q % 2)) fullShare ((oWin L out (2 * g + q / 2) (q % 2)).view.write (Elt F) ((oWin L out (2 * g + q / 2) (q % 2)).view.rep Y)
        ((outvWin outv q).view.read (Elt F) ((outvWin outv q).view.rep (oVal L V (2 * g + q / 2) (q % 2)))) Finset.univ)
    rw [hr] at this
    iintro ⟨Hd, Hs⟩
    isplitl [Hs]
    · iexact Hs
    · iapply this $$ Hd
  iapply (Transfers.wp_dmaBatch (EC (F := F)) (defs := defs₀ (F := F)) 𝒱₀ (thr d L) none (src := outvWin outv q) (dst := oWin L out (2 * g + q / 2) (q % 2)) (Q := Ψ) (k := k)
    (D := fun q : Fin 4 => outGot d L out outv V g q.val) none outUnits rfl subset_rfl hq (Nat.zero_le _) hD) $$ [Hs Hd HB]
  · isplitl [Hs]; · iexact Hs
    isplitl [Hd]; · iexact Hd
    iexact HB
  iintro HB
  iapply Hk $$ HB

/-- A quarter of the outgoing buffer. -/
abbrev outRect (q : Fin 4) : Rect S4096 := Rect.unit (s := S4096) ![1024 * (q.val % 4)] S1024.size (outvWin_inb q.val)

theorem outRect_disj (q q' : Fin 4) (h : q ≠ q') : Disjoint (outRect q).set (outRect q').set :=
  Rect.disjoint_of_axis _ _ 0 fun j hj j' hj' e => by
    change j < 1024 at hj; change j' < 1024 at hj'
    change 1024 * (q.val % 4) + 1 * j = 1024 * (q'.val % 4) + 1 * j' at e
    have := q.isLt; have := q'.isLt
    exact h (Fin.ext (by omega))

theorem outRect_cov : (Finset.univ : Finset (Fin 4)).biUnion (fun q => (outRect q).set) = Finset.univ := by
  ext x
  simp only [Finset.mem_biUnion, Finset.mem_univ, true_and, iff_true]
  have hx : (x 0).val < 4096 := (x 0).isLt
  refine ⟨⟨(x 0).val / 1024, by omega⟩, mem_rect _ (fun a => ⟨(x 0).val % 1024, by obtain rfl : a = 0 := Subsingleton.elim _ _; exact Nat.mod_lt _ (by decide)⟩) ?_⟩
  funext a
  obtain rfl : a = 0 := Subsingleton.elim _ _
  refine Fin.ext ?_
  change 1024 * ((x 0).val / 1024 % 4) + 1 * ((x 0).val % 1024) = (x 0).val
  omega

variable (A B : Fin 2 → Fin 4 → ℕ) (hA : ∀ r, ∀ a, A r a + S1x1x1x1024.size a ≤ S1024x2x4x1024.size a)
  (hB : ∀ r, ∀ a, B r a + S1x1x1x1024.size a ≤ S1024x2x4x1024.size a)

/-- A chunk's four copies issued. -/
theorem wp_outAll (X : S4096.Idx → Elt F .f32)
    (hX : ∀ (q : Fin 4) (j : S1024.Idx), X ((outRect q).emb j) = oVal L V (2 * g + q.val / 2) (q.val % 2) j)
    (eA : ∀ r : Fin 2, A r = oOff L (2 * g + r.val) 0) (eB : ∀ r : Fin 2, B r = oOff L (2 * g + r.val) 1)
    (k : PUnit → TileProg F L α) :
    iprop(owns (thr d L) outv fullShare X ∗ outPend d L out g ∗ semVal (thr d L, .dma sem) 0)
      ⊢ iprop((outFly d L out outv sem V g -∗ wp frame (wpE (defs₀ (F := F)) 𝒱₀ (thr d L) none) Set.univ (k ⟨⟩) Ψ)
        -∗ wp frame (wpE (defs₀ (F := F)) 𝒱₀ (thr d L) none) Set.univ (outAll L outv out sem A B hA hB >>= k) Ψ) := by
  simp only [outAll, bind_assoc]
  unfold outFly outPend
  have hsplit : (owns (thr d L) outv fullShare X : sProp 𝕄) ⊢ bigSep Finset.univ fun q : Fin 4 => owns (thr d L) (outvWin outv q.val) fullShare (oVal L V (2 * g + q.val / 2) (q.val % 2)) :=
    (owns_rects (thr d L) outv fullShare outRect (fun _ _ => rfl) outRect_disj outRect_cov X).trans
      (bigSep_mono' fun q _ => Entails.of_eq (congrArg (fun Z => owns (thr d L) (outvWin outv q.val) fullShare Z) (funext (hX q))))
  iintro ⟨HX, HP, Hv⟩ Hk
  ihave HX := hsplit $$ HX
  ihave HX := (Entails.of_eq (bigSep_four _)) $$ HX
  ihave HP := (Entails.of_eq (bigSep_four _)) $$ HP
  imod (Transfers.batch_alloc' (EC (F := F)) (thr d L) none outUnits (fun q : Fin 4 => outGot d L out outv V g q.val)) $$ Hv with HB
  icases HX with ⟨H0, H1, H2, H3⟩
  icases HP with ⟨P0, P1, P2, P3⟩
  iapply (wp_outStep d L Ψ out outv sem V g 0 (by decide) (A 0) (hA 0) (eA 0) _) $$ [H0 P0 HB]
  · isplitl [H0]; · iexact H0
    isplitl [P0]; · iexact P0
    iexact HB
  iintro HB
  iapply (wp_outStep d L Ψ out outv sem V g 1 (by decide) (B 0) (hB 0) (eB 0) _) $$ [H1 P1 HB]
  · isplitl [H1]; · iexact H1
    isplitl [P1]; · iexact P1
    iexact HB
  iintro HB
  iapply (wp_outStep d L Ψ out outv sem V g 2 (by decide) (A 1) (hA 1) (eA 1) _) $$ [H2 P2 HB]
  · isplitl [H2]; · iexact H2
    isplitl [P2]; · iexact P2
    iexact HB
  iintro HB
  iapply (wp_outStep d L Ψ out outv sem V g 3 (by decide) (B 1) (hB 1) (eB 1) _) $$ [H3 P3 HB]
  · isplitl [H3]; · iexact H3
    isplitl [P3]; · iexact P3
    iexact HB
  iintro HB
  iapply Hk $$ HB

theorem outWaitStep_bind (q : ℕ) (off : Fin 4 → ℕ) (h : ∀ a, off a + S1x1x1x1024.size a ≤ S1024x2x4x1024.size a) (k : PUnit → TileProg F L α) :
    (outWaitStep (F := F) L outv out sem q off h >>= k)
      = .op (.waitDma2 sem (outvWin outv q) (outWin out off h) (View.wordExact_bits rfl) ((View.wordExact_bits rfl).reshape _ _)) k := rfl

omit [FloatOps F] in
theorem outUnits_win (off : Fin 4 → ℕ) (h : ∀ a, off a + S1x1x1x1024.size a ≤ S1024x2x4x1024.size a) :
    (outWin out off h).view.dmaCredit = outUnits := rfl

/-- What a chunk's copies deliver. -/
theorem outGot_join : bigSep Finset.univ (fun q : Fin 4 => outGot d L out outv V g q.val)
    ⊢ (iprop((∃ X, owns (thr d L) outv fullShare X) ∗ outDone d L out V g) : sProp 𝕄) := by
  unfold outGot outDone
  rw [bigSep_both]
  have hj := owns_of_rects (U := UU) (Name := ℕ) (Ix := HIx 1) (Lvl := ℕ) (thr d L) outv fullShare outRect (fun _ _ => rfl) outRect_disj outRect_cov
    (fun x : S4096.Idx => oVal L V (2 * g + (x 0).val / 1024 / 2) ((x 0).val / 1024 % 2) (ix1 (⟨(x 0).val % 1024, Nat.mod_lt _ (by decide)⟩ : Fin 1024)))
  have hv : ∀ (q : Fin 4), (fun j : S1024.Idx => (fun x : S4096.Idx => oVal L V (2 * g + (x 0).val / 1024 / 2) ((x 0).val / 1024 % 2) (ix1 (⟨(x 0).val % 1024, Nat.mod_lt _ (by decide)⟩ : Fin 1024))) ((outRect q).emb j))
      = oVal L V (2 * g + q.val / 2) (q.val % 2) := fun q => by
    funext j
    have hq := q.isLt
    have hj : (j 0).val < 1024 := (j 0).isLt
    have e : (((outRect q).emb j) 0).val = 1024 * q.val + (j 0).val := by
      change 1024 * (q.val % 4) + 1 * (j 0).val = _; omega
    have e1 : (1024 * q.val + (j 0).val) / 1024 = q.val := by omega
    have e2 : (ix1 (⟨(((outRect q).emb j) 0).val % 1024, Nat.mod_lt _ (by decide)⟩ : Fin 1024) : S1024.Idx) = j := by
      funext a; obtain rfl : a = 0 := Subsingleton.elim _ _
      refine Fin.ext ?_
      change (((outRect q).emb j) 0).val % 1024 = (j 0).val
      rw [e]; omega
    change oVal L V (2 * g + (((outRect q).emb j) 0).val / 1024 / 2) ((((outRect q).emb j) 0).val / 1024 % 2) (ix1 (⟨(((outRect q).emb j) 0).val % 1024, Nat.mod_lt _ (by decide)⟩ : Fin 1024)) = _
    rw [e2, e, e1]
  have hj' := (bigSep_mono' (s := Finset.univ) fun (q : Fin 4) _ => Entails.of_eq (congrArg (fun Z => owns (U := UU) (Name := ℕ) (Ix := HIx 1) (Lvl := ℕ) (thr d L) (outvWin outv q.val) fullShare Z) (hv q).symm)).trans hj
  iintro ⟨Hq, Hw⟩
  isplitl [Hq]
  · iexists _
    iapply hj' $$ Hq
  · iexact Hw

variable (O : CellTallies nD τ sig (HIx 1)) (W : Waits sig (HIx 1))

/-- A chunk's four copies awaited. -/
theorem wp_outWaitAll (k : PUnit → TileProg F L α) :
    iprop(Transfers.MayWaits (thr d L) none O ∗ outFly d L out outv sem V g ∗ (∃ W', ⌜∀ p ∈ W', p ∈ W ∨ p.2 = none⌝ ∗ owes (thr d L) O W'))
      ⊢ iprop((iprop((∃ X, owns (thr d L) outv fullShare X) ∗ outDone d L out V g ∗ semVal (thr d L, .dma sem) 0
            ∗ (∃ W', ⌜∀ p ∈ W', p ∈ W ∨ p.2 = none⌝ ∗ owes (thr d L) O W')) -∗ wp frame (wpE (defs₀ (F := F)) 𝒱₀ (thr d L) none) Set.univ (k ⟨⟩) Ψ)
        -∗ wp frame (wpE (defs₀ (F := F)) 𝒱₀ (thr d L) none) Set.univ (outWaitAll L outv out sem A B hA hB >>= k) Ψ) := by
  simp only [outWaitAll, bind_assoc, outWaitStep_bind]
  unfold outFly
  iintro ⟨#Hmw, HB, %W', %hW', HO⟩ Hk
  have h0 : 0 + 1 * outUnits ≤ outUnits * 4 := by decide
  have h1 : 0 + 1 * outUnits + 1 * outUnits ≤ outUnits * 4 := by decide
  have h2 : 0 + 1 * outUnits + 1 * outUnits + 1 * outUnits ≤ outUnits * 4 := by decide
  have h3 : 0 + 1 * outUnits + 1 * outUnits + 1 * outUnits + outUnits = outUnits * 4 := by decide
  iapply (Transfers.wp_waitBatchMulO (EC (F := F)) 𝒱₀ (thr d L) none none 1 ((outUnits_win out (A 0) (hA 0)).trans (Nat.one_mul _).symm) (D := fun q : Fin 4 => outGot d L out outv V g q.val) h0) $$ [HB HO]
  · isplitl [HB]; · iexact HB
    isplitl [HO]; · iexact HO
    iapply (Transfers.MayWaits.elim (.dma sem)) $$ Hmw
  iintro ⟨HB, HO⟩
  iapply (Transfers.wp_waitBatchMulO (EC (F := F)) 𝒱₀ (thr d L) none none 1 ((outUnits_win out (B 0) (hB 0)).trans (Nat.one_mul _).symm) (D := fun q : Fin 4 => outGot d L out outv V g q.val) h1) $$ [HB HO]
  · isplitl [HB]; · iexact HB
    isplitl [HO]; · iexact HO
    iapply (Transfers.MayWaits.elim (.dma sem)) $$ Hmw
  iintro ⟨HB, HO⟩
  iapply (Transfers.wp_waitBatchMulO (EC (F := F)) 𝒱₀ (thr d L) none none 1 ((outUnits_win out (A 1) (hA 1)).trans (Nat.one_mul _).symm) (D := fun q : Fin 4 => outGot d L out outv V g q.val) h2) $$ [HB HO]
  · isplitl [HB]; · iexact HB
    isplitl [HO]; · iexact HO
    iapply (Transfers.MayWaits.elim (.dma sem)) $$ Hmw
  iintro ⟨HB, HO⟩
  iapply (Transfers.wp_waitBatchAllO (EC (F := F)) 𝒱₀ (thr d L) none none (outUnits_win out (B 1) (hB 1)) (D := fun q : Fin 4 => outGot d L out outv V g q.val) (by decide) h3) $$ [HB HO]
  · isplitl [HB]; · iexact HB
    isplitl [HO]; · iexact HO
    iapply (Transfers.MayWaits.elim (.dma sem)) $$ Hmw
  iintro ⟨HD, Hv, HO⟩
  ihave H := (outGot_join d L out outv V g) $$ HD
  icases H with ⟨HX, HD⟩
  iapply Hk
  isplitl [HX]; · iexact HX
  isplitl [HD]; · iexact HD
  isplitl [Hv]; · iexact Hv
  iexists insert (SemLoc.dma sem, none) (insert (SemLoc.dma sem, none) (insert (SemLoc.dma sem, none) (insert (SemLoc.dma sem, none) W')))
  isplitr
  · ipureintro; exact waits_insert (waits_insert (waits_insert (waits_insert hW' _) _) _) _
  iexact HO

end Out

/-! ## The halves of an index buffer -/

section Halves

variable (idx : Memref sig .scVector .vmem S4x8x128 .i32) (I : S4x8x128.Idx → Elt F .i32)

/-- List `t.2` of chunk half `t.1`. -/
abbrev listRect (t : Fin 2 × Fin 16) : Rect S4x8x128 := Rect.unit (s := S4x8x128) ![2 * (t.1.val % 2) + t.2.val % 16 / 8, t.2.val % 8, 0] S1x1x128.size (idxWin_inb t.1.val t.2.val)

theorem listRect_disj (t t' : Fin 2 × Fin 16) (h : t ≠ t') : Disjoint (listRect t).set (listRect t').set := by
  have h1 := t.1.isLt; have h2 := t'.1.isLt; have h3 := t.2.isLt; have h4 := t'.2.isLt
  by_cases e : 2 * (t.1.val % 2) + t.2.val % 16 / 8 = 2 * (t'.1.val % 2) + t'.2.val % 16 / 8
  · refine Rect.disjoint_of_axis _ _ 1 fun j hj j' hj' e' => h ?_
    change j < 1 at hj; change j' < 1 at hj'
    change t.2.val % 8 + 1 * j = t'.2.val % 8 + 1 * j' at e'
    refine Prod.ext (Fin.ext ?_) (Fin.ext ?_) <;> omega
  · refine Rect.disjoint_of_axis _ _ 0 fun j hj j' hj' e' => e ?_
    change j < 1 at hj; change j' < 1 at hj'
    change 2 * (t.1.val % 2) + t.2.val % 16 / 8 + 1 * j = 2 * (t'.1.val % 2) + t'.2.val % 16 / 8 + 1 * j' at e'
    omega

theorem listRect_cov : (Finset.univ : Finset (Fin 2 × Fin 16)).biUnion (fun t => (listRect t).set) = Finset.univ := by
  ext x
  simp only [Finset.mem_biUnion, Finset.mem_univ, true_and, iff_true]
  have h0 : (x 0).val < 4 := (x 0).isLt
  have h1 : (x 1).val < 8 := (x 1).isLt
  refine ⟨(⟨(x 0).val / 2, by omega⟩, ⟨8 * ((x 0).val % 2) + (x 1).val, by omega⟩), mem_rect _ (ix3 (0 : Fin 1) (0 : Fin 1) (x 2)) ?_⟩
  funext a
  refine Fin.ext ?_
  match a with
  | 0 => change 2 * ((x 0).val / 2 % 2) + (8 * ((x 0).val % 2) + (x 1).val) % 16 / 8 + 1 * 0 = (x 0).val; omega
  | 1 => change (8 * ((x 0).val % 2) + (x 1).val) % 8 + 1 * 0 = (x 1).val; omega
  | 2 => change 0 + 1 * (x 2).val = (x 2).val; omega

theorem owns_list (t : Fin 2 × Fin 16) : (owns (thr d L) (idx.slice (listRect t) (fun _ => rfl)) fullShare (fun j => I ((listRect t).emb j)) : sProp 𝕄)
    = owns (thr d L) (idxWin idx t.1.val t.2.val) fullShare (pick I t.1.val t.2.val) := by
  refine (owns_squeeze (thr d L) (idx.slice (listRect t) (fun _ => rfl)) fullShare (fun j => I ((listRect t).emb j)) squeezes_S1x1x128_S128 (Val := Elt F)).symm.trans ?_
  refine congrArg (fun Z => owns (thr d L) (idxWin idx t.1.val t.2.val) fullShare Z) (funext fun j => ?_)
  have hx : Shape.reshapeEquiv squeezes_S1x1x128_S128.numel_eq j = ix3 (0 : Fin 1) (0 : Fin 1) (j 0) :=
    Shape.reshapeEquiv_eq_of_rowMajor _ ((Shape.rowMajor_val_three (d := ![1, 1, 128]) _).trans
      ((show (0 * 1 + 0) * 128 + (j 0).val = (j 0).val by omega).trans (Shape.rowMajor_val_one (d := ![128]) j).symm))
  change I ((listRect t).emb (Shape.reshapeEquiv squeezes_S1x1x128_S128.numel_eq j)) = _
  rw [hx]
  unfold pick
  congr 1
  funext a
  refine Fin.ext ?_
  match a with
  | 0 => change 2 * (t.1.val % 2) + t.2.val % 16 / 8 + 1 * 0 = 2 * (t.1.val % 2) + t.2.val % 16 / 8; omega
  | 1 => change t.2.val % 8 + 1 * 0 = t.2.val % 8; omega
  | 2 => change 0 + 1 * (j 0).val = (j 0).val; omega

/-- A whole index buffer is its two chunks' lists. -/
theorem idx_halves : (owns (thr d L) idx fullShare I : sProp 𝕄) = iprop(idxHalf d L idx I 0 ∗ idxHalf d L idx I 1) := by
  have mk : ∀ {A B : sProp 𝕄}, (A ⊢ B) → (B ⊢ A) → A = B := fun h h' => BI.equiv_iff.mp ⟨h, h'⟩
  have e : (iprop(idxHalf d L idx I 0 ∗ idxHalf d L idx I 1) : sProp 𝕄)
      = bigSep Finset.univ fun t : Fin 2 × Fin 16 => owns (thr d L) (idx.slice (listRect t) (fun _ => rfl)) fullShare (fun j => I ((listRect t).emb j)) := by
    refine Eq.trans ?_ (bigSep_univ_prod _).symm
    refine Eq.trans ?_ (bigSep_fin_two _).symm
    exact congrArg₂ BI.sep (bigSep_congr fun w _ => (owns_list d L idx I (0, w)).symm) (bigSep_congr fun w _ => (owns_list d L idx I (1, w)).symm)
  rw [e]
  exact mk (owns_rects (thr d L) idx fullShare listRect (fun _ _ => rfl) listRect_disj listRect_cov I)
    (owns_of_rects (thr d L) idx fullShare listRect (fun _ _ => rfl) listRect_disj listRect_cov I)

end Halves

end Cert.Render

end
-- ==== Proof.Places.lean ====
/-
  Where a tile's copies go, and that the averages it sends there are the output's.
-/
module

public import proofs.«01_k».proof.Proof.Copies

@[expose] public section

noncomputable section

namespace Cert.Render

open Cert.KernelIdeal Cert.KernelIdeal.Gen
open Idealize.ShloMosaic
open Idealize.ShloMosaic.ValueIdx

variable {F : FTy → Type} [FloatOps F]

section Off

variable (L : grid1.Coords) (t : Fin k1_t1_loop.trips) (r : Fin 2)

theorem off6_eq : k1_off6 L t (BitVec.ofNat 32 r.val) = oOff L (2 * (4 * t.val) + r.val) 0 := by
  revert L t r; decide +kernel
theorem off7_eq : k1_off7 L t (BitVec.ofNat 32 r.val) = oOff L (2 * (4 * t.val) + r.val) 1 := by
  revert L t r; decide +kernel

theorem off13_1 : k1_off13 L t 1#32 (BitVec.ofNat 32 r.val) = oOff L (2 * (4 * t.val + 1) + r.val) 0 := by
  revert L t r; decide +kernel
theorem off14_1 : k1_off14 L t 1#32 (BitVec.ofNat 32 r.val) = oOff L (2 * (4 * t.val + 1) + r.val) 1 := by
  revert L t r; decide +kernel
theorem off13_2 : k1_off13 L t 2#32 (BitVec.ofNat 32 r.val) = oOff L (2 * (4 * t.val + 2) + r.val) 0 := by
  revert L t r; decide +kernel
theorem off14_2 : k1_off14 L t 2#32 (BitVec.ofNat 32 r.val) = oOff L (2 * (4 * t.val + 2) + r.val) 1 := by
  revert L t r; decide +kernel
theorem off13_3 : k1_off13 L t 3#32 (BitVec.ofNat 32 r.val) = oOff L (2 * (4 * t.val + 3) + r.val) 0 := by
  revert L t r; decide +kernel
theorem off14_3 : k1_off14 L t 3#32 (BitVec.ofNat 32 r.val) = oOff L (2 * (4 * t.val + 3) + r.val) 1 := by
  revert L t r; decide +kernel

/-- The four blocks of the index array which pair `p` of the tile's chunks reads. -/
def iOff (p : ℕ) : Fin 3 → ℕ := ![256 * (L 1).val + 128 * (L 0).val + 4 * (p % 32), 0, 0]

theorem iOff_inb (p : ℕ) : ∀ a, iOff L p a + S4x8x128.size a ≤ S4096x8x128.size a := by
  obtain ⟨h0, h1⟩ := coords_lt L
  intro a
  match a with
  | 0 => change 256 * (L 1).val + 128 * (L 0).val + 4 * (p % 32) + 4 ≤ 4096; omega
  | 1 => change 0 + 8 ≤ 8; omega
  | 2 => change 0 + 128 ≤ 128; omega

theorem off1_0 : k1_off1 L 0#32 = iOff L 0 := by revert L; decide +kernel
theorem off1_1 : k1_off1 L 4#32 = iOff L 1 := by revert L; decide +kernel
theorem off15_eq (h : k1_cond3 t = 1#1) : k1_off15 L t = iOff L (2 * t.val + 2) := by revert L t; decide +kernel
theorem off25_eq (h : k1_cond3 t = 1#1) : k1_off25 L t = iOff L (2 * t.val + 3) := by revert L t; decide +kernel

end Off

theorem cond1_iff : ∀ t, k1_cond1 t = 1#1 ↔ t.val ≠ 0 := by decide +kernel
theorem cond3_iff : ∀ t, k1_cond3 t = 1#1 ↔ t.val < 15 := by decide +kernel
theorem trips_eq : k1_t1_loop.trips = 16 := by decide

/-! ## The values -/

section Val

variable (L : grid1.Coords) (T : S102400x16.Idx → Elt F .f32) (B : S4096x8x128.Idx → BitVec 32)

/-- The indices of pair `p` of the tile's chunks. -/
def pairIdx (p : ℕ) : S4x8x128.Idx → BitVec 32 := fun x =>
  B (ix3 (⟨256 * (L 1).val + 128 * (L 0).val + 4 * (p % 32) + (x 0).val, by
    have := coords_lt L; have h : (x 0).val < 4 := (x 0).isLt; omega⟩ : Fin 4096) (x 1) (x 2))

/-- The output of the whole call: blocks of 128 pixels, channels by eight, pixels within the block. -/
def outV : S1024x2x4x1024.Idx → Elt F .f32 := fun j =>
  tree8 (fun k x => T (ix2 (⟨(B (ix3 (⟨4 * (j 0).val + (j 2).val, by
      have h : (j 0).val < 1024 := (j 0).isLt; have h' : (j 2).val < 4 := (j 2).isLt; omega⟩ : Fin 4096) k (⟨(j 3).val % 128, Nat.mod_lt _ (by decide)⟩ : Fin 128))).toNat % 102400,
      Nat.mod_lt _ (by decide)⟩ : Fin 102400) (x 0)))
    (ix1 (⟨8 * (j 1).val + (j 3).val / 128, by
      have h : (j 1).val < 2 := (j 1).isLt; have h' : (j 3).val < 1024 := (j 3).isLt; omega⟩ : Fin 16))

/-- What the loops leave of chunk `h` of pair `p` is what the output holds there. -/
theorem red_out (p h : ℕ) (hp : p < 32) (hh : h < 2) (q : Fin 4) (j : S1024.Idx) :
    redVal (gath T (pairIdx L B p) h) ((outRect q).emb j) = oVal L (outV T B) (2 * (2 * p + h) + q.val / 2) (q.val % 2) j := by
  have hq := q.isLt
  have hj : (j 0).val < 1024 := (j 0).isLt
  obtain ⟨c0, c1⟩ := coords_lt L
  have e : (((outRect q).emb j) 0).val = 1024 * q.val + (j 0).val := by
    change 1024 * (q.val % 4) + 1 * (j 0).val = _; omega
  unfold redVal avgRow oVal outV
  rw [show (fun (k : Fin 8) => rowVal (gath T (pairIdx L B p) h) ((((outRect q).emb j) 0).val % 128 + 128 * k.val + 1024 * ((((outRect q).emb j) 0).val / 2048)))
      = (fun (k : Fin 8) (x : S16.Idx) => T (ix2 (⟨(B (ix3 (⟨4 * (64 * (L 1).val + 32 * (L 0).val + (2 * (2 * p + h) + q.val / 2) % 128 / 4) + (2 * (2 * p + h) + q.val / 2) % 4, by omega⟩ : Fin 4096) k (⟨(j 0).val % 128, Nat.mod_lt _ (by decide)⟩ : Fin 128))).toNat % 102400,
      Nat.mod_lt _ (by decide)⟩ : Fin 102400) (x 0))) from ?_]
  · refine congrArg (tree8 _) (congrArg ix1 (Fin.ext ?_))
    change (((outRect q).emb j) 0).val % 2048 / 128 = 8 * (q.val % 2 % 2) + (j 0).val / 128
    rw [e]; omega
  · funext k x
    have hk := k.isLt
    unfold rowVal gath pick pairIdx
    congr 2
    refine Fin.ext ?_
    change BitVec.toNat (B _) % 102400 = BitVec.toNat (B _) % 102400
    congr 3
    rw [e]
    have e0 : (1024 * q.val + (j 0).val) / 2048 = q.val / 2 := by omega
    have e1 : ((1024 * q.val + (j 0).val) % 128 + 128 * k.val + 1024 * ((1024 * q.val + (j 0).val) / 2048)) % 2048 / 128 = k.val + 8 * (q.val / 2) := by
      rw [e0]; omega
    have e2 : (k.val + 8 * (q.val / 2)) % 16 / 8 = q.val / 2 := by omega
    funext a
    refine Fin.ext ?_
    match a with
    | 0 =>
      change 256 * (L 1).val + 128 * (L 0).val + 4 * (p % 32) + (2 * (h % 2) + ((1024 * q.val + (j 0).val) % 128 + 128 * k.val + 1024 * ((1024 * q.val + (j 0).val) / 2048)) % 2048 / 128 % 16 / 8)
        = 4 * (64 * (L 1).val + 32 * (L 0).val + (2 * (2 * p + h) + q.val / 2) % 128 / 4) + (2 * (2 * p + h) + q.val / 2) % 4
      rw [e1, e2, Nat.mod_eq_of_lt hp, Nat.mod_eq_of_lt hh]
      omega
    | 1 =>
      change ((1024 * q.val + (j 0).val) % 128 + 128 * k.val + 1024 * ((1024 * q.val + (j 0).val) / 2048)) % 2048 / 128 % 8 = k.val
      omega
    | 2 =>
      change ((1024 * q.val + (j 0).val) % 128 + 128 * k.val + 1024 * ((1024 * q.val + (j 0).val) / 2048)) % 2048 % 128 = (j 0).val % 128
      omega

end Val

end Cert.Render

end
-- ==== Proof.Tile.lean ====
/-
  One tile's run: what the tile holds before each trip of its main loop, and how a trip carries it on.
-/
module

public import proofs.«01_k».proof.Proof.Places

@[expose] public section

noncomputable section

namespace Cert.Render

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending Flight)

variable {F : FTy → Type} [FloatOps F]

variable (d : Dev nD) (L : grid1.Coords)
variable {α : Type} (Ψ : α → sProp (MT nD τ sig (HIx 1) (Elt F) ℕ UU ℕ))

local notation "𝕄" => MT nD τ sig (HIx 1) (Elt F) ℕ UU ℕ

section Out

variable (out : Memref sig .scVector .hbm S1024x2x4x1024 .f32) (outv : Memref sig .scVector .vmem S4096 .f32) (osem : DmaSem sig)
variable (rows : Memref sig .scVector .vmem S2048x16 .f32)
variable (T : S102400x16.Idx → Elt F .f32) (B : S4096x8x128.Idx → BitVec 32)
variable (A C : Fin 2 → Fin 4 → ℕ)

/-- A chunk's two loops and its copies out. -/
theorem wp_chunk (p h g : ℕ) (hp : p < 32) (hh : h < 2) (hg : g = 2 * p + h)
    (l l' : Scf.Loop 32) (hl : l.trips = 32) (hl' : l'.trips = 32) (hok : l.OK) (hok' : l'.OK)
    (body : Fin l.trips → PUnit → TileProg F L PUnit) (body' : Fin l'.trips → PUnit → TileProg F L PUnit)
    (hbody : ∀ t : Fin l.trips, ∃ off : Fin 4 → Fin 8 → Fin 2 → ℕ, ∃ h dec, (∀ r k, off r k = ![4 * t.val + r.val + 128 * k.val + 1024 * 0, 0]) ∧
      body t ⟨⟩ = redTrip L rows outv off h (fourAt (BitVec.ofNat 32 (2048 * 0)) (pix t.val)) dec)
    (hbody' : ∀ t : Fin l'.trips, ∃ off : Fin 4 → Fin 8 → Fin 2 → ℕ, ∃ h dec, (∀ r k, off r k = ![4 * t.val + r.val + 128 * k.val + 1024 * 1, 0]) ∧
      body' t ⟨⟩ = redTrip L rows outv off h (fourAt (BitVec.ofNat 32 (2048 * 1)) (pix t.val)) dec)
    (hA : ∀ r, ∀ a, A r a + S1x1x1x1024.size a ≤ S1024x2x4x1024.size a) (hC : ∀ r, ∀ a, C r a + S1x1x1x1024.size a ≤ S1024x2x4x1024.size a)
    (eA : ∀ r : Fin 2, A r = oOff L (2 * g + r.val) 0) (eC : ∀ r : Fin 2, C r = oOff L (2 * g + r.val) 1)
    (k : PUnit → TileProg F L α) :
    (iprop(owns (thr d L) rows fullShare (gath T (pairIdx L B p) h) ∗ (∃ X, owns (thr d L) outv fullShare X) ∗ semVal (thr d L, .dma osem) 0 ∗ outPend d L out g) : sProp 𝕄)
      ⊢ iprop((iprop((∃ R, owns (thr d L) rows fullShare R) ∗ outFly d L out outv osem (outV T B) g) -∗ wp frame (wpE (defs₀ (F := F)) 𝒱₀ (thr d L) none) Set.univ (k ⟨⟩) Ψ)
        -∗ wp frame (wpE (defs₀ (F := F)) 𝒱₀ (thr d L) none) Set.univ
          (Scf.Loop.for l hok ⟨⟩ body >>= fun _ => Scf.Loop.for l' hok' ⟨⟩ body' >>= fun _ => outAll L outv out osem A C hA hC >>= k) Ψ) := by
  iintro ⟨HR, HO, Hs, HP⟩ Hk
  iapply (wp_reduce d L rows outv (gath T (pairIdx L B p) h) Ψ l l' hl hl' hok hok' body body' hbody hbody' (fun _ => outAll L outv out osem A C hA hC >>= k)) $$ [HR HO]
  · isplitl [HR]; · iexact HR
    iexact HO
  iintro ⟨HR, HO⟩
  iapply (wp_outAll d L Ψ out outv osem (outV T B) g A C hA hC (redVal (gath T (pairIdx L B p) h))
    (fun q j => by rw [hg]; exact red_out L T B p h hp hh q j) eA eC k) $$ [HO Hs HP]
  · isplitl [HO]; · iexact HO
    isplitl [HP]; · iexact HP
    iexact Hs
  iintro HF
  iapply Hk
  isplitl [HR]
  · iexists _; iexact HR
  iexact HF

/-- A slot of outgoing averages before trip `n`: idle before the first, else in flight. -/
def outSlot (V : S1024x2x4x1024.Idx → Elt F .f32) (n g : ℕ) : sProp 𝕄 :=
  if n = 0 then iprop((∃ X, owns (thr d L) outv fullShare X) ∗ semVal (thr d L, .dma osem) 0) else outFly d L out outv osem V g

/-- The chunks delivered. -/
def doneTo (V : S1024x2x4x1024.Idx → Elt F .f32) (g : ℕ) : sProp 𝕄 := bigSep (Finset.range g) fun g => outDone d L out V g

/-- The chunks still to come. -/
def pendFrom (g : ℕ) : sProp 𝕄 := bigSep (Finset.Ico g 64) fun g => outPend d L out g

theorem doneTo_succ (V : S1024x2x4x1024.Idx → Elt F .f32) (g : ℕ) :
    (iprop(outDone d L out V g ∗ doneTo d L out V g) : sProp 𝕄) ⊢ doneTo d L out V (g + 1) := by
  unfold doneTo
  rw [Finset.range_add_one, bigSep_insert Finset.notMem_range_self]
  exact .rfl

theorem pendFrom_take (g : ℕ) (hg : g < 64) : (pendFrom d L out g : sProp 𝕄) ⊢ iprop(outPend d L out g ∗ pendFrom d L out (g + 1)) := by
  unfold pendFrom
  rw [← Finset.insert_Ico_add_one_left_eq_Ico hg, bigSep_insert (by simp)]
  exact .rfl

variable (O : CellTallies nD τ sig (HIx 1)) (W : Waits sig (HIx 1))

/-- The tile's own waits so far. -/
abbrev waited : sProp 𝕄 := iprop(∃ W', ⌜∀ p ∈ W', p ∈ W ∨ p.2 = none⌝ ∗ owes (thr d L) O W')

/-- The wait for a slot's last copies out, if there were any. -/
theorem wp_outFirst (V : S1024x2x4x1024.Idx → Elt F .f32) (c : Prop) [Decidable c] (n g g0 g1 : ℕ) (hc : c ↔ n ≠ 0) (h0 : n = 0 → g0 = g1) (h1 : n ≠ 0 → g0 = g ∧ g1 = g + 1)
    (hA : c → ∀ r, ∀ a, A r a + S1x1x1x1024.size a ≤ S1024x2x4x1024.size a) (hC : c → ∀ r, ∀ a, C r a + S1x1x1x1024.size a ≤ S1024x2x4x1024.size a)
    (k : PUnit → TileProg F L α) :
    iprop(Transfers.MayWaits (thr d L) none O ∗ outSlot d L out outv osem V n g ∗ doneTo d L out V g0 ∗ waited d L O W)
      ⊢ iprop((iprop((∃ X, owns (thr d L) outv fullShare X) ∗ semVal (thr d L, .dma osem) 0 ∗ doneTo d L out V g1 ∗ waited d L O W)
            -∗ wp frame (wpE (defs₀ (F := F)) 𝒱₀ (thr d L) none) Set.univ (k ⟨⟩) Ψ)
        -∗ wp frame (wpE (defs₀ (F := F)) 𝒱₀ (thr d L) none) Set.univ ((if h : c then outWaitAll L outv out osem A C (hA h) (hC h) else pure ⟨⟩) >>= k) Ψ) := by
  unfold outSlot
  by_cases hn : n = 0
  · have hc' : ¬ c := fun h => hc.mp h hn
    rw [dif_neg hc', if_pos hn, h0 hn, pure_bind]
    iintro ⟨-, ⟨HX, Hs⟩, HD, HO⟩ Hk
    iapply Hk
    isplitl [HX]; · iexact HX
    isplitl [Hs]; · iexact Hs
    isplitl [HD]; · iexact HD
    iexact HO
  · obtain ⟨e0, e1⟩ := h1 hn
    rw [dif_pos (hc.mpr hn), if_neg hn, e0, e1]
    iintro ⟨Hmw, HF, HD, HO⟩ Hk
    iapply (wp_outWaitAll d L Ψ out outv osem V g A C _ _ O W k) $$ [Hmw HF HO]
    · isplitl [Hmw]; · iexact Hmw
      isplitl [HF]; · iexact HF
      iexact HO
    iintro ⟨HX, Hd, Hs, HO⟩
    iapply Hk
    isplitl [HX]; · iexact HX
    isplitl [Hs]; · iexact Hs
    isplitl [HD Hd]
    · iapply (doneTo_succ d L out V g) $$ [HD Hd]
      isplitl [Hd]; · iexact Hd
      iexact HD
    iexact HO

end Out

theorem bind_pure_unit {E : Type → Type} (p : Prog E PUnit) : (p >>= fun _ => pure ⟨⟩) = p := bind_pure p

theorem outSlot_busy (out : Memref sig .scVector .hbm S1024x2x4x1024 .f32) (outv : Memref sig .scVector .vmem S4096 .f32) (osem : DmaSem sig) (V : S1024x2x4x1024.Idx → Elt F .f32) (n g : ℕ) :
    (outSlot d L out outv osem V (n + 1) g : sProp 𝕄) = outFly d L out outv osem V g := if_neg (Nat.succ_ne_zero n)

section Trip

variable (arg2 : Memref sig .scVector .hbm S4096x8x128 .i32) (harg2 : arg2.IsWhole) (arg3 : Memref sig .scVector .hbm S102400x16 .f32) (harg3 : arg3.IsWhole)
  (arg4 : Memref sig .scVector .hbm S1024x2x4x1024 .f32) (harg4 : arg4.IsWhole) (arg5 : Memref sig .scVector .vmem S4x8x128 .i32) (harg5 : arg5.IsWhole)
  (arg6 : Memref sig .scVector .vmem S4x8x128 .i32) (harg6 : arg6.IsWhole) (arg7 : Memref sig .scVector .vmem S2048x16 .f32) (harg7 : arg7.IsWhole)
  (arg8 : Memref sig .scVector .vmem S2048x16 .f32) (harg8 : arg8.IsWhole) (arg9 : Memref sig .scVector .vmem S4096 .f32) (harg9 : arg9.IsWhole)
  (arg10 : Memref sig .scVector .vmem S4096 .f32) (harg10 : arg10.IsWhole) (arg11 arg12 arg13 arg14 arg15 arg16 : DmaSems sig S_)
  (v2 : BitVec 32)

variable (T : S102400x16.Idx → Elt F .f32) (B : S4096x8x128.Idx → BitVec 32) (hB : ∀ x, (B x).toNat < 102400)
variable (qA qB : PosShare TreeShare)
variable (O : CellTallies nD τ sig (HIx 1)) (W : Waits sig (HIx 1))

/-- The index windows not copied yet. -/
def srcFrom (p : ℕ) : sProp 𝕄 := bigSep (Finset.Ico p 32) fun p => owns (thr d L) (ihWin arg2 (iOff L p) (iOff_inb L p)) fullShare (pairIdx L B p)

theorem srcFrom_take (p : ℕ) (hp : p < 32) : (srcFrom d L arg2 B p : sProp 𝕄)
    ⊢ iprop(owns (thr d L) (ihWin arg2 (iOff L p) (iOff_inb L p)) fullShare (pairIdx L B p) ∗ srcFrom d L arg2 B (p + 1)) := by
  unfold srcFrom
  rw [← Finset.insert_Ico_add_one_left_eq_Ico hp, bigSep_insert (by simp)]
  exact .rfl

/-- The first pair of buffers before trip `n`: the gathers of the first chunk of pair `p` in flight. -/
def slotA (n p : ℕ) : sProp 𝕄 :=
  if n < 16 then iprop(flying d L arg3 arg5 arg7 arg11.sem T (pairIdx L B p) 0 qA (fun _ => hB _) ∗ idxHalf d L arg5 (pairIdx L B p) 1 ∗ semVal (thr d L, .dma arg13.sem) 0)
  else iprop((∃ R, owns (thr d L) arg7 fullShare R) ∗ semVal (thr d L, .dma arg11.sem) 0 ∗ (∃ I, owns (thr d L) arg5 fullShare I) ∗ semVal (thr d L, .dma arg13.sem) 0)

/-- An index buffer: its next copy in flight (while `c`), or idle. -/
def idxSlot (idx : Memref sig .scVector .vmem S4x8x128 .i32) (sem : DmaSem sig) (c : Prop) [Decidable c] (p : ℕ) : sProp 𝕄 :=
  if c then idxFly d L idx sem (pairIdx L B p) else iprop((∃ I, owns (thr d L) idx fullShare I) ∗ semVal (thr d L, .dma sem) 0)

theorem wp_idxCopy' (idx : Memref sig .scVector .vmem S4x8x128 .i32) (hidx : idx.IsWhole) (sem : DmaSem sig) (off off' : Fin 3 → ℕ) (e : off = off') (h' : ∀ a, off' a + S4x8x128.size a ≤ S4096x8x128.size a)
    (J : S4x8x128.Idx → Elt F .i32) (h : ∀ a, off a + S4x8x128.size a ≤ S4096x8x128.size a) (k : PUnit → TileProg F L α) :
    (iprop(owns (thr d L) (ihWin arg2 off' h') fullShare J ∗ (∃ I, owns (thr d L) idx fullShare I) ∗ semVal (thr d L, .dma sem) 0) : sProp 𝕄)
      ⊢ iprop((idxFly d L idx sem J -∗ wp frame (wpE (defs₀ (F := F)) 𝒱₀ (thr d L) none) Set.univ (k ⟨⟩) Ψ)
        -∗ wp frame (wpE (defs₀ (F := F)) 𝒱₀ (thr d L) none) Set.univ (idxStep L idx sem arg2 hidx off h >>= k) Ψ) := by
  subst e
  exact wp_idxCopy d L Ψ arg2 idx hidx sem off h J k

/-- The refill of an index buffer, if a pair is left. -/
theorem wp_refill (idx : Memref sig .scVector .vmem S4x8x128 .i32) (hidx : idx.IsWhole) (sem : DmaSem sig) (c c' : Prop) [Decidable c] [Decidable c'] (p : ℕ) (hc : c ↔ c') (hp : c → p < 32) (hq : ¬ c → 32 ≤ p)
    (off : Fin 3 → ℕ) (hoff : c → off = iOff L p) (h : c → ∀ a, off a + S4x8x128.size a ≤ S4096x8x128.size a) (k : PUnit → TileProg F L α) :
    (iprop(srcFrom d L arg2 B p ∗ (∃ I, owns (thr d L) idx fullShare I) ∗ semVal (thr d L, .dma sem) 0) : sProp 𝕄)
      ⊢ iprop((iprop(srcFrom d L arg2 B (p + 1) ∗ idxSlot d L B idx sem c' p) -∗ wp frame (wpE (defs₀ (F := F)) 𝒱₀ (thr d L) none) Set.univ (k ⟨⟩) Ψ)
        -∗ wp frame (wpE (defs₀ (F := F)) 𝒱₀ (thr d L) none) Set.univ ((if h' : c then idxStep L idx sem arg2 hidx off (h h') else pure ⟨⟩) >>= k) Ψ) := by
  unfold idxSlot
  by_cases hcc : c
  · have hcc' := hc.mp hcc
    have e := hoff hcc
    subst e
    rw [dif_pos hcc, if_pos hcc']
    iintro ⟨HS, HI, Hs⟩ Hk
    ihave HS := (srcFrom_take d L arg2 B p (hp hcc)) $$ HS
    icases HS with ⟨H1, HS⟩
    iapply (wp_idxCopy d L Ψ arg2 idx hidx sem (iOff L p) (iOff_inb L p) (pairIdx L B p) k) $$ [H1 HI Hs]
    · isplitl [H1]; · iexact H1
      isplitl [HI]; · iexact HI
      iexact Hs
    iintro HF
    iapply Hk
    isplitl [HS]; · iexact HS
    iexact HF
  · have hcc' : ¬ c' := fun h => hcc (hc.mpr h)
    have e : (srcFrom d L arg2 B p : sProp 𝕄) = srcFrom d L arg2 B (p + 1) := by
      have := hq hcc
      unfold srcFrom
      rw [Finset.Ico_eq_empty (by omega), Finset.Ico_eq_empty (by omega)]
    rw [dif_neg hcc, if_neg hcc', pure_bind, e]
    iintro ⟨HS, HI, Hs⟩ Hk
    iapply Hk
    isplitl [HS]; · iexact HS
    isplitl [HI]; · iexact HI
    iexact Hs

/-- The tile before trip `n`. -/
def tripInv (n : ℕ) : sProp 𝕄 :=
  iprop(slotA d L arg3 arg5 arg7 arg11 arg13 T B hB qA n (2 * n) ∗ idxSlot d L B arg6 arg14.sem (n < 16) (2 * n + 1)
    ∗ (∃ R, owns (thr d L) arg8 fullShare R) ∗ semVal (thr d L, .dma arg12.sem) 0 ∗ owns (thr d L) (tabWin arg3) qB T
    ∗ outSlot d L arg4 arg9 arg15.sem (outV T B) n (4 * n - 2) ∗ outSlot d L arg4 arg10 arg16.sem (outV T B) n (4 * n - 1)
    ∗ doneTo d L arg4 (outV T B) (4 * n - 2) ∗ pendFrom d L arg4 (4 * n) ∗ srcFrom d L arg2 B (2 * n + 2) ∗ waited d L O W)

/-- The tile halfway through trip `n`. -/
def midInv (n : ℕ) : sProp 𝕄 :=
  iprop(flying d L arg3 arg6 arg7 arg11.sem T (pairIdx L B (2 * n + 1)) 0 qA (fun _ => hB _) ∗ idxHalf d L arg6 (pairIdx L B (2 * n + 1)) 1 ∗ semVal (thr d L, .dma arg14.sem) 0
    ∗ idxSlot d L B arg5 arg13.sem (n < 15) (2 * n + 2)
    ∗ (∃ R, owns (thr d L) arg8 fullShare R) ∗ semVal (thr d L, .dma arg12.sem) 0 ∗ owns (thr d L) (tabWin arg3) qB T
    ∗ outFly d L arg4 arg9 arg15.sem (outV T B) (4 * n) ∗ outFly d L arg4 arg10 arg16.sem (outV T B) (4 * n + 1)
    ∗ doneTo d L arg4 (outV T B) (4 * n) ∗ pendFrom d L arg4 (4 * n + 2) ∗ srcFrom d L arg2 B (2 * n + 3) ∗ waited d L O W)

theorem trip_lt (t : Fin k1_t1_loop.trips) : t.val < 16 := t.isLt

set_option maxHeartbeats 2000000 in
include hB in
theorem wp_tripA (t : Fin k1_t1_loop.trips) (k : PUnit → TileProg F L α) :
    iprop(Transfers.MayWaits (thr d L) none O ∗ tripInv d L arg2 arg3 arg4 arg5 arg6 arg7 arg8 arg9 arg10 arg11 arg12 arg13 arg14 arg15 arg16 T B hB qA qB O W t.val)
      ⊢ iprop((midInv d L arg2 arg3 arg4 arg5 arg6 arg7 arg8 arg9 arg10 arg11 arg12 arg13 arg14 arg15 arg16 T B hB qA qB O W t.val
            -∗ wp frame (wpE (defs₀ (F := F)) 𝒱₀ (thr d L) none) Set.univ (k ⟨⟩) Ψ)
        -∗ wp frame (wpE (defs₀ (F := F)) 𝒱₀ (thr d L) none) Set.univ (tripA L arg2 harg2 arg3 harg3 arg4 harg4 arg5 harg5 arg6 harg6 arg7 harg7 arg8 harg8 arg9 harg9 arg10 harg10 arg11 arg12 arg13 arg14 arg15 arg16 v2 lanes t >>= k) Ψ) := by
  have ht := trip_lt t
  unfold tripInv midInv slotA
  rw [if_pos ht]
  simp only [tripA, bind_assoc]
  iintro ⟨#Hmw, ⟨HF7, HI5, Hs13⟩, H6, ⟨%R8, HR8⟩, Hs12, HTB, HO9, HO10, HD, HP, HS, HO⟩ Hk
  iapply (wp_fire d L arg3 arg5 arg8 arg12.sem T (pairIdx L B (2 * t.val)) 1 R8 qB (fun _ => hB _) Ψ) $$ [HR8 HI5 HTB Hs12]
  · isplitl [HR8]; · iexact HR8
    isplitl [HI5]; · iexact HI5
    isplitl [HTB]; · iexact HTB
    iexact Hs12
  iintro HF8
  iapply (wp_drain d L arg3 arg5 arg7 arg11.sem T (pairIdx L B (2 * t.val)) 0 qA (fun _ => hB _) Ψ _ O W) $$ [HF7 HO]
  · isplitr; · iexact Hmw
    isplitl [HF7]; · iexact HF7
    iexact HO
  iintro ⟨HR7, HI5, HTA, Hs11, HO⟩
  iapply (wp_outFirst d L Ψ arg4 arg9 arg15.sem _ _ O W (outV T B) (k1_cond1 t = 1#1) t.val (4 * t.val - 2) (4 * t.val - 2) (4 * t.val - 1) (cond1_iff t) (fun h => by omega) (fun h => by omega)) $$ [HO9 HD HO]
  · isplitr; · iexact Hmw
    isplitl [HO9]; · iexact HO9
    isplitl [HD]; · iexact HD
    iexact HO
  iintro ⟨HX9, Hs15, HD, HO⟩
  ihave HP := (pendFrom_take d L arg4 (4 * t.val) (by omega)) $$ HP
  icases HP with ⟨HP1, HP⟩
  iapply (wp_chunk d L Ψ arg4 arg9 arg15.sem arg7 T B _ _ (2 * t.val) 0 (4 * t.val) (by omega) (by omega) (by omega) k1_t2_loop k1_t3_loop rfl rfl k1_t2_ok k1_t3_ok _ _
    (fun s => let ⟨h, dec, e⟩ := t2_body_eq L arg2 harg2 arg3 harg3 arg4 harg4 arg5 harg5 arg6 harg6 arg7 harg7 arg8 harg8 arg9 harg9 arg10 harg10 arg11 arg12 arg13 arg14 arg15 arg16 v2 (chunk0 t) t s; ⟨_, h, dec, fun r k => k1_off4_eq s r k, e⟩)
    (fun s => let ⟨h, dec, e⟩ := t3_body_eq L arg2 harg2 arg3 harg3 arg4 harg4 arg5 harg5 arg6 harg6 arg7 harg7 arg8 harg8 arg9 harg9 arg10 harg10 arg11 arg12 arg13 arg14 arg15 arg16 v2 (chunk0 t) t s; ⟨_, h, dec, fun r k => k1_off5_eq s r k, e⟩)
    _ _ (fun r => off6_eq L t r) (fun r => off7_eq L t r)) $$ [HR7 HX9 Hs15 HP1]
  · isplitl [HR7]; · iexact HR7
    isplitl [HX9]; · iexact HX9
    isplitl [Hs15]; · iexact Hs15
    iexact HP1
  iintro ⟨⟨%R7, HR7⟩, HO9⟩
  ihave H6 := (Entails.of_eq (show idxSlot d L B arg6 arg14.sem (t.val < 16) (2 * t.val + 1) = idxFly d L arg6 arg14.sem (pairIdx L B (2 * t.val + 1)) from if_pos ht)) $$ H6
  iapply (wp_idxWait d L Ψ arg2 arg6 harg6 arg14.sem _ _ (pairIdx L B (2 * t.val + 1)) _ O W) $$ [H6 HO]
  · isplitr; · iexact Hmw
    isplitl [H6]; · iexact H6
    iexact HO
  iintro ⟨HI6, Hs14, HO⟩
  ihave HI6 := (Entails.of_eq (idx_halves d L arg6 (pairIdx L B (2 * t.val + 1)))) $$ HI6
  icases HI6 with ⟨HI60, HI61⟩
  iapply (wp_fire d L arg3 arg6 arg7 arg11.sem T (pairIdx L B (2 * t.val + 1)) 0 R7 qA (fun _ => hB _) Ψ) $$ [HR7 HI60 HTA Hs11]
  · isplitl [HR7]; · iexact HR7
    isplitl [HI60]; · iexact HI60
    isplitl [HTA]; · iexact HTA
    iexact Hs11
  iintro HF7
  iapply (wp_drain d L arg3 arg5 arg8 arg12.sem T (pairIdx L B (2 * t.val)) 1 qB (fun _ => hB _) Ψ _ O W) $$ [HF8 HO]
  · isplitr; · iexact Hmw
    isplitl [HF8]; · iexact HF8
    iexact HO
  iintro ⟨HR8, HI51, HTB, Hs12, HO⟩
  iapply (wp_outFirst d L Ψ arg4 arg10 arg16.sem _ _ O W (outV T B) (k1_cond2 t = 1#1) t.val (4 * t.val - 1) (4 * t.val - 1) (4 * t.val) (by rw [cond2_eq]; exact cond1_iff t) (fun h => by omega) (fun h => by omega)) $$ [HO10 HD HO]
  · isplitr; · iexact Hmw
    isplitl [HO10]; · iexact HO10
    isplitl [HD]; · iexact HD
    iexact HO
  iintro ⟨HX10, Hs16, HD, HO⟩
  ihave HP := (pendFrom_take d L arg4 (4 * t.val + 1) (by omega)) $$ HP
  icases HP with ⟨HP1, HP⟩
  iapply (wp_chunk d L Ψ arg4 arg10 arg16.sem arg8 T B _ _ (2 * t.val) 1 (4 * t.val + 1) (by omega) (by omega) (by omega) k1_t4_loop k1_t5_loop rfl rfl k1_t4_ok k1_t5_ok _ _
    (fun s => let ⟨h, dec, e⟩ := t4_body_eq L arg2 harg2 arg3 harg3 arg4 harg4 arg5 harg5 arg6 harg6 arg7 harg7 arg8 harg8 arg9 harg9 arg10 harg10 arg11 arg12 arg13 arg14 arg15 arg16 v2 (chunk0 t) t s; ⟨_, h, dec, fun r k => k1_off11_eq s r k, e⟩)
    (fun s => let ⟨h, dec, e⟩ := t5_body_eq L arg2 harg2 arg3 harg3 arg4 harg4 arg5 harg5 arg6 harg6 arg7 harg7 arg8 harg8 arg9 harg9 arg10 harg10 arg11 arg12 arg13 arg14 arg15 arg16 v2 (chunk0 t) t s; ⟨_, h, dec, fun r k => k1_off12_eq s r k, e⟩)
    _ _ (fun r => off13_1 L t r) (fun r => off14_1 L t r)) $$ [HR8 HX10 Hs16 HP1]
  · isplitl [HR8]; · iexact HR8
    isplitl [HX10]; · iexact HX10
    isplitl [Hs16]; · iexact Hs16
    iexact HP1
  iintro ⟨HR8, HO10⟩
  ihave HI5 := (Entails.of_eq (idx_halves d L arg5 (pairIdx L B (2 * t.val))).symm) $$ [HI5 HI51]
  · isplitl [HI5]; · iexact HI5
    iexact HI51
  iapply (wp_refill d L Ψ arg2 B arg5 harg5 arg13.sem (k1_cond3 t = 1#1) (t.val < 15) (2 * t.val + 2) (cond3_iff t) (fun h => by have := (cond3_iff t).mp h; omega)
    (fun h => by have := mt (cond3_iff t).mpr h; omega) (k1_off15 L t) (off15_eq L t)) $$ [HS HI5 Hs13]
  · isplitl [HS]; · iexact HS
    isplitl [HI5]; · iexists _; iexact HI5
    iexact Hs13
  iintro ⟨HS, H5⟩
  iapply Hk
  isplitl [HF7]; · iexact HF7
  isplitl [HI61]; · iexact HI61
  isplitl [Hs14]; · iexact Hs14
  isplitl [H5]; · iexact H5
  isplitl [HR8]; · iexact HR8
  isplitl [Hs12]; · iexact Hs12
  isplitl [HTB]; · iexact HTB
  isplitl [HO9]; · iexact HO9
  isplitl [HO10]; · iexact HO10
  isplitl [HD]; · iexact HD
  isplitl [HP]; · iexact HP
  isplitl [HS]; · iexact HS
  iexact HO

include hB in
/-- The first pair of buffers refilled for the next trip, if there is one. -/
theorem wp_next (t : Fin k1_t1_loop.trips) (k : PUnit → TileProg F L α) :
    iprop(Transfers.MayWaits (thr d L) none O ∗ idxSlot d L B arg5 arg13.sem (t.val < 15) (2 * t.val + 2) ∗ (∃ R, owns (thr d L) arg7 fullShare R)
        ∗ owns (thr d L) (tabWin arg3) qA T ∗ semVal (thr d L, .dma arg11.sem) 0 ∗ waited d L O W)
      ⊢ iprop((iprop(slotA d L arg3 arg5 arg7 arg11 arg13 T B hB qA (t.val + 1) (2 * t.val + 2) ∗ waited d L O W) -∗ wp frame (wpE (defs₀ (F := F)) 𝒱₀ (thr d L) none) Set.univ (k ⟨⟩) Ψ)
        -∗ wp frame (wpE (defs₀ (F := F)) 𝒱₀ (thr d L) none) Set.univ ((if h : k1_cond5 t = 1#1 then
            idxWaitStep L arg5 arg13.sem arg2 harg5 (k1_off20 L t) (k1_off20_inb L t h) >>= fun _ => steps (gatherStep L arg3 arg5 arg7 arg11.sem 0) 0 16
          else pure ⟨⟩) >>= k) Ψ) := by
  have hc : k1_cond5 t = 1#1 ↔ t.val < 15 := by rw [cond5_eq]; exact cond3_iff t
  unfold idxSlot slotA
  by_cases h : t.val < 15
  · rw [if_pos h, if_pos (show t.val + 1 < 16 by omega), dif_pos (hc.mpr h), bind_assoc]
    iintro ⟨#Hmw, HI, ⟨%R, HR⟩, HT, Hs, HO⟩ Hk
    iapply (wp_idxWait d L Ψ arg2 arg5 harg5 arg13.sem _ _ (pairIdx L B (2 * t.val + 2)) _ O W) $$ [HI HO]
    · isplitr; · iexact Hmw
      isplitl [HI]; · iexact HI
      iexact HO
    iintro ⟨HI, Hs13, HO⟩
    ihave HI := (Entails.of_eq (idx_halves d L arg5 (pairIdx L B (2 * t.val + 2)))) $$ HI
    icases HI with ⟨HI0, HI1⟩
    iapply (wp_fire d L arg3 arg5 arg7 arg11.sem T (pairIdx L B (2 * t.val + 2)) 0 R qA (fun _ => hB _) Ψ) $$ [HR HI0 HT Hs]
    · isplitl [HR]; · iexact HR
      isplitl [HI0]; · iexact HI0
      isplitl [HT]; · iexact HT
      iexact Hs
    iintro HF
    iapply Hk
    isplitl [HF HI1 Hs13]
    · isplitl [HF]; · iexact HF
      isplitl [HI1]; · iexact HI1
      iexact Hs13
    iexact HO
  · rw [if_neg h, if_neg (show ¬ t.val + 1 < 16 by omega), dif_neg (fun e => h (hc.mp e)), pure_bind]
    iintro ⟨-, ⟨HI, Hs13⟩, HR, -, Hs, HO⟩ Hk
    iapply Hk
    isplitl [HI Hs13 HR Hs]
    · isplitl [HR]; · iexact HR
      isplitl [Hs]; · iexact Hs
      isplitl [HI]; · iexact HI
      iexact Hs13
    iexact HO

set_option maxHeartbeats 2000000 in
include hB in
theorem wp_tripB (t : Fin k1_t1_loop.trips) (k : PUnit → TileProg F L α) :
    iprop(Transfers.MayWaits (thr d L) none O ∗ midInv d L arg2 arg3 arg4 arg5 arg6 arg7 arg8 arg9 arg10 arg11 arg12 arg13 arg14 arg15 arg16 T B hB qA qB O W t.val)
      ⊢ iprop((tripInv d L arg2 arg3 arg4 arg5 arg6 arg7 arg8 arg9 arg10 arg11 arg12 arg13 arg14 arg15 arg16 T B hB qA qB O W (t.val + 1) -∗ wp frame (wpE (defs₀ (F := F)) 𝒱₀ (thr d L) none) Set.univ (k ⟨⟩) Ψ)
        -∗ wp frame (wpE (defs₀ (F := F)) 𝒱₀ (thr d L) none) Set.univ (tripB L arg2 harg2 arg3 harg3 arg4 harg4 arg5 harg5 arg6 harg6 arg7 harg7 arg8 harg8 arg9 harg9 arg10 harg10 arg11 arg12 arg13 arg14 arg15 arg16 v2 lanes t >>= k) Ψ) := by
  have ht := trip_lt t
  have hs4 : k1_cond4 t = 1#1 := cond4_eq t
  have hs6 : k1_cond6 t = 1#1 := cond6_eq t
  unfold tripInv midInv
  simp only [tripB, bind_assoc, dif_pos hs4, dif_pos hs6]
  iintro ⟨#Hmw, HF7, HI6, Hs14, H5, ⟨%R8, HR8⟩, Hs12, HTB, HO9, HO10, HD, HP, HS, HO⟩ Hk
  iapply (wp_fire d L arg3 arg6 arg8 arg12.sem T (pairIdx L B (2 * t.val + 1)) 1 R8 qB (fun _ => hB _) Ψ) $$ [HR8 HI6 HTB Hs12]
  · isplitl [HR8]; · iexact HR8
    isplitl [HI6]; · iexact HI6
    isplitl [HTB]; · iexact HTB
    iexact Hs12
  iintro HF8
  iapply (wp_drain d L arg3 arg6 arg7 arg11.sem T (pairIdx L B (2 * t.val + 1)) 0 qA (fun _ => hB _) Ψ _ O W) $$ [HF7 HO]
  · isplitr; · iexact Hmw
    isplitl [HF7]; · iexact HF7
    iexact HO
  iintro ⟨HR7, HI6, HTA, Hs11, HO⟩
  iapply (wp_outWaitAll d L Ψ arg4 arg9 arg15.sem (outV T B) (4 * t.val) _ _ _ _ O W _) $$ [HO9 HO]
  · isplitr; · iexact Hmw
    isplitl [HO9]; · iexact HO9
    iexact HO
  iintro ⟨HX9, Hd, Hs15, HO⟩
  ihave HD := (doneTo_succ d L arg4 (outV T B) (4 * t.val)) $$ [HD Hd]
  · isplitl [Hd]; · iexact Hd
    iexact HD
  ihave HP := (pendFrom_take d L arg4 (4 * t.val + 2) (by omega)) $$ HP
  icases HP with ⟨HP1, HP⟩
  iapply (wp_chunk d L Ψ arg4 arg9 arg15.sem arg7 T B _ _ (2 * t.val + 1) 0 (4 * t.val + 2) (by omega) (by omega) (by omega) k1_t6_loop k1_t7_loop rfl rfl k1_t6_ok k1_t7_ok _ _
    (fun s => let ⟨h, dec, e⟩ := t6_body_eq L arg2 harg2 arg3 harg3 arg4 harg4 arg5 harg5 arg6 harg6 arg7 harg7 arg8 harg8 arg9 harg9 arg10 harg10 arg11 arg12 arg13 arg14 arg15 arg16 v2 (chunk0 t) t s; ⟨_, h, dec, fun r k => k1_off18_eq s r k, e⟩)
    (fun s => let ⟨h, dec, e⟩ := t7_body_eq L arg2 harg2 arg3 harg3 arg4 harg4 arg5 harg5 arg6 harg6 arg7 harg7 arg8 harg8 arg9 harg9 arg10 harg10 arg11 arg12 arg13 arg14 arg15 arg16 v2 (chunk0 t) t s; ⟨_, h, dec, fun r k => k1_off19_eq s r k, e⟩)
    _ _ (fun r => off13_2 L t r) (fun r => off14_2 L t r)) $$ [HR7 HX9 Hs15 HP1]
  · isplitl [HR7]; · iexact HR7
    isplitl [HX9]; · iexact HX9
    isplitl [Hs15]; · iexact Hs15
    iexact HP1
  iintro ⟨HR7, HO9⟩
  iapply (wp_next d L Ψ arg2 arg3 arg5 harg5 arg7 arg11 arg13 T B hB qA O W t) $$ [H5 HR7 HTA Hs11 HO]
  · isplitr; · iexact Hmw
    isplitl [H5]; · iexact H5
    isplitl [HR7]; · iexact HR7
    isplitl [HTA]; · iexact HTA
    isplitl [Hs11]; · iexact Hs11
    iexact HO
  iintro ⟨HA, HO⟩
  iapply (wp_drain d L arg3 arg6 arg8 arg12.sem T (pairIdx L B (2 * t.val + 1)) 1 qB (fun _ => hB _) Ψ _ O W) $$ [HF8 HO]
  · isplitr; · iexact Hmw
    isplitl [HF8]; · iexact HF8
    iexact HO
  iintro ⟨HR8, HI61, HTB, Hs12, HO⟩
  iapply (wp_outWaitAll d L Ψ arg4 arg10 arg16.sem (outV T B) (4 * t.val + 1) _ _ _ _ O W _) $$ [HO10 HO]
  · isplitr; · iexact Hmw
    isplitl [HO10]; · iexact HO10
    iexact HO
  iintro ⟨HX10, Hd, Hs16, HO⟩
  ihave HD := (doneTo_succ d L arg4 (outV T B) (4 * t.val + 1)) $$ [HD Hd]
  · isplitl [Hd]; · iexact Hd
    iexact HD
  ihave HP := (pendFrom_take d L arg4 (4 * t.val + 3) (by omega)) $$ HP
  icases HP with ⟨HP1, HP⟩
  iapply (wp_chunk d L Ψ arg4 arg10 arg16.sem arg8 T B _ _ (2 * t.val + 1) 1 (4 * t.val + 3) (by omega) (by omega) (by omega) k1_t8_loop k1_t9_loop rfl rfl k1_t8_ok k1_t9_ok _ _
    (fun s => let ⟨h, dec, e⟩ := t8_body_eq L arg2 harg2 arg3 harg3 arg4 harg4 arg5 harg5 arg6 harg6 arg7 harg7 arg8 harg8 arg9 harg9 arg10 harg10 arg11 arg12 arg13 arg14 arg15 arg16 v2 (chunk0 t) t s; ⟨_, h, dec, fun r k => k1_off23_eq s r k, e⟩)
    (fun s => let ⟨h, dec, e⟩ := t9_body_eq L arg2 harg2 arg3 harg3 arg4 harg4 arg5 harg5 arg6 harg6 arg7 harg7 arg8 harg8 arg9 harg9 arg10 harg10 arg11 arg12 arg13 arg14 arg15 arg16 v2 (Scalar.addi (chunk0 t) 3#32) s; ⟨_, h, dec, fun r k => k1_off24_eq s r k, e⟩)
    _ _ (fun r => off13_3 L t r) (fun r => off14_3 L t r)) $$ [HR8 HX10 Hs16 HP1]
  · isplitl [HR8]; · iexact HR8
    isplitl [HX10]; · iexact HX10
    isplitl [Hs16]; · iexact Hs16
    iexact HP1
  iintro ⟨HR8, HO10⟩
  ihave HI6 := (Entails.of_eq (idx_halves d L arg6 (pairIdx L B (2 * t.val + 1))).symm) $$ [HI6 HI61]
  · isplitl [HI6]; · iexact HI6
    iexact HI61
  have hc7 : k1_cond7 t = 1#1 ↔ t.val < 15 := by rw [cond7_eq]; exact cond3_iff t
  iapply (wp_refill d L Ψ arg2 B arg6 harg6 arg14.sem (k1_cond7 t = 1#1) (t.val + 1 < 16) (2 * t.val + 3) (by rw [hc7]; omega) (fun h => by have := hc7.mp h; omega)
    (fun h => by have := mt hc7.mpr h; omega) (k1_off25 L t) (fun h => off25_eq L t (by rw [← cond7_eq]; exact h))) $$ [HS HI6 Hs14]
  · isplitl [HS]; · iexact HS
    isplitl [HI6]; · iexists _; iexact HI6
    iexact Hs14
  iintro ⟨HS, H6⟩
  iapply Hk
  have e1 : 2 * (t.val + 1) = 2 * t.val + 2 := by omega
  have e2 : 4 * (t.val + 1) - 2 = 4 * t.val + 2 := by omega
  have e3 : 4 * (t.val + 1) - 1 = 4 * t.val + 3 := by omega
  have e4 : 4 * (t.val + 1) = 4 * t.val + 4 := by omega
  simp only [outSlot_busy, e2, e3]
  simp only [e1, e4]
  isplitl [HA]; · iexact HA
  isplitl [H6]; · iexact H6
  isplitl [HR8]; · iexact HR8
  isplitl [Hs12]; · iexact Hs12
  isplitl [HTB]; · iexact HTB
  isplitl [HO9]; · iexact HO9
  isplitl [HO10]; · iexact HO10
  isplitl [HD]; · iexact HD
  isplitl [HP]; · iexact HP
  isplitl [HS]; · iexact HS
  iexact HO

include hB in
/-- A tile's task, from its pieces: at the end its 64 chunks of the output are at their values. -/
theorem wp_kern :
    iprop(Transfers.MayWaits (thr d L) none O ∗ srcFrom d L arg2 B 0 ∗ owns (thr d L) (tabWin arg3) qA T ∗ owns (thr d L) (tabWin arg3) qB T ∗ pendFrom d L arg4 0
        ∗ (∃ I, owns (thr d L) arg5 fullShare I) ∗ (∃ I, owns (thr d L) arg6 fullShare I) ∗ (∃ R, owns (thr d L) arg7 fullShare R) ∗ (∃ R, owns (thr d L) arg8 fullShare R)
        ∗ (∃ X, owns (thr d L) arg9 fullShare X) ∗ (∃ X, owns (thr d L) arg10 fullShare X)
        ∗ semVal (thr d L, .dma arg11.sem) 0 ∗ semVal (thr d L, .dma arg12.sem) 0 ∗ semVal (thr d L, .dma arg13.sem) 0 ∗ semVal (thr d L, .dma arg14.sem) 0
        ∗ semVal (thr d L, .dma arg15.sem) 0 ∗ semVal (thr d L, .dma arg16.sem) 0 ∗ owes (thr d L) O W)
      ⊢ wp frame (wpE (defs₀ (F := F)) 𝒱₀ (thr d L) none) Set.univ (kern L arg2 harg2 arg3 harg3 arg4 harg4 arg5 harg5 arg6 harg6 arg7 harg7 arg8 harg8 arg9 harg9 arg10 harg10 arg11 arg12 arg13 arg14 arg15 arg16) fun _ =>
        iprop(doneTo d L arg4 (outV T B) 64
        ∗ (∃ I, owns (thr d L) arg5 fullShare I) ∗ (∃ I, owns (thr d L) arg6 fullShare I) ∗ (∃ R, owns (thr d L) arg7 fullShare R) ∗ (∃ R, owns (thr d L) arg8 fullShare R)
        ∗ (∃ X, owns (thr d L) arg9 fullShare X) ∗ (∃ X, owns (thr d L) arg10 fullShare X)
        ∗ semVal (thr d L, .dma arg11.sem) 0 ∗ semVal (thr d L, .dma arg12.sem) 0 ∗ semVal (thr d L, .dma arg13.sem) 0 ∗ semVal (thr d L, .dma arg14.sem) 0
        ∗ semVal (thr d L, .dma arg15.sem) 0 ∗ semVal (thr d L, .dma arg16.sem) 0 ∗ waited d L O W) := by
  have hstep : ∀ (t : Fin k1_t1_loop.trips) (s : PUnit), iprop(Transfers.MayWaits (thr d L) none O ∗ tripInv d L arg2 arg3 arg4 arg5 arg6 arg7 arg8 arg9 arg10 arg11 arg12 arg13 arg14 arg15 arg16 T B hB qA qB O W t.val)
      ⊢ wp frame (wpE (defs₀ (F := F)) 𝒱₀ (thr d L) none) Set.univ (k1_t1_body L arg2 harg2 arg3 harg3 arg4 harg4 arg5 harg5 arg6 harg6 arg7 harg7 arg8 harg8 arg9 harg9 arg10 harg10 arg11 arg12 arg13 arg14 arg15 arg16 (wid128 L) lanes t s) fun _ => iprop(Transfers.MayWaits (thr d L) none O ∗ tripInv d L arg2 arg3 arg4 arg5 arg6 arg7 arg8 arg9 arg10 arg11 arg12 arg13 arg14 arg15 arg16 T B hB qA qB O W (t.val + 1)) := by
    intro t s
    obtain rfl : s = () := rfl
    rw [trip_eq]
    have hp : trip L arg2 harg2 arg3 harg3 arg4 harg4 arg5 harg5 arg6 harg6 arg7 harg7 arg8 harg8 arg9 harg9 arg10 harg10 arg11 arg12 arg13 arg14 arg15 arg16 (wid128 L) lanes t = (tripA L arg2 harg2 arg3 harg3 arg4 harg4 arg5 harg5 arg6 harg6 arg7 harg7 arg8 harg8 arg9 harg9 arg10 harg10 arg11 arg12 arg13 arg14 arg15 arg16 (wid128 L) lanes t >>= fun _ => tripB L arg2 harg2 arg3 harg3 arg4 harg4 arg5 harg5 arg6 harg6 arg7 harg7 arg8 harg8 arg9 harg9 arg10 harg10 arg11 arg12 arg13 arg14 arg15 arg16 (wid128 L) lanes t >>= fun _ => (pure () : TileProg F L Unit)) := by
      rw [bind_pure_unit]; rfl
    rw [hp]
    iintro ⟨#Hmw, H⟩
    iapply (wp_tripA d L _ arg2 harg2 arg3 harg3 arg4 harg4 arg5 harg5 arg6 harg6 arg7 harg7 arg8 harg8 arg9 harg9 arg10 harg10 arg11 arg12 arg13 arg14 arg15 arg16 (wid128 L) T B hB qA qB O W t _) $$ [H]
    · isplitr; · iexact Hmw
      iexact H
    iintro H
    iapply (wp_tripB d L _ arg2 harg2 arg3 harg3 arg4 harg4 arg5 harg5 arg6 harg6 arg7 harg7 arg8 harg8 arg9 harg9 arg10 harg10 arg11 arg12 arg13 arg14 arg15 arg16 (wid128 L) T B hB qA qB O W t _) $$ [H]
    · isplitr; · iexact Hmw
      iexact H
    iintro H
    iapply (Entails.of_eq (wp_pure _ _ _ _ _).symm)
    imodintro
    isplitr; · iexact Hmw
    iexact H
  have hk : kern L arg2 harg2 arg3 harg3 arg4 harg4 arg5 harg5 arg6 harg6 arg7 harg7 arg8 harg8 arg9 harg9 arg10 harg10 arg11 arg12 arg13 arg14 arg15 arg16 = (kern L arg2 harg2 arg3 harg3 arg4 harg4 arg5 harg5 arg6 harg6 arg7 harg7 arg8 harg8 arg9 harg9 arg10 harg10 arg11 arg12 arg13 arg14 arg15 arg16 >>= fun _ => (pure ⟨⟩ : TileProg F L PUnit)) := (bind_pure_unit _).symm
  rw [hk]
  simp only [kern, bind_assoc]
  iintro ⟨#Hmw, HS, HTA, HTB, HP, H5, H6, ⟨%R7, H7⟩, H8, H9, H10, Hs11, Hs12, Hs13, Hs14, Hs15, Hs16, HO⟩
  ihave HS := (srcFrom_take d L arg2 B 0 (by decide)) $$ HS
  icases HS with ⟨HS0, HS⟩
  ihave HS := (srcFrom_take d L arg2 B 1 (by decide)) $$ HS
  icases HS with ⟨HS1, HS⟩
  iapply (wp_idxCopy' d L _ arg2 arg5 harg5 arg13.sem (k1_off1 L 0#32) (iOff L 0) (off1_0 L) (iOff_inb L 0) (pairIdx L B 0)) $$ [HS0 H5 Hs13]
  · isplitl [HS0]; · iexact HS0
    isplitl [H5]; · iexact H5
    iexact Hs13
  iintro H5
  iapply (wp_idxWait d L _ arg2 arg5 harg5 arg13.sem _ _ (pairIdx L B 0) _ O W) $$ [H5 HO]
  · isplitr; · iexact Hmw
    isplitl [H5]; · iexact H5
    iexists W
    isplitr
    · ipureintro; exact fun p hp => Or.inl hp
    iexact HO
  iintro ⟨H5, Hs13, HO⟩
  iapply (wp_idxCopy' d L _ arg2 arg6 harg6 arg14.sem (k1_off1 L 4#32) (iOff L 1) (off1_1 L) (iOff_inb L 1) (pairIdx L B 1)) $$ [HS1 H6 Hs14]
  · isplitl [HS1]; · iexact HS1
    isplitl [H6]; · iexact H6
    iexact Hs14
  iintro H6
  ihave H5 := (Entails.of_eq (idx_halves d L arg5 (pairIdx L B 0))) $$ H5
  icases H5 with ⟨H50, H51⟩
  iapply (wp_fire d L arg3 arg5 arg7 arg11.sem T (pairIdx L B 0) 0 R7 qA (fun _ => hB _) _) $$ [H7 H50 HTA Hs11]
  · isplitl [H7]; · iexact H7
    isplitl [H50]; · iexact H50
    isplitl [HTA]; · iexact HTA
    iexact Hs11
  iintro HF
  iapply (Scf.wp_for_bind frame (wpE (defs₀ (F := F)) 𝒱₀ (thr d L) none) Set.univ k1_t1_loop.lb k1_t1_loop.ub k1_t1_loop.st k1_t1_ok ⟨⟩ _
    (fun n _ => iprop(Transfers.MayWaits (thr d L) none O ∗ tripInv d L arg2 arg3 arg4 arg5 arg6 arg7 arg8 arg9 arg10 arg11 arg12 arg13 arg14 arg15 arg16 T B hB qA qB O W n)) hstep) $$ [HF H51 Hs13 H6 H8 Hs12 HTB H9 Hs15 H10 Hs16 HP HS HO]
  · isplitr; · iexact Hmw
    unfold tripInv slotA idxSlot outSlot doneTo
    rw [if_pos (show 0 < 16 by decide), if_pos (show 0 < 16 by decide), if_pos rfl, if_pos rfl]
    isplitl [HF H51 Hs13]
    · isplitl [HF]; · iexact HF
      isplitl [H51]; · iexact H51
      iexact Hs13
    isplitl [H6]; · iexact H6
    isplitl [H8]; · iexact H8
    isplitl [Hs12]; · iexact Hs12
    isplitl [HTB]; · iexact HTB
    isplitl [H9 Hs15]
    · isplitl [H9]; · iexact H9
      iexact Hs15
    isplitl [H10 Hs16]
    · isplitl [H10]; · iexact H10
      iexact Hs16
    isplitr
    · iapply (Entails.of_eq (bigSep_empty (Φ := fun g => outDone d L arg4 (outV T B) g)).symm)
      iempintro
    isplitl [HP]; · iexact HP
    isplitl [HS]; · iexact HS
    iexact HO
  iintro %s ⟨-, H⟩
  ihave H := (Entails.of_eq (show tripInv d L arg2 arg3 arg4 arg5 arg6 arg7 arg8 arg9 arg10 arg11 arg12 arg13 arg14 arg15 arg16 T B hB qA qB O W (Scf.trips k1_t1_loop.lb k1_t1_loop.ub k1_t1_loop.st)
    = tripInv d L arg2 arg3 arg4 arg5 arg6 arg7 arg8 arg9 arg10 arg11 arg12 arg13 arg14 arg15 arg16 T B hB qA qB O W 16 from congrArg _ trips_eq)) $$ H
  unfold tripInv slotA idxSlot outSlot
  rw [if_neg (show ¬ 16 < 16 by decide), if_neg (show ¬ 16 < 16 by decide), if_neg (show ¬ 16 = 0 by decide), if_neg (show ¬ 16 = 0 by decide)]
  icases H with ⟨⟨H7, Hs11, H5, Hs13⟩, ⟨H6, Hs14⟩, H8, Hs12, -, HO9, HO10, HD, -, -, HO⟩
  iapply (wp_outWaitAll d L _ arg4 arg9 arg15.sem (outV T B) (4 * 16 - 2) _ _ _ _ O W _) $$ [HO9 HO]
  · isplitr; · iexact Hmw
    isplitl [HO9]; · iexact HO9
    iexact HO
  iintro ⟨H9, Hd, Hs15, HO⟩
  ihave HD := (doneTo_succ d L arg4 (outV T B) (4 * 16 - 2)) $$ [HD Hd]
  · isplitl [Hd]; · iexact Hd
    iexact HD
  iapply (wp_outWaitAll d L _ arg4 arg10 arg16.sem (outV T B) (4 * 16 - 1) _ _ _ _ O W _) $$ [HO10 HO]
  · isplitr; · iexact Hmw
    isplitl [HO10]; · iexact HO10
    iexact HO
  iintro ⟨H10, Hd, Hs16, HO⟩
  ihave HD := (doneTo_succ d L arg4 (outV T B) (4 * 16 - 1)) $$ [HD Hd]
  · isplitl [Hd]; · iexact Hd
    iexact HD
  iapply (Entails.of_eq (wp_pure _ _ _ _ _).symm)
  imodintro
  isplitl [HD]; · iexact HD
  isplitl [H5]; · iexact H5
  isplitl [H6]; · iexact H6
  isplitl [H7]; · iexact H7
  isplitl [H8]; · iexact H8
  isplitl [H9]; · iexact H9
  isplitl [H10]; · iexact H10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  iexact HO

end Trip

end Cert.Render

end
-- ==== Proof.Task.lean ====
/-
  A tile's task as the launch hands it out: what it takes (its index windows, two shares of the table, its windows of the
  output), what it brings back (its windows of the output at their values), and that the task's program does that.
-/
module

public import proofs.«01_k».proof.Proof.Tile

@[expose] public section

noncomputable section

namespace Cert.Render

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The program as the launch sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none

/-- What the launch asks of the program's semaphores and shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## What a task takes and brings back -/

/-- The tables which agree with `T₀` on the rows that the features fill. -/
def Agrees (T₀ T : S102400x16.Idx → Elt F .f32) : Prop := ∀ j : S102400x16.Idx, (j 0).val < 100000 → T j = T₀ j

abbrev idxM : Memref sig .scVector .hbm S4096x8x128 .i32 := Memref.whole main_v2_scv
abbrev tabM : Memref sig .scVector .hbm S102400x16 .f32 := Memref.whole main_v5_scv
abbrev outM : Memref sig .scVector .hbm S1024x2x4x1024 .f32 := Memref.whole main_v6_scv

/-- A tile's two shares of the table: two of 64. -/
def tabShare (L : grid1.Coords) (k : Fin 2) : PosShare TreeShare :=
  pieceOf fullShare 64 (by decide) ⟨32 * (L 0).val + 2 * (L 1).val + k.val, by have := coords_lt L; omega⟩

/-- What tile `L` takes: its windows of the indices, two shares of a table which agrees with `T₀`, its windows of the output. -/
def taskIn (d : Dev nD) (L : grid1.Coords) (B : S4096x8x128.Idx → BitVec 32) (T₀ : S102400x16.Idx → Elt F .f32) : sProp 𝕄 :=
  iprop(srcFrom d L idxM B 0
    ∗ (∃ Tt, ⌜Agrees T₀ Tt⌝ ∗ owns (thr d L) (tabWin tabM) (tabShare L 0) Tt ∗ owns (thr d L) (tabWin tabM) (tabShare L 1) Tt)
    ∗ pendFrom d L outM 0)

/-- What it brings back: its windows of the output at their values. -/
def taskOut (d : Dev nD) (L : grid1.Coords) (B : S4096x8x128.Idx → BitVec 32) (T₀ : S102400x16.Idx → Elt F .f32) : sProp 𝕄 :=
  doneTo d L outM (outV T₀ B) 64

/-- The output's values read the table only where the indices point. -/
theorem outV_agrees {T₀ Tt : S102400x16.Idx → Elt F .f32} {B : S4096x8x128.Idx → BitVec 32} (h : Agrees T₀ Tt) (hB : ∀ x, (B x).toNat < 100000) :
    outV Tt B = outV T₀ B := by
  funext j
  unfold outV
  refine congrFun (congrArg tree8 ?_) _
  funext k x
  refine h _ ?_
  show (B _).toNat % 102400 < 100000
  exact lt_of_le_of_lt (Nat.mod_le _ _) (hB _)

instance taskIn_storable (d : Dev nD) (L : grid1.Coords) (B : S4096x8x128.Idx → BitVec 32) (T₀ : S102400x16.Idx → Elt F .f32) :
    BI.Storable (upEmb : UEmb _ 𝕄) (taskIn d L B T₀) := by
  unfold taskIn srcFrom pendFrom outPend; infer_instance

instance taskOut_storable (d : Dev nD) (L : grid1.Coords) (B : S4096x8x128.Idx → BitVec 32) (T₀ : S102400x16.Idx → Elt F .f32) :
    BI.Storable (upEmb : UEmb _ 𝕄) (taskOut d L B T₀) := by
  unfold taskOut doneTo outDone; infer_instance

/-! ## A tile's own buffers and semaphores -/

abbrev scr : Fin 6 → Ref sig .scVector := ![cc1_scratch0, cc1_scratch1, cc1_scratch2, cc1_scratch3, cc1_scratch4, cc1_scratch5]
abbrev scs : Fin 6 → DmaSem sig := ![cc1_scratch6.sem, cc1_scratch7.sem, cc1_scratch8.sem, cc1_scratch9.sem, cc1_scratch10.sem, cc1_scratch11.sem]

theorem scr_inj : Function.Injective scr := by decide
theorem scs_inj : Function.Injective scs := by decide

theorem bigSep_six {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- The members of a family which an injective list of indices names, and the others. -/
theorem bigSep_named {M : Type} [URA M] {I J : Type} [DecidableEq I] [DecidableEq J] {s : Finset I} {t : Finset J} {f : J → I} (inj : Set.InjOn f t)
    (sub : ∀ j ∈ t, f j ∈ s) {Φ : I → sProp M} :
    bigSep s Φ = iprop(bigSep t (fun j => Φ (f j)) ∗ bigSep (s \ t.image f) Φ) := by
  rw [SparseCore.bigSep_sdiff_split' (t := t.image f) fun x h => by obtain ⟨j, hj, rfl⟩ := Finset.mem_image.mp h; exact sub j hj,
    SparseCore.bigSep_image_of_injOn inj]

variable (d : Dev nD) (L : grid1.Coords)

theorem ownSems0_six : ∃ R : sProp 𝕄, (ownSems0 (thr d L) : sProp 𝕄)
    = iprop((semVal (thr d L, .dma cc1_scratch6.sem) 0 ∗ semVal (thr d L, .dma cc1_scratch7.sem) 0 ∗ semVal (thr d L, .dma cc1_scratch8.sem) 0
      ∗ semVal (thr d L, .dma cc1_scratch9.sem) 0 ∗ semVal (thr d L, .dma cc1_scratch10.sem) 0 ∗ semVal (thr d L, .dma cc1_scratch11.sem) 0) ∗ R) := by
  unfold SparseCore.Cfg.ownSems0
  refine ⟨_, (bigSep_named (t := (Finset.univ : Finset (Fin 6))) (f := fun i => ((thr d L, .dma (scs i)) : GSem nD τ sig)) ?_ ?_).trans
    (congrArg (fun A => iprop(A ∗ _)) (bigSep_six _))⟩
  · intro i _ j _ h
    exact scs_inj (SemLoc.dma.inj (Prod.ext_iff.mp h).2)
  · intro i _
    refine mem_ownCells.mpr ⟨rfl, ?_⟩
    exact (show ∀ i : Fin 6, (SemLoc.dma (scs i) : SemLoc sig).isScoped .scVector = true by decide) i

/-- A whole scratch buffer at some contents. -/
theorem scratch_owns (b : Ref sig .scVector) :
    (iprop(∃ f, (thr d L).loc b ↦{fullShare} f) : sProp 𝕄) = iprop(∃ X, owns (thr d L) (Memref.whole b) fullShare X) := by
  have mk : ∀ {A B : sProp 𝕄}, (A ⊢ B) → (B ⊢ A) → A = B := fun h h' => BI.equiv_iff.mp ⟨h, h'⟩
  refine mk ?_ ?_
  · iintro ⟨%f, H⟩
    iexists f
    ihave H' := (Entails.of_eq (owns_whole (thr d L) b fullShare f).symm) $$ H
    iexact H'
  · iintro ⟨%f, H⟩
    iexists f
    ihave H' := (Entails.of_eq (owns_whole (thr d L) b fullShare f)) $$ H
    iexact H'

theorem ownBufs_six : ∃ R : sProp 𝕄, (ownBufs (thr d L) : sProp 𝕄)
    = iprop(((∃ X, owns (thr d L) (Memref.whole cc1_scratch0) fullShare X) ∗ (∃ X, owns (thr d L) (Memref.whole cc1_scratch1) fullShare X)
      ∗ (∃ X, owns (thr d L) (Memref.whole cc1_scratch2) fullShare X) ∗ (∃ X, owns (thr d L) (Memref.whole cc1_scratch3) fullShare X)
      ∗ (∃ X, owns (thr d L) (Memref.whole cc1_scratch4) fullShare X) ∗ (∃ X, owns (thr d L) (Memref.whole cc1_scratch5) fullShare X)) ∗ R) := by
  rw [← scratch_owns (F := F) d L cc1_scratch0, ← scratch_owns (F := F) d L cc1_scratch1, ← scratch_owns (F := F) d L cc1_scratch2,
    ← scratch_owns (F := F) d L cc1_scratch3, ← scratch_owns (F := F) d L cc1_scratch4, ← scratch_owns (F := F) d L cc1_scratch5]
  unfold SparseCore.Cfg.ownBufs
  refine ⟨_, (bigSep_named (t := (Finset.univ : Finset (Fin 6))) (f := fun i => (Proc.scVector (cV L) (jV L)).devRef (scr i)) ?_ ?_).trans
    (congrArg (fun A => iprop(A ∗ _)) (bigSep_six _))⟩
  · intro i _ j _ h
    exact scr_inj (Proc.devRef_injective _ h)
  · intro i _
    refine SparseCore.Cfg.mem_ownRefs_of_owner (p := Proc.scVector (cV L) (jV L)) ?_
    fin_cases i <;> rfl

variable (m : (ℓ : Loc nD τ sig) → Buf (Elt F) ℓ)
variable (B : S4096x8x128.Idx → BitVec 32) (T₀ : S102400x16.Idx → Elt F .f32)

/-- The task's program on tile `L`, with its scratch. -/
abbrev taskProg : Prog (TpuEff nD τ sig (Elt F) Λ₀ (thr d L).2) PUnit :=
  cc1_k L idxM (Memref.isWhole_whole _) tabM (Memref.isWhole_whole _) outM (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)
    cc1_scratch6 cc1_scratch7 cc1_scratch8 cc1_scratch9 cc1_scratch10 cc1_scratch11

/-- A tile's task, from what the launch hands it to what it brings back. -/
theorem tile_body (hF : (K (F := F)).Facts) (hB : ∀ x, (B x).toNat < 100000) (O : CellTallies nD τ sig (HIx 1)) (W : Waits sig (HIx 1)) (hO : ∀ g, O g none = 0) :
    iprop(levAts (K (F := F)).L (K (F := F)).lev ∗ emp ∗ taskIn d L B T₀ ∗ scopedBufs (thr d L) ∗ scopedSems0 (thr d L) ∗ owes (thr d L) O W)
      ⊢ wp frame (wpE (defs₀ (F := F)) 𝒱₀ (thr d L) none) Set.univ (taskProg d L) fun _ =>
        iprop(taskOut d L B T₀ ∗ scopedBufs (thr d L) ∗ scopedSems0 (thr d L) ∗ ∃ W', ⌜∀ p ∈ W', p ∈ W ∨ p.2 = none⌝ ∗ owes (thr d L) O W' : sProp 𝕄) := by
  obtain ⟨RS, hS⟩ := ownSems0_six (F := F) d L
  obtain ⟨RB, hBf⟩ := ownBufs_six (F := F) d L
  rw [(K (F := F)).scopedBufs_V hF d (cV L) (jV L), SparseCore.Cfg.scopedSems0_V (Val := Elt F) d (cV L) (jV L), hS, hBf, taskProg, kern_eq]
  have hB' : ∀ x, (B x).toNat < 102400 := fun x => lt_trans (hB x) (by decide)
  iintro ⟨#Hlv, -, HT, ⟨HB, HR⟩, ⟨HS, HRS⟩, HO⟩
  ihave Hmw := (show levAts (K (F := F)).L (K (F := F)).lev ⊢ (Transfers.MayWaits (thr d L) (default : HIx 1) O : sProp 𝕄) from
    (K (F := F)).mayWaits_none (thr := thr d L) hO) $$ Hlv
  unfold taskIn
  icases HT with ⟨HSrc, ⟨%Tt, %hT, HTA, HTB⟩, HP⟩
  icases HB with ⟨H5, H6, H7, H8, H9, H10⟩
  icases HS with ⟨S11, S12, S13, S14, S15, S16⟩
  iapply (wp_wand_r frame _ Set.univ)
  isplitl [HSrc HTA HTB HP H5 H6 H7 H8 H9 H10 S11 S12 S13 S14 S15 S16 HO]
  · iapply (wp_kern d L idxM (Memref.isWhole_whole _) tabM (Memref.isWhole_whole _) outM (Memref.isWhole_whole _)
      (Memref.whole cc1_scratch0) (Memref.isWhole_whole _) (Memref.whole cc1_scratch1) (Memref.isWhole_whole _) (Memref.whole cc1_scratch2) (Memref.isWhole_whole _)
      (Memref.whole cc1_scratch3) (Memref.isWhole_whole _) (Memref.whole cc1_scratch4) (Memref.isWhole_whole _) (Memref.whole cc1_scratch5) (Memref.isWhole_whole _)
      cc1_scratch6 cc1_scratch7 cc1_scratch8 cc1_scratch9 cc1_scratch10 cc1_scratch11 Tt B hB' (tabShare L 0) (tabShare L 1) O W)
    isplitr; · iexact Hmw
    isplitl [HSrc]; · iexact HSrc
    isplitl [HTA]; · iexact HTA
    isplitl [HTB]; · iexact HTB
    isplitl [HP]; · iexact HP
    isplitl [H5]; · iexact H5
    isplitl [H6]; · iexact H6
    isplitl [H7]; · iexact H7
    isplitl [H8]; · iexact H8
    isplitl [H9]; · iexact H9
    isplitl [H10]; · iexact H10
    isplitl [S11]; · iexact S11
    isplitl [S12]; · iexact S12
    isplitl [S13]; · iexact S13
    isplitl [S14]; · iexact S14
    isplitl [S15]; · iexact S15
    isplitl [S16]; · iexact S16
    iexact HO
  iintro %_ ⟨HD, H5, H6, H7, H8, H9, H10, S11, S12, S13, S14, S15, S16, HO⟩
  isplitl [HD]
  · unfold taskOut
    rw [← outV_agrees hT hB]
    iexact HD
  isplitl [H5 H6 H7 H8 H9 H10 HR]
  · isplitl [H5 H6 H7 H8 H9 H10]
    · isplitl [H5]; · iexact H5
      isplitl [H6]; · iexact H6
      isplitl [H7]; · iexact H7
      isplitl [H8]; · iexact H8
      isplitl [H9]; · iexact H9
      iexact H10
    iexact HR
  isplitl [S11 S12 S13 S14 S15 S16 HRS]
  · isplitl [S11 S12 S13 S14 S15 S16]
    · isplitl [S11]; · iexact S11
      isplitl [S12]; · iexact S12
      isplitl [S13]; · iexact S13
      isplitl [S14]; · iexact S14
      isplitl [S15]; · iexact S15
      iexact S16
    iexact HRS
  unfold waited
  iexact HO

/-! ## The call as the launch takes it -/

attribute [irreducible] taskIn taskOut

def coordsV (c : Fin (grid1.bound 0)) (s : Fin (grid1.bound 1)) : grid1.Coords :=
  fun | 0 => c | 1 => s | ⟨_ + 2, h⟩ => absurd h (Nat.not_lt.2 (Nat.le_add_left _ _))

/-- Tile `i` of SparseCore `c`. -/
def tl (c : Fin 2) (i : Fin 16) : grid1.Coords := coordsV c i

theorem defs₀_vector (c : Fin τ.nSC) (s : Fin τ.nSub) :
    defs₀ (F := F) (.scVector c s) 1 () = SparseCore.onTile hcore1 hsub1 (fun c s => taskProg (F := F) d (coordsV c s)) ⟨⟩ c s := rfl

/-- What the call's handshakes carry: per SparseCore its 16 tiles' tasks, per tile its task. -/
def P (Bm : Dev nD → S4096x8x128.Idx → BitVec 32) (Tm : Dev nD → S102400x16.Idx → Elt F .f32) :
    (K (F := F)).Pay (nD := nD) (Val := Elt F) (Name := ℕ) (U := UU) where
  st := fun q d c => match q with | 0 => bigSep Finset.univ fun i : Fin 16 => taskIn d (tl (Fin.cast nCore_zero c) i) (Bm d) (Tm d)
  dn := fun q d c => match q with | 0 => bigSep Finset.univ fun i : Fin 16 => taskOut d (tl (Fin.cast nCore_zero c) i) (Bm d) (Tm d)
  go := fun q d c i => match q with | 0 => taskIn d (tl (Fin.cast nCore_zero c) (Fin.cast nSub_zero i)) (Bm d) (Tm d)
  td := fun q d c i => match q with | 0 => taskOut d (tl (Fin.cast nCore_zero c) (Fin.cast nSub_zero i)) (Bm d) (Tm d)
  x := fun _ _ => iprop(emp)

variable (Bm : Dev nD → S4096x8x128.Idx → BitVec 32) (Tm : Dev nD → S102400x16.Idx → Elt F .f32)

instance P_storable : (P (F := F) Bm Tm).IsStorable where
  st q d c := match q with
    | 0 => (inferInstance : BI.Storable (upEmb : UEmb _ 𝕄) (bigSep Finset.univ fun i : Fin 16 => taskIn d (tl (Fin.cast nCore_zero c) i) (Bm d) (Tm d)))
  dn q d c := match q with
    | 0 => (inferInstance : BI.Storable (upEmb : UEmb _ 𝕄) (bigSep Finset.univ fun i : Fin 16 => taskOut d (tl (Fin.cast nCore_zero c) i) (Bm d) (Tm d)))
  go q d _ _ := match q with | 0 => (inferInstance : BI.Storable (upEmb : UEmb _ 𝕄) (taskIn d _ (Bm d) (Tm d)))
  td q d _ _ := match q with | 0 => (inferInstance : BI.Storable (upEmb : UEmb _ 𝕄) (taskOut d _ (Bm d) (Tm d)))

theorem obl_post {A B C : sProp 𝕄} {thr : Thread nD τ} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = some q⌝ ∗ owes thr O W') : sProp 𝕄) := by
  iintro ⟨HA, HB, HC, ⟨%W', %hW, HO⟩⟩
  isplitl [HA]; · iexact HA
  isplitl [HB]; · iexact HB
  isplitl [HC]; · iexact HC
  iexists W'
  isplitr
  · ipureintro; exact fun p hp => (hW p hp).imp id Or.inl
  iexact HO

set_option maxRecDepth 16384 in
/-- The tiles meet what the launch asks of them. -/
theorem tileObl (hB : ∀ d x, (Bm d x).toNat < 100000) : (K (F := F)).TileObl D 𝒱 (P Bm Tm) v₀ 0 := by
  intro d c i O W hO _ _
  simp only [show (P Bm Tm).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector d]; simp only [SparseCore.onTile, hci, and_self, ↓reduceDIte]
  exact (tile_body d (coordsV ⟨_, hci.1⟩ ⟨_, hci.2⟩) (Bm d) (Tm d) facts (hB d) O W hO).trans (wp_mono frame _ _ fun _ => obl_post)

theorem bigSep_tasks {M : Type} [URA M] (Φ : Fin 16 → sProp M) :
    (bigSep Finset.univ fun i : Fin ((K (F := F)).nSub 0) => Φ (Fin.cast nSub_zero i)) = bigSep Finset.univ Φ :=
  bigSep_congr fun _ _ => congrArg Φ (Fin.ext rfl)

/-- A SparseCore's tasks are its tiles'. -/
theorem vecSplit : (K (F := F)).VecSplit' (P Bm Tm) 0 := by
  intro d c
  show (bigSep Finset.univ fun i : Fin 16 => taskIn d (tl (Fin.cast nCore_zero c) i) (Bm d) (Tm d))
    ⊢ |={Set.univ}=> iprop((bigSep Finset.univ fun i : Fin ((K (F := F)).nSub 0) => taskIn d (tl (Fin.cast nCore_zero c) (Fin.cast nSub_zero i)) (Bm d) (Tm d))
      ∗ ((bigSep Finset.univ fun i : Fin ((K (F := F)).nSub 0) => taskOut d (tl (Fin.cast nCore_zero c) (Fin.cast nSub_zero i)) (Bm d) (Tm d))
        -∗ bigSep Finset.univ fun i : Fin 16 => taskOut d (tl (Fin.cast nCore_zero c) i) (Bm d) (Tm d)))
  rw [bigSep_tasks (F := F) fun i => taskIn d (tl (Fin.cast nCore_zero c) i) (Bm d) (Tm d),
    bigSep_tasks (F := F) fun i => taskOut d (tl (Fin.cast nCore_zero c) i) (Bm d) (Tm d)]
  iintro H
  imodintro
  isplitl [H]; · iexact H
  iintro H; iexact H

end Cert.Render
-- ==== Proof.Format.lean ====
/-
  The TensorCore call which lays the features out as the table: what its body makes of a block, and the body's run at a
  grid point.
-/
module

public import proofs.«01_k».proof.Proof.Task
public import proofs.«01_k».proof.Proof.Gen.KernelIdeal.Launch
public import proofs.«01_k».proof.Proof.Gen.KernelIdeal.Points
public import Idealize.ShloMosaic.Lib.Pipeline.ArrRel

@[expose] public section

noncomputable section

namespace Cert.Render

open Cert.KernelIdeal Cert.KernelIdeal.Gen
open Idealize.ShloMosaic
open Idealize.ShloMosaic.TcCoe
open Idealize.ShloMosaic.ValueIdx
open Idealize.ShloMosaic.Pipeline (RDat)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the body makes of a block -/

theorem slices_k : ∀ k : Fin 8, S512x8x16.Slices ![0, k.val, 0] S512x1x16 := by decide

/-- Row `k` of every group of eight rows. -/
def sliceK (x : FVec F S512x8x16 .f32) (k : Fin 8) : FVec F S512x16 .f32 :=
  shapeCast S512x16 (extractStridedSlice S512x1x16 ![0, k.val, 0] x (slices_k k)) shapeCasts_S512x1x16_S512x16

theorem sliceK_apply (x : FVec F S512x8x16 .f32) (k : Fin 8) (r : Fin 512) (c : Fin 16) : sliceK x k (ix2 r c) = x (ix3 r k c) := by
  unfold sliceK
  refine (shapeCast_apply _ _ _ (ix3 r (0 : Fin 1) c) ?_).trans ?_
  · refine (Shape.rowMajor_val_three (d := ![512, 1, 16]) _).trans (Eq.trans ?_ (Shape.rowMajor_val_two (d := ![512, 16]) _).symm)
    show (r.val * 1 + 0) * 16 + c.val = r.val * 16 + c.val
    omega
  · refine extractStridedSlice_apply _ _ _ _ _ fun a => ?_
    match a with
    | ⟨0, _⟩ => show r.val = 0 + r.val; omega
    | ⟨1, _⟩ => show k.val = k.val + 0; omega
    | ⟨2, _⟩ => show c.val = 0 + c.val; omega

/-- Feature `c` of the block's column `8 r + k` goes to row `r`, lane `16 k + c`. -/
theorem pay_at (x : Vec F S16x4096 .f32) (r : Fin 512) (k : Fin 8) (c : Fin 16) :
    k0_pay1 x (ix2 r (⟨16 * k.val + c.val, by omega⟩ : Fin 128)) = x (ix2 c (⟨8 * r.val + k.val, by omega⟩ : Fin 4096)) := by
  unfold k0_pay1
  refine (concatenate_ofFn_apply (t := S512x128) (s₁ := S512x16) (1 : Fin 2) (N := 8)
    (fun k => sliceK (shapeCast S512x8x16 (transpose S4096x16 [1, 0] (shapeCast S16x4096 x shapeCasts_S16x4096_S16x4096) transposes_S16x4096_p1_0_S4096x16) shapeCasts_S4096x16_S512x8x16) k)
    concatenates_S512x16_S512x16_S512x16_S512x16_S512x16_S512x16_S512x16_S512x16_S512x128_d1 rfl 16 rfl _ k ?_ (ix2 r c) ?_ ?_).trans ?_
  · show (16 * k.val + c.val) / 16 = k.val; omega
  · show c.val = (16 * k.val + c.val) % 16; omega
  · intro b hb
    match b with
    | ⟨0, _⟩ => rfl
    | ⟨1, _⟩ => exact absurd rfl hb
  rw [sliceK_apply]
  refine (shapeCast_apply _ _ _ (ix2 (⟨8 * r.val + k.val, by omega⟩ : Fin 4096) c) ?_).trans ?_
  · refine (Shape.rowMajor_val_two (d := ![4096, 16]) _).trans (Eq.trans ?_ (Shape.rowMajor_val_three (d := ![512, 8, 16]) _).symm)
    show (8 * r.val + k.val) * 16 + c.val = (r.val * 8 + k.val) * 16 + c.val
    omega
  refine (transpose_apply _ _ _ _ (ix2 c (⟨8 * r.val + k.val, by omega⟩ : Fin 4096)) fun b => ?_).trans ?_
  · match b with
    | ⟨0, _⟩ => rfl
    | ⟨1, _⟩ => rfl
  exact shapeCast_apply _ _ _ _ rfl

/-! ## The body's run -/

/-- A whole block's rectangle places every index at itself. -/
theorem unit_emb {s : Shape} {off : Fin s.rank → ℕ} (h : ∀ a, off a + s.size a ≤ s.size a) (x : s.Idx) :
    (Rect.unit (s := s) off s.size h).emb x = x := by
  funext a
  refine Fin.ext ?_
  have := h a
  change off a + 1 * (x a).val = (x a).val
  omega

theorem read_unit {κ : Kind} {sp : CoreSpace} {s : Shape} {e : EltTy} (m : Memref sig κ sp s e) {off : Fin s.rank → ℕ} (h : ∀ a, off a + s.size a ≤ s.size a)
    (f : m.view.ty.Contents (Elt F)) : (m.access (Rect.unit (s := s) off s.size h)).read (Elt F) f = m.view.read (Elt F) f := by
  funext x
  change m.view.read (Elt F) f ((Rect.unit (s := s) off s.size h).emb x) = _
  rw [unit_emb]

/-- The body leaves the features' block as it was and its rows and lanes in the table's block. -/
theorem body_run (d : Dev nD) (i : grid0.Coords) (m1 : Memref sig .tc .vmem S16x4096 .f32) (h1 : m1.IsWhole) (m2 : Memref sig .tc .vmem S512x128 .f32) (h2 : m2.IsWhole)
    (X : S16x4096.Idx → Elt F .f32) (Y : S512x128.Idx → Elt F .f32) (Q : PUnit → sProp 𝕄) :
    iprop(owns (d : Thread nD τ) m1 fullShare X ∗ owns (d : Thread nD τ) m2 fullShare Y
        ∗ (iprop(owns (d : Thread nD τ) m1 fullShare X ∗ owns (d : Thread nD τ) m2 fullShare (k0_pay1 X)) -∗ Q ⟨⟩))
      ⊢ wp frame (wpE (defs₀ (F := F)) 𝒱₀ (d : Thread nD τ) none) Set.univ (cc0_body i m1 h1 m2 h2) Q := by
  rw [cc0_body_eq_skeleton]
  have hs : cc0_body_skel (F := F) i m1 h1 m2 h2
      = .op (.load m1 (Rect.unit (s := S16x4096) ![0, 0] S16x4096.size inb_S16x4096_S16x4096_0_0).toLoadRect (View.loadsAt_vmem h_S16x4096)) fun v0 =>
        .op (.load m2 (Rect.unit (s := S512x128) ![0, 0] S512x128.size inb_S512x128_S512x128_0_0).toLoadRect (View.loadsAt_vmem h_S512x128)) fun _ =>
        .op (.store m2 (Rect.unit (s := S512x128) ![0, 0] S512x128.size inb_S512x128_S512x128_0_0) (k0_pay1 v0) Finset.univ (View.stores_vmem_bits_univ h_S512x128 rfl) (.inl rfl)) fun _ => .ret ⟨⟩ := rfl
  have e1 : (owns (d : Thread nD τ) m1 fullShare X : sProp 𝕄) = m1.view.loc (d : Thread nD τ) ↦[m1.view.set]{fullShare} m1.view.rep X := owns_rep (d : Thread nD τ) m1 fullShare X
  have e2 : (owns (d : Thread nD τ) m2 fullShare Y : sProp 𝕄) = m2.view.loc (d : Thread nD τ) ↦[m2.view.set]{fullShare} m2.view.rep Y := owns_rep (d : Thread nD τ) m2 fullShare Y
  rw [hs, e1, e2]
  have hsub1 : (m1.access (Rect.unit (s := S16x4096) ![0, 0] S16x4096.size inb_S16x4096_S16x4096_0_0)).set ⊆ m1.view.set := fun y hy => by
    rw [View.set_slice] at hy; exact View.setOn_subset_set _ _ hy
  have hsub2 : (m2.access (Rect.unit (s := S512x128) ![0, 0] S512x128.size inb_S512x128_S512x128_0_0)).set ⊆ m2.view.set := fun y hy => by
    rw [View.set_slice] at hy; exact View.setOn_subset_set _ _ hy
  iintro ⟨H1, H2, Hk⟩
  iapply (wp_load_rect (defs := defs₀ (F := F)) 𝒱₀ (d : Thread nD τ) none Set.univ (m := m1) (r := Rect.unit (s := S16x4096) ![0, 0] S16x4096.size inb_S16x4096_S16x4096_0_0)
    (S := m1.view.set) (f := m1.view.rep X) (q := fullShare) hsub1) $$ H1
  iintro H1
  iapply (wp_load_rect (defs := defs₀ (F := F)) 𝒱₀ (d : Thread nD τ) none Set.univ (m := m2) (r := Rect.unit (s := S512x128) ![0, 0] S512x128.size inb_S512x128_S512x128_0_0)
    (S := m2.view.set) (f := m2.view.rep Y) (q := fullShare) hsub2) $$ H2
  iintro H2
  rw [read_unit, View.read_rep]
  iapply (wp_store (defs := defs₀ (F := F)) 𝒱₀ (d : Thread nD τ) none Set.univ (m := m2) (r := Rect.unit (s := S512x128) ![0, 0] S512x128.size inb_S512x128_S512x128_0_0)
    (S := m2.view.set) (f := m2.view.rep Y) (by rw [View.setOn_univ]; exact hsub2)) $$ H2
  iintro H2
  iapply (Entails.of_eq (wp_pure _ _ _ _ _).symm)
  imodintro
  iapply Hk
  isplitl [H1]; · iexact H1
  have hr : m2.view.read (Elt F) ((m2.access (Rect.unit (s := S512x128) ![0, 0] S512x128.size inb_S512x128_S512x128_0_0)).write (Elt F) (m2.view.rep Y) (k0_pay1 X) Finset.univ) = k0_pay1 X := by
    rw [← read_unit m2 inb_S512x128_S512x128_0_0, View.read_write_univ]
  ihave H2 := (owns_intro (d : Thread nD τ) m2 fullShare _) $$ H2
  rw [hr]
  iexact H2

end Cert.Render

end
-- ==== Proof.Region.lean ====
/-
  The TensorCore call run over its grid: from the transposed features and any table, to a table whose rows are the features.
-/
module

public import proofs.«01_k».proof.Proof.Format
public import Idealize.ShloMosaic.Lib.Pipeline.Regions
public import Idealize.ShloMosaic.Lib.Pipeline.ValueKit.Geometry
public import Idealize.ShloMosaic.Lib.Pipeline.ArrRel

@[expose] public section

noncomputable section

namespace Cert.Render

open Cert.KernelIdeal Cert.KernelIdeal.Gen
open Idealize.ShloMosaic
open Idealize.ShloMosaic.TcCoe
open Idealize.ShloMosaic.ValueIdx
open Idealize.ShloMosaic.Pipeline (RDat)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The data of the run -/

/-- A block of the table whose rows are the features of block `t`, as far as there are features. -/
def Block (A : S16x100000.Idx → Elt F .f32) (t : ℕ) (X : S512x128.Idx → Elt F .f32) : Prop :=
  ∀ (r : Fin 512) (k : Fin 8) (c : Fin 16) (h : 4096 * t + (8 * r.val + k.val) < 100000),
    X (ix2 r (⟨16 * k.val + c.val, by omega⟩ : Fin 128)) = A (ix2 c (⟨4096 * t + (8 * r.val + k.val), h⟩ : Fin 100000))

variable (A3 : S16x100000.Idx → Elt F .f32) (A4 : S12800x128.Idx → Elt F .f32)

/-- Entered at the features `A3` and any table `A4`; at point `t` the body leaves a block of the features' rows; the thread owes what it
    owes before the SparseCore's call throughout. -/
def rd (d : Dev nD) : RDat τ (Elt F) (HIx 1) ℕ UU ℕ cfg0 d where
  A w := match w with
    | ⟨0, _⟩ => A3
    | ⟨1, _⟩ => A4
  after w t _ X := match w with
    | ⟨0, _⟩ => True
    | ⟨1, _⟩ => Block A3 t.val X
  Φ _ := BI.emp
  q _ := fullShare
  owed _ := (K (F := F)).Otc d 0
  recorded _ := {p | (K (F := F)).lev (T d, p.1) p.2 ≤ 0}

theorem index0 : ∀ t : Fin cfg0.N, (cfg0.win 0).index t 0 = 0 ∧ (cfg0.win 0).index t 1 = t.val := by decide +kernel
theorem xsize0 : ∀ t : Fin cfg0.N, (cfg0.win 0).xsize (cfg0.grid.coords t) 0 = 16 ∧ (cfg0.win 0).xsize (cfg0.grid.coords t) 1 = min 4096 (100000 - 4096 * t.val) := by
  decide +kernel
theorem index1 : ∀ t : Fin cfg0.N, (cfg0.win 1).index t 0 = t.val ∧ (cfg0.win 1).index t 1 = 0 := by decide +kernel

/-- What the fetch at point `t` leaves at a column which is there. -/
theorem fetched_at (d : Dev nD) (t : Fin cfg0.N) (X : S16x4096.Idx → Elt F .f32) (c : Fin 16) (x : Fin 4096) (h : 4096 * t.val + x.val < 100000) :
    (rd A3 A4 d).fetched 0 t X (ix2 c x) = A3 (ix2 c (⟨4096 * t.val + x.val, h⟩ : Fin 100000)) := by
  unfold Pipeline.RDat.fetched Pipeline.Window.fill
  have hm : (cfg0.win 0).moved (cfg0.grid.coords t) (ix2 c x) = true := ((cfg0.win 0).moved_iff _ _).mpr fun a => by
    match a with
    | ⟨0, _⟩ => exact lt_of_lt_of_eq c.isLt (xsize0 t).1.symm
    | ⟨1, _⟩ => exact lt_of_lt_of_eq (show x.val < min 4096 (100000 - 4096 * t.val) by have := x.isLt; omega) (xsize0 t).2.symm
  rw [dif_pos hm]
  show A3 _ = A3 _
  congr 1
  funext a
  refine Fin.ext ?_
  refine (Pipeline.Window.rect_emb_val (cfg0.win 0) t _ a).trans ?_
  match a with
  | ⟨0, _⟩ => show (cfg0.win 0).index t 0 * 16 + c.val = c.val; rw [(index0 t).1]; omega
  | ⟨1, _⟩ => show (cfg0.win 0).index t 1 * 4096 + x.val = 4096 * t.val + x.val; rw [(index0 t).2]; omega

/-- The body at a point: from what the fetch left, a block of the features' rows. -/
theorem body_obligation (d : Dev nD) : (rd A3 A4 d).BodyObligation (defs₀ (F := F)) 𝒱₀ none Set.univ := fun t Y hY => by
  rw [bigSep_W0, bigSep_W0]
  rw [show (rd A3 A4 d).Φ t.castSucc = BI.emp from rfl, show (rd A3 A4 d).Φ t.succ = BI.emp from rfl,
    show (rd A3 A4 d).owesAt none t.succ = (rd A3 A4 d).owesAt none t.castSucc from rfl]
  have h0 := hY 0
  rw [(rd A3 A4 d).finds_of_fetch (fetch0_0 t)] at h0
  obtain ⟨X, hX⟩ := h0
  iintro ⟨-, Howes, H0, H1⟩
  iapply (body_run d (grid0.coords t) (win0_0.stage (cfg0.slots t 0)) (hstage0_0 ((cfg0.slots t 0).cast nbuf0_0)) (win0_1.stage (cfg0.slots t 1)) (hstage0_1 ((cfg0.slots t 1).cast nbuf0_1))
    (Y 0) (Y 1) _)
  isplitl [H0]; · iexact H0
  isplitl [H1]; · iexact H1
  iintro ⟨H0, H1⟩
  isplitr; · iempintro
  isplitl [Howes]; · iexact Howes
  isplitl [H0]
  · iexists _
    isplitr; swap; (· iexact H0)
    ipureintro; trivial
  iexists _
  isplitr; swap; (· iexact H1)
  ipureintro
  intro r k c h
  rw [pay_at, hX]
  exact fetched_at A3 A4 d t X c _ h

/-! ## The table after the run -/

/-- Lane `16 k + c` of row `i` is feature `c` of row `8 i + k`, where there are features. -/
def LaneOk (i : S12800x128.Idx) (v : Elt F .f32) : Prop :=
  ∀ (k : Fin 8) (c : Fin 16) (h : 8 * (i 0).val + k.val < 100000), (i 1).val = 16 * k.val + c.val → v = A3 (ix2 c (⟨8 * (i 0).val + k.val, h⟩ : Fin 100000))

theorem covers1 : (cfg0.win 1).Covers := by decide +kernel

theorem xsize1 : ∀ t : Fin cfg0.N, (cfg0.win 1).xsize (cfg0.grid.coords t) 0 = 512 ∧ (cfg0.win 1).xsize (cfg0.grid.coords t) 1 = 128 := by decide +kernel

theorem table_ok [∀ e, Nonempty (Elt F e)] (d : Dev nD) (G : S12800x128.Idx → Elt F .f32) (hG : (rd A3 A4 d).ArrAt 1 cfg0.N G) (i : S12800x128.Idx) :
    LaneOk A3 i (G i) := by
  obtain ⟨X, hX, hA⟩ := RDat.ArrAt.exists_exact (rd := rd A3 A4 d) (w := 1) (n := cfg0.N) hG
  have e := hA (Function.update (fun _ _ _ => Classical.arbitrary _) 1 X) fun u _ _ => by rw [Function.update_self]
  rw [e]
  refine Pipeline.Dat.arrAt_forall_of_covers ((rd A3 A4 d).withAfter (Function.update (fun _ _ _ => Classical.arbitrary _) 1 X)) 1 (LaneOk A3) covers1 (fun t hf y => ?_) i (Memref.isWhole_whole _)
  obtain ⟨Y, -, hB⟩ := hX t t.isLt hf
  have hB : Block A3 t.val (X t) := hB
  intro k c h hk
  have e0 := Pipeline.Window.rect_emb_val (cfg0.win 1) t y 0
  have e1 := Pipeline.Window.rect_emb_val (cfg0.win 1) t y 1
  rw [(index1 t).1] at e0
  rw [(index1 t).2] at e1
  have y0 : (y 0).val < 512 := lt_of_lt_of_eq (y 0).isLt (xsize1 t).1
  have y1 : (y 1).val < 128 := lt_of_lt_of_eq (y 1).isLt (xsize1 t).2
  have e0 : ((((cfg0.win 1).blk t).view.emb y) 0).val = t.val * 512 + (y 0).val := e0
  have e1 : ((((cfg0.win 1).blk t).view.emb y) 1).val = 0 * 128 + (y 1).val := e1
  have hk : ((((cfg0.win 1).blk t).view.emb y) 1).val = 16 * k.val + c.val := hk
  have h' : 8 * ((((cfg0.win 1).blk t).view.emb y) 0).val + k.val < 100000 := h
  have hb := hB ⟨(y 0).val, y0⟩ k c (by show 4096 * t.val + (8 * (y 0).val + k.val) < 100000; omega)
  show (Function.update (fun _ _ _ => Classical.arbitrary _) 1 X : (w' : Fin cfg0.W) → Fin cfg0.N → (cfg0.win w').block.Idx → Elt F (cfg0.win w').elt) 1 t ((cfg0.win 1).xinj (cfg0.grid.coords t) y) = _
  rw [Function.update_self]
  refine Eq.trans (congrArg (X t) (funext fun a => Fin.ext ?_)) (hb.trans (congrArg A3 (funext fun a => Fin.ext ?_)))
  · match a with
    | ⟨0, _⟩ => rfl
    | ⟨1, _⟩ => show (y 1).val = 16 * k.val + c.val; omega
  · match a with
    | ⟨0, _⟩ => rfl
    | ⟨1, _⟩ => show 4096 * t.val + (8 * (y 0).val + k.val) = 8 * ((((cfg0.win 1).blk t).view.emb y) 0).val + k.val; omega

/-! ## The region -/

/-- Where the pipeline's ghost state lies. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The one admissible contents of no prefetched table. -/
abbrev adm : (p : Fin 1) → (pcfgs (F := F) p).Adm := fun p => (cfgs p).toPCfg_adm

/-- The data, as the family over the one pipeline. -/
def rds : (p : Fin 1) → (c : Dev nD) → RDat τ (Elt F) (HIx 1) ℕ UU ℕ (Pipeline.pin (pcfgs (F := F)) adm p) c
  | ⟨0, _⟩ => fun c => rd A3 A4 c

/-- The thread owes what it owes before the SparseCore's call. -/
def owesTc (d : Dev nD) : sProp 𝕄 :=
  iprop(∃ W, ⌜(K (F := F)).WBelow (T d) W 0⌝ ∗ owes (T d) ((K (F := F)).Otc d 0) W)

theorem arrays_intro (c : Dev nD) :
    (iprop((((c : Thread nD τ).loc main_v3) ↦{fullShare} A3) ∗ (((c : Thread nD τ).loc main_v4) ↦{fullShare} A4)) : sProp 𝕄) ⊢ (rd A3 A4 c).arrays (rd A3 A4 c).A := by
  unfold Pipeline.RDat.arrays
  rw [bigSep_W0]
  iintro ⟨H3, H4⟩
  isplitl [H3]
  · iapply (Entails.of_eq (show (((c : Thread nD τ).loc main_v3) ↦{fullShare} A3 : sProp 𝕄) = (((cfg0.win 0).arr.view.loc (c : Thread nD τ)) ↦[(cfg0.win 0).arr.view.set]{(rd A3 A4 c).share 0} (rd A3 A4 c).A 0) from by
      rw [show (cfg0.win 0).arr.view.set = Finset.univ from View.set_whole _]; rfl)) $$ H3
  · iapply (Entails.of_eq (show (((c : Thread nD τ).loc main_v4) ↦{fullShare} A4 : sProp 𝕄) = (((cfg0.win 1).arr.view.loc (c : Thread nD τ)) ↦[(cfg0.win 1).arr.view.set]{(rd A3 A4 c).share 1} (rd A3 A4 c).A 1) from by
      rw [show (cfg0.win 1).arr.view.set = Finset.univ from View.set_whole _]; rfl)) $$ H4

theorem arrays_out [∀ e, Nonempty (Elt F e)] (c : Dev nD) :
    (rd A3 A4 c).arraysAt cfg0.N ⊢ (iprop(∃ G, ⌜∀ i, LaneOk A3 i (G i)⌝ ∗ (((c : Thread nD τ).loc main_v4) ↦{fullShare} G)) : sProp 𝕄) := by
  unfold Pipeline.RDat.arraysAt
  rw [bigSep_W0]
  iintro ⟨-, ⟨%G, %hG, H⟩⟩
  iexists G
  isplitr; · ipureintro; exact fun i => table_ok A3 A4 c G hG i
  iapply (Entails.of_eq (show (((cfg0.win 1).arr.view.loc (c : Thread nD τ)) ↦[(cfg0.win 1).arr.view.set]{(rd A3 A4 c).share 1} G : sProp 𝕄) = (((c : Thread nD τ).loc main_v4) ↦{fullShare} G) from by
      rw [show (cfg0.win 1).arr.view.set = Finset.univ from View.set_whole _]; rfl)) $$ H

set_option backward.isDefEq.respectTransparency.types false in
/-- The TensorCore's call: from the transposed features and any table to a table with the features' rows. -/
def reg [∀ e, Nonempty (Elt F e)] : Pipeline.RDat.RegionSeg (pcfgs (F := F)) adm (rds A3 A4) none defs₀ 𝒱₀ (K (F := F)).L (K (F := F)).lev 0 where
  win := (launch0).win.to₀
  block_pos := launch0.block_pos
  stage_whole := launch0.stage_whole
  K := PEmpty
  osem k := k.elim
  ho := Pipeline.OwnSemFacts.none _
  hbody c := body_obligation A3 A4 c
  hwaits c := Pipeline.RDat.cellsWaits_intro _ _ _ _ _ fun w s t => (K (F := F)).mayWait_none _ (fun g => by
    show (K (F := F)).Otc c 0 g none = 0
    by_contra h
    have := (K (F := F)).lev_of_Otc_pos (Nat.pos_of_ne_zero h)
    exact absurd this (by show ¬ (_ ≤ 0); omega))
  pre c := iprop((((c : Thread nD τ).loc main_v3) ↦{fullShare} A3) ∗ (((c : Thread nD τ).loc main_v4) ↦{fullShare} A4) ∗ owesTc c)
  post c := iprop((∃ G, ⌜∀ i, LaneOk A3 i (G i)⌝ ∗ (((c : Thread nD τ).loc main_v4) ↦{fullShare} G)) ∗ owesTc c)
  X _ := BI.emp
  Y _ := BI.emp
  Z _ := BI.emp
  hentry c := by
    have hin' : _ ⊢ (rds A3 A4 0 c).arrays (rds A3 A4 0 c).A := arrays_intro A3 A4 c
    rw [Pipeline.ownSems0_none]
    iintro ⟨⟨H3, H4, HO⟩, -, -⟩
    imodintro
    isplitl [H3 H4]
    · ihave H := hin' $$ [H3 H4]; · isplitl [H3] <;> iassumption
      iexact H
    isplitr; · unfold Pipeline.prefHeld; rw [show (Finset.univ : Finset (Fin 0)) = ∅ from rfl, BI.bigSep_empty]; iempintro
    isplitl [HO]
    · unfold owesTc
      icases HO with ⟨%W, %hW, HO⟩
      unfold Pipeline.RDat.owesAt Pipeline.owesWithin
      iexists W; isplitr
      · ipureintro; exact fun p hp => Or.inl (hW p hp)
      · iexact HO
    isplitr <;> iempintro
  hin c := by
    rw [show (rds A3 A4 0 c).Φ 0 = (BI.emp : sProp 𝕄) from rfl]
    iintro -; iempintro
  hout c := by
    rw [Pipeline.ownSems0_none, show Pipeline.scopedRest (Ix := HIx 1) (Name := ℕ) (U := UU) (Lvl := ℕ) (Val := Elt F) ((pcfgs (F := F) 0).spec) c = (BI.emp : sProp 𝕄) from scopedRest0_eq c]
    iintro -
    isplitr; · iempintro
    isplitr <;> iempintro
  hexit c := by
    have hout' : (rds A3 A4 0 c).arraysAt (Pipeline.pin (pcfgs (F := F)) adm 0).N ⊢ _ := arrays_out A3 A4 c
    iintro ⟨H, HO, -, -⟩
    ihave H := hout' $$ H
    imodintro
    isplitl [H]; · iexact H
    · unfold owesTc Pipeline.RDat.owesAt Pipeline.owesWithin
      icases HO with ⟨%W, %hW, HO⟩
      iexists W; isplitr
      · ipureintro
        intro p hp
        rcases hW hp with h | h
        · exact h
        · obtain ⟨w, s, rfl⟩ := h
          exact Nat.le_refl 0
      · iexact HO

/-- The ghost state that the run of the call wants. -/
def callGhost (d : Dev nD) : sProp 𝕄 :=
  iprop(Pipeline.cellsGhost (nD := nD) (τ := τ) (Pipeline.pin (pcfgs (F := F)) adm) EP 0 d ∗ Pipeline.toksInit (nD := nD) (τ := τ) (Pipeline.pin (pcfgs (F := F)) adm) EP 0 d)

/-- THE CALL: entered at the boundary with the transposed features and any table, it comes back with a table that holds the features' rows. -/
theorem call_run [∀ e, Nonempty (Elt F e)] (d : Dev nD) (Q : PUnit → sProp 𝕄) :
    iprop((iprop(boundary (T d) ∗ (∃ G, ⌜∀ i, LaneOk A3 i (G i)⌝ ∗ (((d : Thread nD τ).loc main_v4) ↦{fullShare} G)) ∗ owesTc d) -∗ Q ⟨⟩)
        ∗ boundary (T d) ∗ ((((d : Thread nD τ).loc main_v3) ↦{fullShare} A3) ∗ (((d : Thread nD τ).loc main_v4) ↦{fullShare} A4) ∗ owesTc d)
        ∗ levAts (K (F := F)).L (K (F := F)).lev ∗ callGhost d)
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Q := by
  have h := (K (F := F)).wp_liftProg (D (F := F)) 𝒱 (T d) Set.univ none
    (.op (.customCall (Pipeline.entry 0) ()) .ret : Prog (TpuEff nD τ sig (Elt F) (ΛP (F := F)) .tc) PUnit) Q
  have h2 := RDat.RegionSeg.wp (pcfgs (F := F)) adm (rds A3 A4) none cellOf_inj EP defs₀ 𝒱₀ (K (F := F)).L (K (F := F)).lev (reg A3 A4) d none
    (fun u hu => nomatch hu) .ret Q
  unfold callGhost
  rw [show (reg A3 A4).pre d = iprop((((d : Thread nD τ).loc main_v3) ↦{fullShare} A3) ∗ (((d : Thread nD τ).loc main_v4) ↦{fullShare} A4) ∗ owesTc d) from rfl,
    show (reg A3 A4).post d = iprop((∃ G, ⌜∀ i, LaneOk A3 i (G i)⌝ ∗ (((d : Thread nD τ).loc main_v4) ↦{fullShare} G)) ∗ owesTc d) from rfl] at h2
  refine BIBase.Entails.trans ?_ (BIBase.Entails.trans h2 h)
  iintro ⟨Hk, Hb, Hp, Hl, Hg, Ht⟩
  isplitl [Hk]
  · iintro H
    iapply (Entails.of_eq (wp_pure _ _ _ _ _).symm); imodintro
    iapply Hk; iexact H
  isplitl [Hb]; · iexact Hb
  isplitl [Hp]; · iexact Hp
  isplitl [Hl]; · iexact Hl
  isplitl [Hg] <;> iassumption

end Cert.Render

end
-- ==== Proof.Arrays.lean ====
/-
  The arrays of the SparseCore's call, split into the tiles' windows and joined again.
-/
module

public import proofs.«01_k».proof.Proof.Region

@[expose] public section

noncomputable section

namespace Cert.Render

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-- A product over the first numbers is the product over the type of them. -/
theorem bigSep_range' {M : Type} [URA M] (n : ℕ) (Φ : ℕ → sProp M) : bigSep (Finset.range n) Φ = bigSep Finset.univ fun i : Fin n => Φ i.val := by
  rw [show Finset.range n = Finset.univ.map (Fin.valEmbedding (n := n)) from (Fin.map_valEmbedding_univ.trans (by ext; simp)).symm, BI.bigSep_map]
  rfl

/-- The tiles, two cores of sixteen. -/
abbrev Tiles := Fin 2 × Fin 16

theorem tl0 (c : Fin 2) (i : Fin 16) : ((tl c i) 0).val = c.val := rfl
theorem tl1 (c : Fin 2) (i : Fin 16) : ((tl c i) 1).val = i.val := rfl

variable (d : Dev nD)

/-! ## The indices -/

/-- Pair `p` of tile `(c, i)` reads four blocks of the indices. -/
abbrev idxRect (t : Tiles × Fin 32) : Rect S4096x8x128 :=
  Rect.unit (s := S4096x8x128) (iOff (tl t.1.1 t.1.2) t.2.val) S4x8x128.size (iOff_inb _ _)

theorem idxRect_disj (t t' : Tiles × Fin 32) (h : t ≠ t') : Disjoint (idxRect t).set (idxRect t').set :=
  Rect.disjoint_of_axis _ _ 0 fun j hj j' hj' e => by
    obtain ⟨⟨c, i⟩, p⟩ := t
    obtain ⟨⟨c', i'⟩, p'⟩ := t'
    change j < 4 at hj; change j' < 4 at hj'
    change 256 * i.val + 128 * c.val + 4 * (p.val % 32) + 1 * j = 256 * i'.val + 128 * c'.val + 4 * (p'.val % 32) + 1 * j' at e
    have := c.isLt; have := c'.isLt; have := p.isLt; have := p'.isLt
    refine h ?_
    obtain rfl : i = i' := Fin.ext (by omega)
    obtain rfl : c = c' := Fin.ext (by omega)
    obtain rfl : p = p' := Fin.ext (by omega)
    rfl

theorem idxRect_cov : (Finset.univ : Finset (Tiles × Fin 32)).biUnion (fun t => (idxRect t).set) = Finset.univ := by
  ext x
  simp only [Finset.mem_biUnion, Finset.mem_univ, true_and, iff_true]
  have hx : (x 0).val < 4096 := (x 0).isLt
  refine ⟨((⟨(x 0).val % 256 / 128, by omega⟩, ⟨(x 0).val / 256, by omega⟩), ⟨(x 0).val % 128 / 4, by omega⟩),
    mem_rect _ (ix3 (⟨(x 0).val % 4, by omega⟩ : Fin 4) (x 1) (x 2)) ?_⟩
  funext a
  refine Fin.ext ?_
  match a with
  | ⟨0, _⟩ =>
    change 256 * ((x 0).val / 256) + 128 * ((x 0).val % 256 / 128) + 4 * ((x 0).val % 128 / 4 % 32) + 1 * ((x 0).val % 4) = (x 0).val
    omega
  | ⟨1, _⟩ => change 0 + 1 * (x 1).val = (x 1).val; omega
  | ⟨2, _⟩ => change 0 + 1 * (x 2).val = (x 2).val; omega

theorem idx_split (B : S4096x8x128.Idx → Elt F .i32) :
    (owns (thr d (tl 0 0)) idxM fullShare B : sProp 𝕄) ⊢ bigSep Finset.univ fun c : Fin 2 => bigSep Finset.univ fun i : Fin 16 => srcFrom d (tl c i) idxM B 0 := by
  refine (owns_rects (thr d (tl 0 0)) idxM fullShare idxRect (fun _ _ => rfl) idxRect_disj idxRect_cov B).trans ?_
  rw [bigSep_univ_prod, bigSep_univ_prod]
  refine bigSep_mono' fun c _ => bigSep_mono' fun i _ => ?_
  unfold srcFrom
  rw [← Finset.range_eq_Ico, bigSep_range']
  refine bigSep_mono' fun p _ => Entails.of_eq ?_
  show owns (thr d (tl c i)) (ihWin idxM (iOff (tl c i) p.val) (iOff_inb _ _)) fullShare _ = _
  refine congrArg (fun Z => owns (thr d (tl c i)) (ihWin idxM (iOff (tl c i) p.val) (iOff_inb _ _)) fullShare Z) ?_
  funext j
  unfold pairIdx
  refine congrArg B (funext fun a => Fin.ext ?_)
  match a with
  | ⟨0, _⟩ =>
    change 256 * i.val + 128 * c.val + 4 * (p.val % 32) + 1 * (j 0).val = 256 * i.val + 128 * c.val + 4 * (p.val % 32) + (j 0).val
    omega
  | ⟨1, _⟩ => change 0 + 1 * (j 1).val = (j 1).val; omega
  | ⟨2, _⟩ => change 0 + 1 * (j 2).val = (j 2).val; omega

/-! ## The output -/

/-- Piece `q` of chunk `g` of tile `(c, i)`. -/
abbrev outWinRect (t : Tiles × Fin 64 × Fin 4) : Rect S1024x2x4x1024 :=
  Rect.unit (s := S1024x2x4x1024) (oOff (tl t.1.1 t.1.2) (2 * t.2.1.val + t.2.2.val / 2) (t.2.2.val % 2)) S1x1x1x1024.size (oOff_inb _ _ _)

theorem outWinRect_disj (t t' : Tiles × Fin 64 × Fin 4) (h : t ≠ t') : Disjoint (outWinRect t).set (outWinRect t').set := by
  obtain ⟨⟨c, i⟩, g, q⟩ := t
  obtain ⟨⟨c', i'⟩, g', q'⟩ := t'
  have := c.isLt; have := c'.isLt; have := g.isLt; have := g'.isLt; have := q.isLt; have := q'.isLt
  by_cases h0 : 64 * i.val + 32 * c.val + (2 * g.val + q.val / 2) % 128 / 4 = 64 * i'.val + 32 * c'.val + (2 * g'.val + q'.val / 2) % 128 / 4
  · by_cases h1 : q.val % 2 = q'.val % 2
    · refine Rect.disjoint_of_axis _ _ 2 fun j hj j' hj' e => ?_
      change j < 1 at hj; change j' < 1 at hj'
      change (2 * g.val + q.val / 2) % 4 + 1 * j = (2 * g'.val + q'.val / 2) % 4 + 1 * j' at e
      refine h ?_
      obtain rfl : i = i' := Fin.ext (by omega)
      obtain rfl : c = c' := Fin.ext (by omega)
      obtain rfl : g = g' := Fin.ext (by omega)
      obtain rfl : q = q' := Fin.ext (by omega)
      rfl
    · refine Rect.disjoint_of_axis _ _ 1 fun j hj j' hj' e => ?_
      change j < 1 at hj; change j' < 1 at hj'
      change q.val % 2 % 2 + 1 * j = q'.val % 2 % 2 + 1 * j' at e
      omega
  · refine Rect.disjoint_of_axis _ _ 0 fun j hj j' hj' e => ?_
    change j < 1 at hj; change j' < 1 at hj'
    change 64 * i.val + 32 * c.val + (2 * g.val + q.val / 2) % 128 / 4 + 1 * j = 64 * i'.val + 32 * c'.val + (2 * g'.val + q'.val / 2) % 128 / 4 + 1 * j' at e
    omega

theorem outWinRect_cov : (Finset.univ : Finset (Tiles × Fin 64 × Fin 4)).biUnion (fun t => (outWinRect t).set) = Finset.univ := by
  ext x
  simp only [Finset.mem_biUnion, Finset.mem_univ, true_and, iff_true]
  have hx : (x 0).val < 1024 := (x 0).isLt
  have hx1 : (x 1).val < 2 := (x 1).isLt
  have hx2 : (x 2).val < 4 := (x 2).isLt
  have hn : ∀ a b : ℕ, a < 32 → b < 4 → 2 * ((4 * a + b) / 2) + (2 * (b % 2) + (x 1).val) / 2 = 4 * a + b := fun a b _ _ => by omega
  refine ⟨((⟨(x 0).val % 64 / 32, by omega⟩, ⟨(x 0).val / 64, by omega⟩), ⟨(4 * ((x 0).val % 32) + (x 2).val) / 2, by omega⟩, ⟨2 * ((x 2).val % 2) + (x 1).val, by omega⟩),
    mem_rect _ (ix4 (0 : Fin 1) (0 : Fin 1) (0 : Fin 1) (x 3)) ?_⟩
  have e := hn ((x 0).val % 32) (x 2).val (by omega) hx2
  funext a
  refine Fin.ext ?_
  match a with
  | ⟨0, _⟩ =>
    change 64 * ((x 0).val / 64) + 32 * ((x 0).val % 64 / 32) + (2 * ((4 * ((x 0).val % 32) + (x 2).val) / 2) + (2 * ((x 2).val % 2) + (x 1).val) / 2) % 128 / 4 + 1 * 0 = (x 0).val
    rw [e]; omega
  | ⟨1, _⟩ => change (2 * ((x 2).val % 2) + (x 1).val) % 2 % 2 + 1 * 0 = (x 1).val; omega
  | ⟨2, _⟩ =>
    change (2 * ((4 * ((x 0).val % 32) + (x 2).val) / 2) + (2 * ((x 2).val % 2) + (x 1).val) / 2) % 4 + 1 * 0 = (x 2).val
    rw [e]; omega
  | ⟨3, _⟩ => change 0 + 1 * (x 3).val = (x 3).val; omega

/-- A piece, seen as a row, at its values. -/
theorem outPiece_eq (W : S1024x2x4x1024.Idx → Elt F .f32) (c : Fin 2) (i : Fin 16) (n ct : ℕ) :
    (owns (thr d (tl 0 0)) (outM.slice (Rect.unit (s := S1024x2x4x1024) (oOff (tl c i) n ct) S1x1x1x1024.size (oOff_inb _ _ _)) (fun _ => rfl)) fullShare
        (fun j => W ((Rect.unit (s := S1024x2x4x1024) (oOff (tl c i) n ct) S1x1x1x1024.size (oOff_inb _ _ _)).emb j)) : sProp 𝕄)
      = owns (thr d (tl c i)) (oWin (tl c i) outM n ct) fullShare (oVal (tl c i) W n ct) := by
  refine (owns_squeeze (thr d (tl 0 0)) _ fullShare _ squeezes_S1x1x1x1024_S1024 (Val := Elt F)).symm.trans ?_
  show owns (thr d (tl c i)) (oWin (tl c i) outM n ct) fullShare _ = _
  refine congrArg (fun Z => owns (thr d (tl c i)) (oWin (tl c i) outM n ct) fullShare Z) ?_
  funext j
  have ej : Shape.reshapeEquiv (squeezes_S1x1x1x1024_S1024).numel_eq j = (ix4 (0 : Fin 1) (0 : Fin 1) (0 : Fin 1) (j 0) : S1x1x1x1024.Idx) := by
    refine Shape.reshapeEquiv_eq_of_rowMajor _ ?_
    rw [Shape.rowMajor_val_four, Shape.rowMajor_val_one]
    change ((0 * 1 + 0) * 1 + 0) * 1024 + (j 0).val = (j 0).val
    omega
  rw [ej]
  unfold oVal
  refine congrArg W (funext fun a => Fin.ext ?_)
  match a with
  | ⟨0, _⟩ => change 64 * i.val + 32 * c.val + n % 128 / 4 + 1 * 0 = 64 * i.val + 32 * c.val + n % 128 / 4; omega
  | ⟨1, _⟩ => change ct % 2 + 1 * 0 = ct % 2; omega
  | ⟨2, _⟩ => change n % 4 + 1 * 0 = n % 4; omega
  | ⟨3, _⟩ => change 0 + 1 * (j 0).val = (j 0).val; omega

theorem out_split (W : S1024x2x4x1024.Idx → Elt F .f32) :
    (owns (thr d (tl 0 0)) outM fullShare W : sProp 𝕄) ⊢ bigSep Finset.univ fun c : Fin 2 => bigSep Finset.univ fun i : Fin 16 => pendFrom d (tl c i) outM 0 := by
  refine (owns_rects (thr d (tl 0 0)) outM fullShare outWinRect (fun _ _ => rfl) outWinRect_disj outWinRect_cov W).trans ?_
  rw [bigSep_univ_prod, bigSep_univ_prod]
  refine bigSep_mono' fun c _ => bigSep_mono' fun i _ => ?_
  unfold pendFrom
  rw [← Finset.range_eq_Ico, bigSep_range', bigSep_univ_prod]
  refine bigSep_mono' fun g _ => ?_
  unfold outPend
  refine bigSep_mono' fun q _ => ?_
  refine (Entails.of_eq (outPiece_eq d W c i (2 * g.val + q.val / 2) (q.val % 2))).trans ?_
  iintro H; iexists _; iexact H

theorem out_join (W : S1024x2x4x1024.Idx → Elt F .f32) :
    (bigSep Finset.univ fun c : Fin 2 => bigSep Finset.univ fun i : Fin 16 => doneTo d (tl c i) outM W 64) ⊢ (owns (thr d (tl 0 0)) outM fullShare W : sProp 𝕄) := by
  refine BIBase.Entails.trans ?_ (owns_of_rects (thr d (tl 0 0)) outM fullShare outWinRect (fun _ _ => rfl) outWinRect_disj outWinRect_cov W)
  rw [bigSep_univ_prod, bigSep_univ_prod]
  refine bigSep_mono' fun c _ => bigSep_mono' fun i _ => ?_
  unfold doneTo
  rw [bigSep_range', bigSep_univ_prod]
  refine bigSep_mono' fun g _ => ?_
  unfold outDone
  exact bigSep_mono' fun q _ => Entails.of_eq (outPiece_eq d W c i (2 * g.val + q.val / 2) (q.val % 2)).symm

/-! ## The table -/

abbrev tabRect (_ : Fin 1) : Rect S102400x16 := Rect.unit (s := S102400x16) ![0, 0] S102400x16.size inb_S102400x16_S102400x16_0_0

theorem tabRect_emb (t : Fin 1) (j : S102400x16.Idx) : (tabRect t).emb j = j := by
  funext a
  refine Fin.ext ?_
  match a with
  | ⟨0, _⟩ => change 0 + 1 * (j 0).val = (j 0).val; omega
  | ⟨1, _⟩ => change 0 + 1 * (j 1).val = (j 1).val; omega

theorem tabRect_cov : (Finset.univ : Finset (Fin 1)).biUnion (fun t => (tabRect t).set) = Finset.univ := by
  ext x
  simp only [Finset.mem_biUnion, Finset.mem_univ, true_and, iff_true]
  exact ⟨0, mem_rect _ x (tabRect_emb 0 x)⟩

/-- Share `k` of tile `(c, i)` among 64. -/
def shareEquiv : (Tiles × Fin 2) ≃ Fin 64 where
  toFun t := ⟨32 * t.1.1.val + 2 * t.1.2.val + t.2.val, by omega⟩
  invFun j := ((⟨j.val / 32, by omega⟩, ⟨j.val % 32 / 2, by omega⟩), ⟨j.val % 2, by omega⟩)
  left_inv := by rintro ⟨⟨c, i⟩, k⟩; ext <;> simp only <;> omega
  right_inv j := by ext; simp only; omega

theorem tab_split (Tt : S102400x16.Idx → Elt F .f32) :
    (owns (thr d (tl 0 0)) tabM fullShare Tt : sProp 𝕄) ⊢ bigSep Finset.univ fun c : Fin 2 => bigSep Finset.univ fun i : Fin 16 =>
      iprop(owns (thr d (tl c i)) (tabWin tabM) (tabShare (tl c i) 0) Tt ∗ owns (thr d (tl c i)) (tabWin tabM) (tabShare (tl c i) 1) Tt) := by
  refine (owns_rects (thr d (tl 0 0)) tabM fullShare tabRect (fun _ _ => rfl) (fun t t' h => absurd (Subsingleton.elim t t') h) tabRect_cov Tt).trans ?_
  rw [show (Finset.univ : Finset (Fin 1)) = {0} from rfl, bigSep_singleton]
  simp only [tabRect_emb]
  refine (Entails.of_eq (owns_pieces (thr d (tl 0 0)) (tabWin tabM) fullShare Tt (o := 64) (by decide))).trans ?_
  rw [bigSep_univ_equiv shareEquiv, bigSep_univ_prod, bigSep_univ_prod]
  refine bigSep_mono' fun c _ => bigSep_mono' fun i _ => ?_
  rw [bigSep_fin_two]
  exact .rfl

end Cert.Render

end
-- ==== Proof.Main.lean ====
/-
  The kernel run whole: the TensorCore's operations and calls, the launch, and what the memory holds at the end.
-/
module

public import proofs.«01_k».proof.Proof.Arrays

@[expose] public section

noncomputable section

namespace Cert.Render

open Cert.KernelIdeal Cert.KernelIdeal.Gen
open Idealize.ShloMosaic
open Idealize.ShloMosaic.TcCoe
open Idealize.ShloMosaic.ValueIdx
open Idealize.ShloMosaic.StableHlo (held wp_hlo_within)
open Idealize.ShloMosaic.SparseCore (S V T)
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## What the host operations compute -/

/-- The indices as the SparseCore reads them: blocks of 128 pixels, one row per point. -/
def idxB (I : S2x512x512x8.Idx → Elt F .i32) : S4096x8x128.Idx → Elt F .i32 :=
  shapeCast S4096x8x128 (transpose S2x512x4x8x128 [0, 1, 2, 4, 3] (shapeCast S2x512x4x128x8 I shapeCasts_S2x512x512x8_S2x512x4x128x8)
    transposes_S2x512x4x128x8_S2x512x4x8x128_0_1_2_4_3) shapeCasts_S2x512x4x8x128_S4096x8x128

/-- The features, one row per channel. -/
def featT (X : S100000x16.Idx → Elt F .f32) : S16x100000.Idx → Elt F .f32 :=
  transpose S16x100000 [1, 0] X transposes_S100000x16_S16x100000_1_0

/-- The table as the SparseCore reads it. -/
def tabR (G : S12800x128.Idx → Elt F .f32) : S102400x16.Idx → Elt F .f32 := shapeCast S102400x16 G shapeCasts_S12800x128_S102400x16

/-- The features' rows, and any rows beyond them. -/
def tableOf (X : S100000x16.Idx → Elt F .f32) : S102400x16.Idx → Elt F .f32 := fun j =>
  X (ix2 (⟨(j 0).val % 100000, Nat.mod_lt _ (by decide)⟩ : Fin 100000) (j 1))

/-- The images, of the SparseCore's output. -/
def imgOf (O : S1024x2x4x1024.Idx → Elt F .f32) : S2x512x512x16.Idx → Elt F .f32 :=
  shapeCast S2x512x512x16 (transpose S2x512x4x128x2x8 [0, 1, 3, 5, 2, 4] (shapeCast S2x512x2x4x8x128 O shapeCasts_S1024x2x4x1024_S2x512x2x4x8x128)
    transposes_S2x512x2x4x8x128_S2x512x4x128x2x8_0_1_3_5_2_4) shapeCasts_S2x512x4x128x2x8_S2x512x512x16

/-- THE RESULT, of the indices and the features. -/
def result (I : S2x512x512x8.Idx → Elt F .i32) (X : S100000x16.Idx → Elt F .f32) : S2x512x512x16.Idx → Elt F .f32 :=
  imgOf (outV (tableOf X) (idxB (F := F) I))

/-- A table whose lanes are the features is, read by rows of sixteen, the features' rows. -/
theorem tabR_agrees (X : S100000x16.Idx → Elt F .f32) (G : S12800x128.Idx → Elt F .f32) (hG : ∀ i, LaneOk (featT X) i (G i)) :
    Agrees (tableOf X) (tabR G) := by
  intro j hj
  have h0 : (j 0).val < 102400 := (j 0).isLt
  have h1 : (j 1).val < 16 := (j 1).isLt
  have hd : 8 * ((j 0).val / 8) + (j 0).val % 8 = (j 0).val := by omega
  have e : tabR G j = G (ix2 (⟨(j 0).val / 8, by omega⟩ : Fin 12800) (⟨16 * ((j 0).val % 8) + (j 1).val, by omega⟩ : Fin 128)) := by
    unfold tabR
    refine shapeCast_apply _ _ _ _ ?_
    refine (Shape.rowMajor_val_two (d := ![12800, 128]) _).trans (Eq.trans ?_ (Shape.rowMajor_val_two (d := ![102400, 16]) _).symm)
    change (j 0).val / 8 * 128 + (16 * ((j 0).val % 8) + (j 1).val) = (j 0).val * 16 + (j 1).val
    omega
  rw [e, hG _ ⟨(j 0).val % 8, by omega⟩ ⟨(j 1).val, h1⟩ (by show 8 * ((j 0).val / 8) + (j 0).val % 8 < 100000; omega) rfl]
  unfold featT tableOf
  refine transpose_apply _ _ _ _ _ (fun a => ?_)
  match a with
  | ⟨0, _⟩ => rfl
  | ⟨1, _⟩ => show (j 0).val % 100000 = 8 * ((j 0).val / 8) + (j 0).val % 8; omega

theorem idxB_lt (I : S2x512x512x8.Idx → Elt F .i32) (h : ∀ y, BitVec.toNat (w := 32) (I y) < 100000) (x : S4096x8x128.Idx) :
    BitVec.toNat (w := 32) (idxB (F := F) I x) < 100000 := h _

/-! ## The host operations -/

abbrev opR0 : HloOp τ sig (Elt F) := StableHlo.reshape main_arg0 main_v0 (rfl : (.i32 : EltTy) = .i32) shapeCasts_S2x512x512x8_S2x512x4x128x8
abbrev opT1 : HloOp τ sig (Elt F) := StableHlo.unary main_v0 main_v1 ((transpose S2x512x4x8x128 [0, 1, 2, 4, 3] · transposes_S2x512x4x128x8_S2x512x4x8x128_0_1_2_4_3) : (⟨S2x512x4x128x8, .i32⟩ : BufTy).Contents (Elt F) → (⟨S2x512x4x8x128, .i32⟩ : BufTy).Contents (Elt F))
abbrev opR2 : HloOp τ sig (Elt F) := StableHlo.reshape main_v1 main_v2 (rfl : (.i32 : EltTy) = .i32) shapeCasts_S2x512x4x8x128_S4096x8x128
abbrev opT3 : HloOp τ sig (Elt F) := StableHlo.unary main_arg2 main_v3 ((transpose S16x100000 [1, 0] · transposes_S100000x16_S16x100000_1_0) : (⟨S100000x16, .f32⟩ : BufTy).Contents (Elt F) → (⟨S16x100000, .f32⟩ : BufTy).Contents (Elt F))
abbrev opR5 : HloOp τ sig (Elt F) := StableHlo.reshape main_v4 main_v5 (rfl : (.f32 : EltTy) = .f32) shapeCasts_S12800x128_S102400x16
abbrev opR7 : HloOp τ sig (Elt F) := StableHlo.reshape main_v6 main_v7 (rfl : (.f32 : EltTy) = .f32) shapeCasts_S1024x2x4x1024_S2x512x2x4x8x128
abbrev opT8 : HloOp τ sig (Elt F) := StableHlo.unary main_v7 main_v8 ((transpose S2x512x4x128x2x8 [0, 1, 3, 5, 2, 4] · transposes_S2x512x2x4x8x128_S2x512x4x128x2x8_0_1_3_5_2_4) : (⟨S2x512x2x4x8x128, .f32⟩ : BufTy).Contents (Elt F) → (⟨S2x512x4x128x2x8, .f32⟩ : BufTy).Contents (Elt F))
abbrev opR9 : HloOp τ sig (Elt F) := StableHlo.reshape main_v8 main_v9 (rfl : (.f32 : EltTy) = .f32) shapeCasts_S2x512x4x128x2x8_S2x512x512x16

abbrev rf (b : Ref sig .tc) : DevRef τ sig := Proc.devRef .tc b

/-- The TensorCore's arrays, and those of the last operations. -/
abbrev S12 : Finset (DevRef τ sig) :=
  {rf main_arg0, rf main_arg1, rf main_arg2, rf main_v0, rf main_v1, rf main_v2, rf main_v3, rf main_v4, rf main_v5, rf main_v6, rf main_v7, rf main_v8, rf main_v9}
abbrev S7 : Finset (DevRef τ sig) := {rf main_arg0, rf main_arg1, rf main_arg2, rf main_v6, rf main_v7, rf main_v8, rf main_v9}

theorem held_S12 (d : Dev nD) (W : Valuation τ sig (Elt F)) :
    (held (SparseCore.T d) S12 W : sProp 𝕄)
      = iprop(((SparseCore.T d).loc main_arg0 ↦{fullShare} W (rf main_arg0)) ∗ ((SparseCore.T d).loc main_arg1 ↦{fullShare} W (rf main_arg1)) ∗ ((SparseCore.T d).loc main_arg2 ↦{fullShare} W (rf main_arg2))
          ∗ ((SparseCore.T d).loc main_v0 ↦{fullShare} W (rf main_v0)) ∗ ((SparseCore.T d).loc main_v1 ↦{fullShare} W (rf main_v1)) ∗ ((SparseCore.T d).loc main_v2 ↦{fullShare} W (rf main_v2))
          ∗ ((SparseCore.T d).loc main_v3 ↦{fullShare} W (rf main_v3)) ∗ ((SparseCore.T d).loc main_v4 ↦{fullShare} W (rf main_v4)) ∗ ((SparseCore.T d).loc main_v5 ↦{fullShare} W (rf main_v5))
          ∗ ((SparseCore.T d).loc main_v6 ↦{fullShare} W (rf main_v6)) ∗ ((SparseCore.T d).loc main_v7 ↦{fullShare} W (rf main_v7)) ∗ ((SparseCore.T d).loc main_v8 ↦{fullShare} W (rf main_v8))
          ∗ (SparseCore.T d).loc main_v9 ↦{fullShare} W (rf main_v9)) := by
  unfold held S12
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem held_S7 (d : Dev nD) (W : Valuation τ sig (Elt F)) :
    (held (SparseCore.T d) S7 W : sProp 𝕄)
      = iprop(((SparseCore.T d).loc main_arg0 ↦{fullShare} W (rf main_arg0)) ∗ ((SparseCore.T d).loc main_arg1 ↦{fullShare} W (rf main_arg1)) ∗ ((SparseCore.T d).loc main_arg2 ↦{fullShare} W (rf main_arg2))
          ∗ ((SparseCore.T d).loc main_v6 ↦{fullShare} W (rf main_v6)) ∗ ((SparseCore.T d).loc main_v7 ↦{fullShare} W (rf main_v7)) ∗ ((SparseCore.T d).loc main_v8 ↦{fullShare} W (rf main_v8))
          ∗ (SparseCore.T d).loc main_v9 ↦{fullShare} W (rf main_v9)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The launch's contents, and those before the TensorCore's call. -/
def V0 (d : Dev nD) : Valuation τ sig (Elt F) := fun b => m (d, b)
def V4 (d : Dev nD) : Valuation τ sig (Elt F) := (opT3 (F := F)).result ((opR2 (F := F)).result ((opT1 (F := F)).result ((opR0 (F := F)).result (V0 m d))))

theorem unscoped_held (d : Dev nD) : (unscopedBufs d (fun b => m ((SparseCore.T d).loc b)) : sProp 𝕄) = held (SparseCore.T d) S12 (V0 m d) := by
  rw [held_S12]
  unfold unscopedBufs
  rw [show (Finset.univ.filter fun b : Ref sig .tc => ¬ b.isScoped)
      = {main_arg0, main_arg1, main_arg2, main_v0, main_v1, main_v2, main_v3, main_v4, main_v5, main_v6, main_v7, main_v8, main_v9} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

/-- The launch's indices and features. -/
abbrev mI (d : Dev nD) : S2x512x512x8.Idx → Elt F .i32 := m ((SparseCore.T d).loc main_arg0)
abbrev mX (d : Dev nD) : S100000x16.Idx → Elt F .f32 := m ((SparseCore.T d).loc main_arg2)

theorem V4_arg (d : Dev nD) (b : Ref sig .tc) (h0 : b ≠ main_v0) (h1 : b ≠ main_v1) (h2 : b ≠ main_v2) (h3 : b ≠ main_v3) :
    V4 m d (rf b) = m (d, rf b) := by
  unfold V4
  rw [StableHlo.unary_result_ne (h := h3), StableHlo.reshape_result_ne (h := h2), StableHlo.unary_result_ne (h := h1), StableHlo.reshape_result_ne (h := h0)]
  rfl

theorem V4_v2 (d : Dev nD) : V4 m d (rf main_v2) = idxB (mI m d) := by
  unfold V4
  rw [StableHlo.unary_result_ne (h := (by decide)), StableHlo.reshape_result', StableHlo.unary_result', StableHlo.reshape_result']
  rfl

theorem V4_v3 (d : Dev nD) : V4 m d (rf main_v3) = featT (mX m d) := by
  unfold V4
  rw [StableHlo.unary_result', StableHlo.reshape_result_ne (h := (by decide)), StableHlo.unary_result_ne (h := (by decide)), StableHlo.reshape_result_ne (h := (by decide))]
  rfl

/-- After the TensorCore's call, and read by rows of sixteen. -/
def V5 (d : Dev nD) (G : S12800x128.Idx → Elt F .f32) : Valuation τ sig (Elt F) := Function.update (V4 m d) (rf main_v4) G
def V6 (d : Dev nD) (G : S12800x128.Idx → Elt F .f32) : Valuation τ sig (Elt F) := (opR5 (F := F)).result (V5 m d G)

theorem V6_ne (d : Dev nD) (G : S12800x128.Idx → Elt F .f32) (b : Ref sig .tc) (h4 : b ≠ main_v4) (h5 : b ≠ main_v5) : V6 m d G (rf b) = V4 m d (rf b) := by
  unfold V6
  rw [StableHlo.reshape_result_ne (h := h5)]
  exact Function.update_of_ne (StableHlo.devRef_ne_of_ne h4) _ _

theorem V6_v5 (d : Dev nD) (G : S12800x128.Idx → Elt F .f32) : V6 m d G (rf main_v5) = tabR G := by
  unfold V6
  rw [StableHlo.reshape_result']
  show tabR (V5 m d G (rf main_v4)) = _
  unfold V5
  rw [Function.update_self]

/-- The output after the SparseCore's call. -/
def outD (d : Dev nD) : S1024x2x4x1024.Idx → Elt F .f32 := outV (tableOf (mX m d)) (idxB (F := F) (mI m d))

def V7 (d : Dev nD) : Valuation τ sig (Elt F) := Function.update (V0 m d) (rf main_v6) (outD m d)
def V10 (d : Dev nD) : Valuation τ sig (Elt F) := (opR9 (F := F)).result ((opT8 (F := F)).result ((opR7 (F := F)).result (V7 m d)))

theorem V7_v6 (d : Dev nD) : V7 m d (rf main_v6) = outD m d := Function.update_self _ _ _
theorem V7_ne (d : Dev nD) (b : Ref sig .tc) (h : b ≠ main_v6) : V7 m d (rf b) = m (d, rf b) :=
  Function.update_of_ne (StableHlo.devRef_ne_of_ne h) _ _

theorem V10_arg (d : Dev nD) (b : Ref sig .tc) (h6 : b ≠ main_v6) (h7 : b ≠ main_v7) (h8 : b ≠ main_v8) (h9 : b ≠ main_v9) : V10 m d (rf b) = m (d, rf b) := by
  unfold V10
  rw [StableHlo.reshape_result_ne (h := h9), StableHlo.unary_result_ne (h := h8), StableHlo.reshape_result_ne (h := h7)]
  exact V7_ne m d b h6

theorem V10_v9 (d : Dev nD) : V10 m d (rf main_v9) = result (mI m d) (mX m d) := by
  unfold V10
  rw [StableHlo.reshape_result', StableHlo.unary_result', StableHlo.reshape_result']
  show imgOf (V7 m d (rf main_v6)) = _
  rw [V7_v6]
  rfl

end Cert.Render

end
-- ==== Proof.Run.lean ====
/-
  The kernel run whole: the launch's ghost state, @main on the TensorCore, and what the memory holds at the end.
-/
module

public import proofs.«01_k».proof.Proof.Main

@[expose] public section

noncomputable section

namespace Cert.Render

open Cert.KernelIdeal Cert.KernelIdeal.Gen
open Idealize.ShloMosaic
open Idealize.ShloMosaic.TcCoe
open Idealize.ShloMosaic.ValueIdx
open Idealize.ShloMosaic.StableHlo (held wp_hlo_within)
open Idealize.ShloMosaic.SparseCore (S V T)
open Idealize.ShloMosaic.SparseCore.Cfg (HIx)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- What the launch's tiles take and bring back. -/
abbrev Pm : (K (F := F)).Pay (nD := nD) (Val := Elt F) (Name := ℕ) (U := UU) := P (fun d => idxB (mI m d)) (fun d => tableOf (mX m d))

/-! ## The launch's ghost state -/

def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj), 1))

theorem ghosts : (BI.own ((EP : Emb UP 𝕄) (initOf (Pipeline.cells (nD := nD) (τ := τ) (Pipeline.pin (pcfgs (F := F)) adm) cellOf_inj)
      (Pipeline.launchToks (nD := nD) (τ := τ) (Pipeline.pin (pcfgs (F := F)) adm) cellOf_inj))) : sProp 𝕄)
    ⊢ iprop(|==> bigSep Finset.univ fun d : Dev nD => callGhost (F := F) d) := by
  iintro H
  imod (Pipeline.fund_ghost (Pipeline.pin (pcfgs (F := F)) adm) EP cellOf_inj) $$ H with ⟨Hc, Ht⟩
  imodintro
  unfold callGhost
  rw [bigSep_both]
  isplitl [Hc]
  · iapply (bigSep_mono' (fun d _ => Entails.of_eq (bigSep_univ_of_subsingleton (0 : Fin 1)))) $$ Hc
  · iapply (bigSep_mono' (fun d _ => Entails.of_eq (bigSep_univ_of_subsingleton (0 : Fin 1)))) $$ Ht

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => callGhost (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H := (own_pair_emb (embR (nD := nD) (sig := sig) (Ix := HIx 1) (Val := Elt F) (Name := ℕ) (A := UH) (B := UP × Counters) (Lvl := ℕ)) _ _) $$ HR
  icases H with ⟨HP, -⟩
  ihave HP := (Entails.of_eq (show (BI.own (((Emb.inl : Emb UP (UP × Counters)).trans (embR (nD := nD) (sig := sig) (Ix := HIx 1) (Val := Elt F) (Name := ℕ) (A := UH) (B := UP × Counters) (Lvl := ℕ)))
      (initOf (Pipeline.cells (nD := nD) (τ := τ) (Pipeline.pin (pcfgs (F := F)) adm) cellOf_inj) (Pipeline.launchToks (nD := nD) (τ := τ) (Pipeline.pin (pcfgs (F := F)) adm) cellOf_inj))) : sProp 𝕄)
      = BI.own ((EP : Emb UP 𝕄) (initOf (Pipeline.cells (nD := nD) (τ := τ) (Pipeline.pin (pcfgs (F := F)) adm) cellOf_inj)
          (Pipeline.launchToks (nD := nD) (τ := τ) (Pipeline.pin (pcfgs (F := F)) adm) cellOf_inj))) from rfl)) $$ HP
  imod (ghosts (F := F)) $$ HP with HG
  imodintro
  isplitl [HH]; · iexact HH
  isplitl [HG]; · iexact HG
  rw [show (bigSep Finset.univ fun thr : Thread nD τ => bigSep Finset.univ fun q : Fin 1 => (Pm m).x q thr) = (bigSep Finset.univ fun thr : Thread nD τ => bigSep Finset.univ fun q : Fin 1 => (iprop(emp) : sProp 𝕄)) from rfl]
  rw [emps, emps]
  iempintro

/-! ## @main -/

/-- The TensorCore's state before the SparseCore's call: what it owes, and the rest. -/
theorem tcSt_eq (d : Dev nD) : ∃ R : sProp 𝕄, ((K (F := F)).tcSt EH d 0 : sProp 𝕄) = iprop(owesTc d ∗ R) := ⟨_, rfl⟩

/-- What the launch hands to the SparseCores. -/
theorem st_intro (d : Dev nD) (B : S4096x8x128.Idx → Elt F .i32) (T₀ Tt : S102400x16.Idx → Elt F .f32) (hT : Agrees T₀ Tt) (O : S1024x2x4x1024.Idx → Elt F .f32) :
    iprop(((SparseCore.T d).loc main_v2 ↦{fullShare} B) ∗ ((SparseCore.T d).loc main_v5 ↦{fullShare} Tt) ∗ ((SparseCore.T d).loc main_v6 ↦{fullShare} O))
      ⊢ (bigSep Finset.univ fun c : Fin 2 => bigSep Finset.univ fun i : Fin 16 => taskIn d (tl c i) B T₀ : sProp 𝕄) := by
  have e2 : (((SparseCore.T d).loc main_v2 ↦{fullShare} B : sProp 𝕄)) = owns (thr d (tl 0 0)) idxM fullShare B := (owns_whole (thr d (tl 0 0)) main_v2_scv fullShare B).symm
  have e5 : (((SparseCore.T d).loc main_v5 ↦{fullShare} Tt : sProp 𝕄)) = owns (thr d (tl 0 0)) tabM fullShare Tt := (owns_whole (thr d (tl 0 0)) main_v5_scv fullShare Tt).symm
  have e6 : (((SparseCore.T d).loc main_v6 ↦{fullShare} O : sProp 𝕄)) = owns (thr d (tl 0 0)) outM fullShare O := (owns_whole (thr d (tl 0 0)) main_v6_scv fullShare O).symm
  rw [e2, e5, e6]
  have h : iprop((bigSep Finset.univ fun c : Fin 2 => bigSep Finset.univ fun i : Fin 16 => srcFrom d (tl c i) idxM B 0)
        ∗ (bigSep Finset.univ fun c : Fin 2 => bigSep Finset.univ fun i : Fin 16 =>
            iprop(owns (thr d (tl c i)) (tabWin tabM) (tabShare (tl c i) 0) Tt ∗ owns (thr d (tl c i)) (tabWin tabM) (tabShare (tl c i) 1) Tt))
        ∗ (bigSep Finset.univ fun c : Fin 2 => bigSep Finset.univ fun i : Fin 16 => pendFrom d (tl c i) outM 0))
      ⊢ (bigSep Finset.univ fun c : Fin 2 => bigSep Finset.univ fun i : Fin 16 => taskIn d (tl c i) B T₀ : sProp 𝕄) := by
    rw [← bigSep_both, ← bigSep_both]
    refine bigSep_mono' fun c _ => ?_
    rw [← bigSep_both, ← bigSep_both]
    refine bigSep_mono' fun i _ => ?_
    unfold taskIn
    iintro ⟨HS, HT, HO⟩
    isplitl [HS]; · iexact HS
    isplitl [HT]
    · iexists Tt
      isplitr; · ipureintro; exact hT
      iexact HT
    · iexact HO
  refine BIBase.Entails.trans ?_ h
  iintro ⟨H2, H5, H6⟩
  isplitl [H2]; · iapply (idx_split d B) $$ H2
  isplitl [H5]; · iapply (tab_split d Tt) $$ H5
  iapply (out_split d O) $$ H6

/-- What comes back is the output at its values. -/
theorem dn_elim (d : Dev nD) (B : S4096x8x128.Idx → Elt F .i32) (T₀ : S102400x16.Idx → Elt F .f32) :
    (bigSep Finset.univ fun c : Fin 2 => bigSep Finset.univ fun i : Fin 16 => taskOut d (tl c i) B T₀ : sProp 𝕄)
      ⊢ ((SparseCore.T d).loc main_v6 ↦{fullShare} outV T₀ B) := by
  have e6 : (((SparseCore.T d).loc main_v6 ↦{fullShare} outV T₀ B : sProp 𝕄)) = owns (thr d (tl 0 0)) outM fullShare (outV T₀ B) := (owns_whole (thr d (tl 0 0)) main_v6_scv fullShare (outV T₀ B)).symm
  rw [e6]
  unfold taskOut
  exact out_join d (outV T₀ B)

theorem st_eq (d : Dev nD) : (bigSep Finset.univ fun c : Fin ((K (F := F)).nCore 0) => (Pm m).st 0 d c)
    = bigSep Finset.univ fun c : Fin 2 => bigSep Finset.univ fun i : Fin 16 => taskIn d (tl c i) (idxB (F := F) (mI m d)) (tableOf (mX m d)) :=
  (bigSep_univ_equiv (finCongr nCore_zero).symm _).trans rfl
theorem dn_eq (d : Dev nD) : (bigSep Finset.univ fun c : Fin ((K (F := F)).nCore 0) => (Pm m).dn 0 d c)
    = bigSep Finset.univ fun c : Fin 2 => bigSep Finset.univ fun i : Fin 16 => taskOut d (tl c i) (idxB (F := F) (mI m d)) (tableOf (mX m d)) :=
  (bigSep_univ_equiv (finCongr nCore_zero).symm _).trans rfl

/-- What is left of the run: the arguments as launched, and the result. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_v9 ↦{fullShare} result (mI m d) (mX m d)))

theorem hR0 : (opR0 (F := F)).bufs ⊆ S12 := show ({rf main_arg0, rf main_v0} : Finset (DevRef τ sig)) ⊆ S12 by decide
theorem hT1 : (opT1 (F := F)).bufs ⊆ S12 := show ({rf main_v0, rf main_v1} : Finset (DevRef τ sig)) ⊆ S12 by decide
theorem hR2 : (opR2 (F := F)).bufs ⊆ S12 := show ({rf main_v1, rf main_v2} : Finset (DevRef τ sig)) ⊆ S12 by decide
theorem hT3 : (opT3 (F := F)).bufs ⊆ S12 := show ({rf main_arg2, rf main_v3} : Finset (DevRef τ sig)) ⊆ S12 by decide
theorem hR7 : (opR7 (F := F)).bufs ⊆ S7 := show ({rf main_v6, rf main_v7} : Finset (DevRef τ sig)) ⊆ S7 by decide
theorem hT8 : (opT8 (F := F)).bufs ⊆ S7 := show ({rf main_v7, rf main_v8} : Finset (DevRef τ sig)) ⊆ S7 by decide
theorem hR9 : (opR9 (F := F)).bufs ⊆ S7 := show ({rf main_v8, rf main_v9} : Finset (DevRef τ sig)) ⊆ S7 by decide

/-- The arrays before the TensorCore's call. -/
theorem held_V4 (d : Dev nD) :
    (held (SparseCore.T d) S12 ((opT3 (F := F)).result ((opR2 (F := F)).result ((opT1 (F := F)).result ((opR0 (F := F)).result (V0 m d))))) : sProp 𝕄)
      = iprop(((SparseCore.T d).loc main_arg0 ↦{fullShare} V4 m d (rf main_arg0)) ∗ ((SparseCore.T d).loc main_arg1 ↦{fullShare} V4 m d (rf main_arg1)) ∗ ((SparseCore.T d).loc main_arg2 ↦{fullShare} V4 m d (rf main_arg2))
          ∗ ((SparseCore.T d).loc main_v0 ↦{fullShare} V4 m d (rf main_v0)) ∗ ((SparseCore.T d).loc main_v1 ↦{fullShare} V4 m d (rf main_v1)) ∗ ((SparseCore.T d).loc main_v2 ↦{fullShare} V4 m d (rf main_v2))
          ∗ ((SparseCore.T d).loc main_v3 ↦{fullShare} featT (mX m d)) ∗ ((SparseCore.T d).loc main_v4 ↦{fullShare} V4 m d (rf main_v4)) ∗ ((SparseCore.T d).loc main_v5 ↦{fullShare} V4 m d (rf main_v5))
          ∗ ((SparseCore.T d).loc main_v6 ↦{fullShare} V4 m d (rf main_v6)) ∗ ((SparseCore.T d).loc main_v7 ↦{fullShare} V4 m d (rf main_v7)) ∗ ((SparseCore.T d).loc main_v8 ↦{fullShare} V4 m d (rf main_v8))
          ∗ (SparseCore.T d).loc main_v9 ↦{fullShare} V4 m d (rf main_v9)) := by
  show held (SparseCore.T d) S12 (V4 m d) = _
  rw [held_S12, V4_v3]

/-- The table as it is made and as it is read. -/
abbrev S2 : Finset (DevRef τ sig) := {rf main_v4, rf main_v5}

theorem held_S2 (d : Dev nD) (W : Valuation τ sig (Elt F)) :
    (held (SparseCore.T d) S2 W : sProp 𝕄) = iprop(((SparseCore.T d).loc main_v4 ↦{fullShare} W (rf main_v4)) ∗ (SparseCore.T d).loc main_v5 ↦{fullShare} W (rf main_v5)) := by
  unfold held S2
  rw [SparseCore.bigSep_insert' (by decide), bigSep_singleton]

theorem held_V5 (d : Dev nD) (G : S12800x128.Idx → Elt F .f32) :
    (held (SparseCore.T d) S2 (V5 m d G) : sProp 𝕄) = iprop(((SparseCore.T d).loc main_v4 ↦{fullShare} G) ∗ (SparseCore.T d).loc main_v5 ↦{fullShare} V4 m d (rf main_v5)) := by
  rw [held_S2]
  unfold V5
  rw [Function.update_self, Function.update_of_ne (StableHlo.devRef_ne_of_ne (by decide))]

theorem held_V6 (d : Dev nD) (G : S12800x128.Idx → Elt F .f32) :
    (held (SparseCore.T d) S2 ((opR5 (F := F)).result (V5 m d G)) : sProp 𝕄)
      = iprop(((SparseCore.T d).loc main_v4 ↦{fullShare} V6 m d G (rf main_v4)) ∗ (SparseCore.T d).loc main_v5 ↦{fullShare} tabR G) := by
  show held (SparseCore.T d) S2 (V6 m d G) = _
  rw [held_S2, V6_v5]

theorem held_V7 (d : Dev nD) :
    (held (SparseCore.T d) S7 (V7 m d) : sProp 𝕄)
      = iprop(((SparseCore.T d).loc main_arg0 ↦{fullShare} V4 m d (rf main_arg0)) ∗ ((SparseCore.T d).loc main_arg1 ↦{fullShare} V4 m d (rf main_arg1)) ∗ ((SparseCore.T d).loc main_arg2 ↦{fullShare} V4 m d (rf main_arg2))
          ∗ ((SparseCore.T d).loc main_v6 ↦{fullShare} outV (tableOf (mX m d)) (idxB (F := F) (mI m d))) ∗ ((SparseCore.T d).loc main_v7 ↦{fullShare} V4 m d (rf main_v7)) ∗ ((SparseCore.T d).loc main_v8 ↦{fullShare} V4 m d (rf main_v8))
          ∗ (SparseCore.T d).loc main_v9 ↦{fullShare} V4 m d (rf main_v9)) := by
  rw [held_S7, V7_v6, V7_ne m d main_arg0 (by decide), V7_ne m d main_arg1 (by decide), V7_ne m d main_arg2 (by decide), V7_ne m d main_v7 (by decide), V7_ne m d main_v8 (by decide), V7_ne m d main_v9 (by decide),
    V4_arg m d main_arg0 (by decide) (by decide) (by decide) (by decide), V4_arg m d main_arg1 (by decide) (by decide) (by decide) (by decide), V4_arg m d main_arg2 (by decide) (by decide) (by decide) (by decide),
    V4_arg m d main_v7 (by decide) (by decide) (by decide) (by decide), V4_arg m d main_v8 (by decide) (by decide) (by decide) (by decide), V4_arg m d main_v9 (by decide) (by decide) (by decide) (by decide)]
  rfl

theorem held_V10 (d : Dev nD) :
    (held (SparseCore.T d) S7 ((opR9 (F := F)).result ((opT8 (F := F)).result ((opR7 (F := F)).result (V7 m d)))) : sProp 𝕄)
      = iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2))
          ∗ ((SparseCore.T d).loc main_v6 ↦{fullShare} V10 m d (rf main_v6)) ∗ ((SparseCore.T d).loc main_v7 ↦{fullShare} V10 m d (rf main_v7)) ∗ ((SparseCore.T d).loc main_v8 ↦{fullShare} V10 m d (rf main_v8))
          ∗ (SparseCore.T d).loc main_v9 ↦{fullShare} result (mI m d) (mX m d)) := by
  show held (SparseCore.T d) S7 (V10 m d) = _
  rw [held_S7, V10_v9, V10_arg m d main_arg0 (by decide) (by decide) (by decide) (by decide), V10_arg m d main_arg1 (by decide) (by decide) (by decide) (by decide), V10_arg m d main_arg2 (by decide) (by decide) (by decide) (by decide)]

theorem hR5 : (opR5 (F := F)).bufs ⊆ S2 := show ({rf main_v4, rf main_v5} : Finset (DevRef τ sig)) ⊆ S2 by decide

/-- @MAIN on the TensorCore of device `d`: the arguments laid out, the table made, the SparseCores' call, its output laid out. -/
theorem hmain (κ : GSem nD τ sig → ℕ) (d : Dev nD) :
    iprop((K (F := F)).ctx EH (Pm m) κ ∗ (K (F := F)).tcSt EH d 0 ∗ (K (F := F)).tcRes m ρ d ∗ callGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_eq (F := F) d
  unfold SparseCore.Cfg.tcRes SparseCore.Cfg.tcEnd
  rw [unscoped_held, hR]
  simp only [main, wp_bind, wp_pure]
  iintro ⟨#Hctx, ⟨HO, HR⟩, ⟨Hb, Hh, Hts, -⟩, HG⟩
  iapply (wp_hlo_within 𝒱 (SparseCore.T d) none Set.univ (op := opR0) (S := S12) hR0 (V := V0 m d)) $$ [Hb Hh]
  · isplitl [Hb] <;> iassumption
  iintro ⟨Hb, Hh⟩
  rw [wp_ret]; imodintro
  iapply (wp_hlo_within 𝒱 (SparseCore.T d) none Set.univ (op := opT1) (S := S12) hT1 (V := (opR0 (F := F)).result (V0 m d))) $$ [Hb Hh]
  · isplitl [Hb] <;> iassumption
  iintro ⟨Hb, Hh⟩
  rw [wp_ret]; imodintro
  iapply (wp_hlo_within 𝒱 (SparseCore.T d) none Set.univ (op := opR2) (S := S12) hR2 (V := (opT1 (F := F)).result ((opR0 (F := F)).result (V0 m d)))) $$ [Hb Hh]
  · isplitl [Hb] <;> iassumption
  iintro ⟨Hb, Hh⟩
  rw [wp_ret]; imodintro
  iapply (wp_hlo_within 𝒱 (SparseCore.T d) none Set.univ (op := opT3) (S := S12) hT3 (V := (opR2 (F := F)).result ((opT1 (F := F)).result ((opR0 (F := F)).result (V0 m d))))) $$ [Hb Hh]
  · isplitl [Hb] <;> iassumption
  iintro ⟨Hb, Hh⟩
  rw [wp_ret]; imodintro
  -- the TensorCore's call
  ihave Hh := (Entails.of_eq (held_V4 m d)) $$ Hh
  icases Hh with ⟨Ha0, Ha1, Ha2, H0, H1, H2, H3, H4, H5, H6, H7, H8, H9⟩
  iapply (call_run (F := F) (featT (mX m d)) (V4 m d (rf main_v4)) d)
  isplitr [Hb H3 H4 HO HG]
  rotate_left
  · isplitl [Hb]; · iexact Hb
    isplitl [H3 H4 HO]
    · isplitl [H3]; · iexact H3
      isplitl [H4]; · iexact H4
      iexact HO
    isplitr; · iapply (SparseCore.Cfg.ctx_levAts κ) $$ Hctx
    iexact HG
  iintro ⟨Hb, ⟨%G, %hG, H4⟩, HO⟩
  iapply (wp_hlo_within 𝒱 (SparseCore.T d) none Set.univ (op := opR5) (S := S2) hR5 (V := V5 m d G)) $$ [Hb H4 H5]
  · isplitl [Hb]; · iexact Hb
    iapply (Entails.of_eq (held_V5 m d G).symm)
    isplitl [H4] <;> iassumption
  iintro ⟨Hb, Hh⟩
  rw [wp_ret]; imodintro
  ihave Hh := (Entails.of_eq (held_V6 m d G)) $$ Hh
  icases Hh with ⟨-, H5⟩
  -- the SparseCores' call
  ihave H2 := (Entails.of_eq (congrArg (fun Z => ((SparseCore.T d).loc main_v2 ↦{fullShare} Z : sProp 𝕄)) (V4_v2 m d))) $$ H2
  iapply ((K (F := F)).wp_run (D (F := F)) 𝒱 (EH := EH) (P := Pm m) κ d 0) $$ [HO HR H2 H5 H6 Ha0 Ha1 Ha2 H7 H8 H9 Hb Hts]
  isplitr; · iexact Hctx
  isplitl [HO HR]
  · iapply (Entails.of_eq hR.symm); isplitl [HO] <;> iassumption
  isplitl [H2 H5 H6]
  · iapply (Entails.of_eq (st_eq m d).symm)
    iapply (st_intro d (idxB (F := F) (mI m d)) (tableOf (mX m d)) (tabR G) (tabR_agrees (mX m d) G hG) (V4 m d (rf main_v6)))
    isplitl [H2]; · iexact H2
    isplitl [H5] <;> iassumption
  iintro ⟨Hst, Hdn⟩
  ihave Hdn := (Entails.of_eq (dn_eq m d)) $$ Hdn
  ihave H6 := (dn_elim d (idxB (F := F) (mI m d)) (tableOf (mX m d))) $$ Hdn
  iapply (wp_hlo_within 𝒱 (SparseCore.T d) none Set.univ (op := opR7) (S := S7) hR7 (V := V7 m d)) $$ [Hb Ha0 Ha1 Ha2 H6 H7 H8 H9]
  · isplitl [Hb]; · iexact Hb
    iapply (Entails.of_eq (held_V7 m d).symm)
    isplitl [Ha0]; · iexact Ha0
    isplitl [Ha1]; · iexact Ha1
    isplitl [Ha2]; · iexact Ha2
    isplitl [H6]; · iexact H6
    isplitl [H7]; · iexact H7
    isplitl [H8] <;> iassumption
  iintro ⟨Hb, Hh⟩
  rw [wp_ret]; imodintro
  iapply (wp_hlo_within 𝒱 (SparseCore.T d) none Set.univ (op := opT8) (S := S7) hT8 (V := (opR7 (F := F)).result (V7 m d))) $$ [Hb Hh]
  · isplitl [Hb] <;> iassumption
  iintro ⟨Hb, Hh⟩
  rw [wp_ret]; imodintro
  iapply (wp_hlo_within 𝒱 (SparseCore.T d) none Set.univ (op := opR9) (S := S7) hR9 (V := (opT8 (F := F)).result ((opR7 (F := F)).result (V7 m d)))) $$ [Hb Hh]
  · isplitl [Hb] <;> iassumption
  iintro ⟨Hb, Hh⟩
  ihave Hh := (Entails.of_eq (held_V10 m d)) $$ Hh
  icases Hh with ⟨Ha0, Ha1, Ha2, -, -, -, H9⟩
  rw [wp_ret]; imodintro; imodintro
  isplitl [Hst]; · iexact Hst
  isplitr [Hb Hts]
  · unfold FIN
    isplitl [Ha0]; · iexact Ha0
    isplitl [Ha1]; · iexact Ha1
    isplitl [Ha2]; · iexact Ha2
    iexact H9
  isplitl [Hb] <;> iassumption

/-! ## The run -/

/-- What the claims read of device `d`'s memory. -/
def fq (d : Dev nD) (s' : Phys nD τ sig (Elt F)) : Prop :=
  s'.mem.mem ((SparseCore.T d).loc main_v9) = result (mI m d) (mX m d)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  unfold FIN
  iintro ⟨⟨H0, H1, H2, H9⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_v9) (I := Finset.univ) (q := fullShare) (f := result (mI m d) (mX m d))) $$ [HSI H9]
  · isplitl [HSI] <;> iassumption
  icases H with %h9
  ipureintro
  exact ⟨funext fun i => h9 i (Finset.mem_univ i), funext fun i => h0 i (Finset.mem_univ i), funext fun i => h1 i (Finset.mem_univ i), funext fun i => h2 i (Finset.mem_univ i)⟩

/-- Every device's result and arguments at the end, and every semaphore at zero. -/
def QC : PUnit × MemSt nD τ sig (Elt F) → Prop := fun r =>
  (∀ d : Dev nD, r.2.mem ((SparseCore.T d).loc main_v9) = result (mI m d) (mX m d)
    ∧ r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)) ∧ r.2.sem = fun _ => 0

/-- THE RUN: with every index in the features' range, the kernel ends with the result, its arguments as they were, every semaphore at zero. -/
theorem run_main (hI : ∀ (d : Dev nD) (y : S2x512x512x8.Idx), BitVec.toNat (w := 32) (mI m d y) < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ (fun d x => idxB_lt (F := F) (mI m d) (hI d) x))
    (fun q _ => match q with | 0 => SparseCore.Cfg.VecSplit.of_plain (vecSplit _ _))
    m ρ main (fun d => callGhost d) (FIN m) (u₀ (F := F)) (sep_elim_left.trans (hu₀ m)) (hmain m ρ) (fq m) (hfin m) (QC m) (fun _ h hz => ⟨h, hz⟩)

end Cert.Render

end
-- ==== Proof.Pre.lean ====
/-
  What the two preconditions say of the arrays' elements.
-/
module

public import proofs.«01_k».proof.Proof.Gen.Pre_in_range
public import proofs.«01_k».proof.Proof.Gen.Pre_drawn
public import Idealize.ShloMosaic.Lib.ReduceAll
public import Idealize.ShloMosaic.PureOps.Ideal.Laws

@[expose] public section

noncomputable section

namespace Cert.Render

open Idealize.ShloMosaic

/-- A word that is not negative and below 100000, compared signed, is below 100000. -/
theorem lt_of_signed {x : BitVec 32} (h0 : IntOp.cmpi .sge x 0#32 = 1#1) (h1 : IntOp.cmpi .slt x 100000#32 = 1#1) : x.toNat < 100000 := by
  have e0 := IntOp.cmpi_sge.1 h0
  have e1 := IntOp.cmpi_slt.1 h1
  simp only [BitVec.toInt_eq_toNat_cond, BitVec.toNat_ofNat, Nat.reducePow, Nat.reduceMod] at e0 e1
  omega

/-- `in_range`: every index is below the number of the features. -/
theorem in_range_lt {F : FTy → Type} [FloatOps F] (I : IVec Cert.Pre_in_range.S2x512x512x8 32) (D : FVec F Cert.Pre_in_range.S2x512x512x8 .f32)
    (X : FVec F Cert.Pre_in_range.S100000x16 .f32) (h : Cert.Pre_in_range.fn (F := F) I D X = fun _ => 1#1) (y : Cert.Pre_in_range.S2x512x512x8.Idx) :
    (I y).toNat < 100000 := by
  have e := congrFun h (fun a => a.elim0)
  dsimp only [Cert.Pre_in_range.fn] at e
  haveI : Subsingleton Cert.Pre_in_range.S_.Idx := ⟨fun a b => funext fun i => i.elim0⟩
  have e' := IntOp.andi_eq_one.1 (Host.reduce_andi_all _ _ _ _ _ e y)
  exact lt_of_signed e'.1 e'.2

/-- `drawn`: every index is below the number of the features, every distance is not negative. -/
theorem drawn_spec (I : IVec Cert.Pre_drawn.S2x512x512x8 32) (D : FVec Ideal Cert.Pre_drawn.S2x512x512x8 .f32)
    (X : FVec Ideal Cert.Pre_drawn.S100000x16 .f32) (h : Cert.Pre_drawn.fn (F := Ideal) I D X = fun _ => 1#1) (y : Cert.Pre_drawn.S2x512x512x8.Idx) :
    (I y).toNat < 100000 ∧ (0 : EReal) ≤ D y := by
  have e := congrFun h (fun a => a.elim0)
  dsimp only [Cert.Pre_drawn.fn] at e
  haveI : Subsingleton Cert.Pre_drawn.S_.Idx := ⟨fun a b => funext fun i => i.elim0⟩
  obtain ⟨eI, eD⟩ := IntOp.andi_eq_one.1 e
  have e' := IntOp.andi_eq_one.1 (Host.reduce_andi_all _ _ _ _ _ eI y)
  refine ⟨lt_of_signed e'.1 e'.2, ?_⟩
  have d : Ideal.cmp .oge (D y) (Ideal.ofBits .f32 0x00000000#32) = 1#1 := Host.reduce_andi_all _ _ _ _ _ eD y
  rw [Ideal.ofBits_zero_f32] at d
  by_contra hn
  rw [show Ideal.cmp .oge (D y) 0 = BitVec.ofBool (decide ((0 : EReal) ≤ D y)) from rfl, decide_eq_false hn] at d
  exact absurd d (by decide)

end Cert.Render

end
-- ==== Proof.Img.lean ====
/-
  The kernel's result at a pixel and a channel, over the extended reals: the sum of the eight points' features, times an eighth.
-/
module

public import proofs.«01_k».proof.Proof.Main
public import Idealize.ShloMosaic.Lib.ValueIdxRank6
public import Idealize.ShloMosaic.PureOps.Ideal.Laws

@[expose] public section

noncomputable section

namespace Cert.Render

open Cert.KernelIdeal Cert.KernelIdeal.Gen
open Idealize.ShloMosaic
open Idealize.ShloMosaic.ValueIdx

variable {F : FTy → Type} [FloatOps F]

/-- The index of point `k` of a pixel, as the SparseCore finds it in its block's row. -/
theorem idxB_apply (I : S2x512x512x8.Idx → Elt F .i32) (b : Fin 2) (h w : Fin 512) (k : Fin 8) (r : Fin 4096) (x : Fin 128)
    (hr : r.val = 4 * (512 * b.val + h.val) + w.val / 128) (hx : x.val = w.val % 128) :
    idxB (F := F) I (ix3 r k x) = I (ix4 b h w k) := by
  unfold idxB
  refine (shapeCast_apply _ _ _ (ix5 b h (⟨w.val / 128, by omega⟩ : Fin 4) k x) ?_).trans ?_
  · refine (Shape.rowMajor_val_five (d := ![2, 512, 4, 8, 128]) _).trans (Eq.trans ?_ (Shape.rowMajor_val_three (d := ![4096, 8, 128]) _).symm)
    change ((((b.val * 512 + h.val) * 4 + w.val / 128) * 8 + k.val) * 128 + x.val) = (r.val * 8 + k.val) * 128 + x.val
    omega
  refine (transpose_apply _ _ _ _ (ix5 b h (⟨w.val / 128, by omega⟩ : Fin 4) x k) (fun a => ?_)).trans ?_
  · match a with
    | ⟨0, _⟩ => rfl
    | ⟨1, _⟩ => rfl
    | ⟨2, _⟩ => rfl
    | ⟨3, _⟩ => rfl
    | ⟨4, _⟩ => rfl
  refine shapeCast_apply _ _ _ _ ?_
  refine (Shape.rowMajor_val_four (d := ![2, 512, 512, 8]) _).trans (Eq.trans ?_ (Shape.rowMajor_val_five (d := ![2, 512, 4, 128, 8]) _).symm)
  change ((b.val * 512 + h.val) * 512 + w.val) * 8 + k.val = (((b.val * 512 + h.val) * 4 + w.val / 128) * 128 + x.val) * 8 + k.val
  omega

/-- Where the output holds a pixel's channel. -/
theorem imgOf_apply (O : S1024x2x4x1024.Idx → Elt F .f32) (b : Fin 2) (h w : Fin 512) (c : Fin 16) :
    imgOf (F := F) O (ix4 b h w c) = O (ix4 (⟨512 * b.val + h.val, by omega⟩ : Fin 1024) (⟨c.val / 8, by omega⟩ : Fin 2) (⟨w.val / 128, by omega⟩ : Fin 4)
      (⟨128 * (c.val % 8) + w.val % 128, by omega⟩ : Fin 1024)) := by
  unfold imgOf
  refine (shapeCast_apply _ _ _ (ix6 b h (⟨w.val / 128, by omega⟩ : Fin 4) (⟨w.val % 128, by omega⟩ : Fin 128) (⟨c.val / 8, by omega⟩ : Fin 2) (⟨c.val % 8, by omega⟩ : Fin 8)) ?_).trans ?_
  · refine (Shape.rowMajor_val_six (d := ![2, 512, 4, 128, 2, 8]) _).trans (Eq.trans ?_ (Shape.rowMajor_val_four (d := ![2, 512, 512, 16]) _).symm)
    change (((((b.val * 512 + h.val) * 4 + w.val / 128) * 128 + w.val % 128) * 2 + c.val / 8) * 8 + c.val % 8) = ((b.val * 512 + h.val) * 512 + w.val) * 16 + c.val
    omega
  refine (transpose_apply _ _ _ _ (ix6 b h (⟨c.val / 8, by omega⟩ : Fin 2) (⟨w.val / 128, by omega⟩ : Fin 4) (⟨c.val % 8, by omega⟩ : Fin 8) (⟨w.val % 128, by omega⟩ : Fin 128)) (fun a => ?_)).trans ?_
  · match a with
    | ⟨0, _⟩ => rfl
    | ⟨1, _⟩ => rfl
    | ⟨2, _⟩ => rfl
    | ⟨3, _⟩ => rfl
    | ⟨4, _⟩ => rfl
    | ⟨5, _⟩ => rfl
  refine shapeCast_apply _ _ _ _ ?_
  refine (Shape.rowMajor_val_four (d := ![1024, 2, 4, 1024]) _).trans (Eq.trans ?_ (Shape.rowMajor_val_six (d := ![2, 512, 2, 4, 8, 128]) _).symm)
  change (((512 * b.val + h.val) * 2 + c.val / 8) * 4 + w.val / 128) * 1024 + (128 * (c.val % 8) + w.val % 128)
    = (((((b.val * 512 + h.val) * 2 + c.val / 8) * 4 + w.val / 128) * 8 + c.val % 8) * 128 + w.val % 128)
  omega

/-- THE RESULT AT A PIXEL AND A CHANNEL: the average the tiles take, of the features that the pixel's eight indices name. -/
theorem result_apply (I : S2x512x512x8.Idx → Elt F .i32) (X : S100000x16.Idx → Elt F .f32) (b : Fin 2) (h w : Fin 512) (c : Fin 16)
    (v : Fin 8 → Fin 100000) (hv : ∀ k, BitVec.toNat (w := 32) (I (ix4 b h w k)) = (v k).val) :
    result (F := F) I X (ix4 b h w c) = tree8 (fun k x => X (ix2 (v k) (x 0))) (ix1 c) := by
  unfold result
  rw [imgOf_apply]
  unfold outV
  have hk : ∀ k : Fin 8, idxB (F := F) I (ix3 (⟨4 * (512 * b.val + h.val) + w.val / 128, by omega⟩ : Fin 4096) k (⟨(128 * (c.val % 8) + w.val % 128) % 128, by omega⟩ : Fin 128))
      = I (ix4 b h w k) := fun k => idxB_apply I b h w k _ _ rfl (by show (128 * (c.val % 8) + w.val % 128) % 128 = w.val % 128; omega)
  have hc : (⟨8 * (c.val / 8) + (128 * (c.val % 8) + w.val % 128) / 128, by omega⟩ : Fin 16) = c := Fin.ext (by show 8 * (c.val / 8) + (128 * (c.val % 8) + w.val % 128) / 128 = c.val; omega)
  have ht : (fun (k : Fin 8) (x : S16.Idx) => tableOf (F := F) X (ix2 (⟨BitVec.toNat (w := 32) (idxB (F := F) I (ix3 (⟨4 * (512 * b.val + h.val) + w.val / 128, by omega⟩ : Fin 4096) k
        (⟨(128 * (c.val % 8) + w.val % 128) % 128, by omega⟩ : Fin 128))) % 102400, Nat.mod_lt _ (by decide)⟩ : Fin 102400) (x 0)))
      = fun (k : Fin 8) (x : S16.Idx) => X (ix2 (v k) (x 0)) := by
    funext k x
    have hlt : (v k).val < 100000 := (v k).isLt
    unfold tableOf
    refine congrArg X ?_
    refine congrArg (fun r : Fin 100000 => (ix2 r (x 0) : S100000x16.Idx)) (Fin.ext ?_)
    show BitVec.toNat (w := 32) (idxB (F := F) I _) % 102400 % 100000 = (v k).val
    rw [hk k, hv k]; omega
  exact (congrArg (fun c' : Fin 16 => tree8 (F := F) _ (ix1 c')) hc).trans (congrArg (fun a => tree8 (F := F) a (ix1 c)) ht)

end Cert.Render

end
-- ==== Proof.Ref.lean ====
/-
  The reference's result at a pixel and a channel, over the extended reals: with every index in range and no distance negative, every
  weight is one, so the weighted mean is the sum of the eight features divided by eight.
-/
module

public import proofs.«01_k».proof.Proof.Gen.ReferenceIdeal.Run
public import Idealize.ShloMosaic.Lib.ReduceAll
public import Idealize.ShloMosaic.Lib.IdealHost
public import Idealize.ShloMosaic.Lib.Pipeline.Value
public import Idealize.ShloMosaic.Lib.Pointwise.Reduce
public import Idealize.ShloMosaic.PureOps.Ideal.Laws

@[expose] public section

noncomputable section

namespace Cert.Ref

open Cert.ReferenceIdeal Cert.ReferenceIdeal.Gen
open Idealize.ShloMosaic hiding ix0 ix1 ix2 ix3 ix4 ix5
open Idealize.ShloMosaic.ValueIdx

/-! ## The reference's text in parts -/

/-- The indices, points before pixels. -/
def idxT (I : S2x512x512x8.Idx → BitVec 32) : S2x8x512x512.Idx → BitVec 32 :=
  transpose S2x8x512x512 [0, 3, 1, 2] I transposes_S2x512x512x8_S2x8x512x512_0_3_1_2

/-- The weights: of a distance that is not zero one, of the distance `d` else `1 - d / radius`; zero where there is no point. -/
def weight (I : S2x512x512x8.Idx → BitVec 32) (D : S2x512x512x8.Idx → EReal) : S2x8x512x512.Idx → EReal :=
  mulf (F := Ideal) (φ := .f32) (select (cmpf (F := Ideal) (φ := .f32) .ogt (transpose S2x8x512x512 [0, 3, 1, 2] D transposes_S2x512x512x8_S2x8x512x512_0_3_1_2) (broadcastInDim S2x8x512x512 ![] bcast_S_S2x8x512x512 (constant (F := Ideal) S_ .f32 0x00000000#32)))
      (broadcastInDim S2x8x512x512 ![] bcast_S_S2x8x512x512 (id (constant (F := Ideal) S_ .f32 0x3F800000#32)))
      (subf (F := Ideal) (φ := .f32) (broadcastInDim S2x8x512x512 ![] bcast_S_S2x8x512x512 (constant (F := Ideal) S_ .f32 0x3F800000#32))
        (Host.divf (F := Ideal) (φ := .f32) (transpose S2x8x512x512 [0, 3, 1, 2] D transposes_S2x512x512x8_S2x8x512x512_0_3_1_2) (broadcastInDim S2x8x512x512 ![] bcast_S_S2x8x512x512 (constant (F := Ideal) S_ .f32 0x38D1B717#32)))))
    (uitofp (F := Ideal) .f32 (cmpi .sge (idxT I) (broadcastInDim S2x8x512x512 ![] bcast_S_S2x8x512x512 (constantI S_ 32 0#32))))

/-- The indices clipped to the features' range. -/
def clipT (I : S2x512x512x8.Idx → BitVec 32) : S2x8x512x512.Idx → BitVec 32 :=
  minsi (broadcastInDim S2x8x512x512 ![] bcast_S_S2x8x512x512 (id (constantI S_ 32 99999#32)))
    (maxsi (broadcastInDim S2x8x512x512 ![] bcast_S_S2x8x512x512 (id (constantI S_ 32 0#32))) (idxT I))

/-- The indices that the take reads: a negative one counts from the end. -/
def takeAt (I : S2x512x512x8.Idx → BitVec 32) : S2x8x512x512x1.Idx → BitVec 32 :=
  broadcastInDim S2x8x512x512x1 ![0, 1, 2, 3] bcast_S2x8x512x512_S2x8x512x512x1_0_1_2_3
    (select (cmpi .slt (clipT I) (broadcastInDim S2x8x512x512 ![] bcast_S_S2x8x512x512 (constantI S_ 32 0#32)))
      (addi (clipT I) (broadcastInDim S2x8x512x512 ![] bcast_S_S2x8x512x512 (constantI S_ 32 100000#32))) (clipT I))

/-- Which indices the take finds in range. -/
def takeOk (I : S2x512x512x8.Idx → BitVec 32) : S2x8x512x512.Idx → BitVec 1 :=
  Host.reduce IntOp.andi (andi (cmpi .sge (takeAt I) (broadcastInDim S2x8x512x512x1 ![] bcast_S_S2x8x512x512x1 (constantI S_ 32 0#32)))
      (cmpi .sle (takeAt I) (broadcastInDim S2x8x512x512x1 ![0, 1, 2, 3, 4] bcast_S1x1x1x1x1_S2x8x512x512x1_0_1_2_3_4 (broadcastInDim S1x1x1x1x1 ![4] bcast_S1_S1x1x1x1x1_4 (constantI S1 32 99999#32)))))
    (constantI S_ 1 1#1) reducesTo_S2x8x512x512x1_S2x8x512x512_d4 h_S_

/-- The features of every point. -/
def taken (I : S2x512x512x8.Idx → BitVec 32) (X : S100000x16.Idx → EReal) : S2x16x8x512x512.Idx → EReal :=
  transpose S2x16x8x512x512 [1, 0, 2, 3, 4]
    (select (broadcastInDim S16x2x8x512x512 ![1, 2, 3, 4] bcast_S2x8x512x512_S16x2x8x512x512_1_2_3_4 (takeOk I))
      (Host.gather gather_S16x100000_S2x8x512x512x1_S16x2x8x512x512_0_1_n_n_1_4_161 (transpose S16x100000 [1, 0] X transposes_S100000x16_S16x100000_1_0) (takeAt I))
      (broadcastInDim S16x2x8x512x512 ![] bcast_S_S16x2x8x512x512 (constant (F := Ideal) S_ .f32 0x7FC00000#32))) transposes_S16x2x8x512x512_S2x16x8x512x512_1_0_2_3_4

/-- The weighted sums. -/
def weighted (W : S2x8x512x512.Idx → EReal) (A : S2x16x8x512x512.Idx → EReal) : S2x16x512x512.Idx → EReal :=
  Host.reduceAdd (F := Ideal) (φ := .f32) (mulf (F := Ideal) (φ := .f32) A (broadcastInDim S2x16x8x512x512 ![0, 1, 2, 3, 4] bcast_S2x1x8x512x512_S2x16x8x512x512_0_1_2_3_4
    (broadcastInDim S2x1x8x512x512 ![0, 2, 3, 4] bcast_S2x8x512x512_S2x1x8x512x512_0_2_3_4 W))) (constant (F := Ideal) S_ .f32 0x00000000#32) reducesTo_S2x16x8x512x512_S2x16x512x512_d2 h_S_

/-- The sums of the weights, kept off zero. -/
def total (W : S2x8x512x512.Idx → EReal) : S2x512x512.Idx → EReal :=
  maximumf (F := Ideal) (φ := .f32) (broadcastInDim S2x512x512 ![] bcast_S_S2x512x512 (id (constant (F := Ideal) S_ .f32 0x2EDBE6FF#32)))
    (Host.reduceAdd (F := Ideal) (φ := .f32) W (constant (F := Ideal) S_ .f32 0x00000000#32) reducesTo_S2x8x512x512_S2x512x512_d1 h_S_)

/-- The weighted means, channels last. -/
def mean (W : S2x8x512x512.Idx → EReal) (A : S2x16x8x512x512.Idx → EReal) : S2x512x512x16.Idx → EReal :=
  transpose S2x512x512x16 [0, 2, 3, 1] (Host.divf (F := Ideal) (φ := .f32) (weighted W A)
    (broadcastInDim S2x16x512x512 ![0, 1, 2, 3] bcast_S2x1x512x512_S2x16x512x512_0_1_2_3 (broadcastInDim S2x1x512x512 ![0, 2, 3] bcast_S2x512x512_S2x1x512x512_0_2_3 (total W)))) transposes_S2x16x512x512_S2x512x512x16_0_2_3_1

set_option maxRecDepth 8192 in
/-- The reference's result is the weighted mean of the taken features. -/
theorem res_eq (m : (ℓ : Loc nD τ sig) → Buf (Elt Ideal) ℓ) (c : Dev nD) :
    Cert.ReferenceIdeal.Value.res_main_v26 (F := Ideal) m c
      = mean (weight (m ((c.tc : Thread nD τ).loc main_arg0)) (m ((c.tc : Thread nD τ).loc main_arg1)))
          (taken (m ((c.tc : Thread nD τ).loc main_arg0)) (m ((c.tc : Thread nD τ).loc main_arg2))) := rfl

/-! ## The integer side -/

theorem idxT_apply (I : S2x512x512x8.Idx → BitVec 32) (b : Fin 2) (k : Fin 8) (h w : Fin 512) : idxT I (ix4 b k h w) = I (ix4 b h w k) := by
  unfold idxT
  refine transpose_apply _ _ _ _ _ (fun a => ?_)
  match a with
  | ⟨0, _⟩ => rfl
  | ⟨1, _⟩ => rfl
  | ⟨2, _⟩ => rfl
  | ⟨3, _⟩ => rfl

theorem toInt_of_lt {x : BitVec 32} (h : x.toNat < 100000) : x.toInt = x.toNat := by
  rw [BitVec.toInt_eq_toNat_cond]; simp only [Nat.reducePow]; omega

/-- An index in range is left as it is by the clip. -/
theorem clip_of_lt {x : BitVec 32} (h : x.toNat < 100000) : IntOp.minsi 99999#32 (IntOp.maxsi 0#32 x) = x := by
  have hx := toInt_of_lt h
  have h0 : (0#32 : BitVec 32).toInt = 0 := by decide
  have h9 : (99999#32 : BitVec 32).toInt = 99999 := by decide
  have e1 : IntOp.maxsi 0#32 x = x := by
    unfold IntOp.maxsi
    refine if_neg (fun hs => ?_)
    rw [BitVec.slt_iff_toInt_lt] at hs
    omega
  rw [e1]
  unfold IntOp.minsi
  by_cases hs : (99999#32 : BitVec 32).slt x = true
  · rw [if_pos hs]
    rw [BitVec.slt_iff_toInt_lt] at hs
    refine BitVec.eq_of_toInt_eq ?_
    omega
  · rw [if_neg hs]

section
variable (I : S2x512x512x8.Idx → BitVec 32) (hI : ∀ y, (I y).toNat < 100000)
include hI

theorem idxT_lt (j : S2x8x512x512.Idx) : (idxT I j).toNat < 100000 := hI _

theorem clipT_eq : clipT I = idxT I := funext fun j => clip_of_lt (idxT_lt I hI j)

theorem takeAt_eq (b : Fin 2) (k : Fin 8) (h w : Fin 512) (z : Fin 1) : takeAt I (ix5 b k h w z) = I (ix4 b h w k) := by
  unfold takeAt
  rw [clipT_eq I hI]
  refine (broadcastInDim_apply _ _ _ _ (ix4 b k h w) (fun a => ?_)).trans ?_
  · match a with
    | ⟨0, _⟩ => rfl
    | ⟨1, _⟩ => rfl
    | ⟨2, _⟩ => rfl
    | ⟨3, _⟩ => rfl
  have hn : IntOp.cmpi .slt (idxT I (ix4 b k h w)) 0#32 = 0#1 := by
    refine eq_zero_of_ne_one (fun e => ?_)
    have e' := IntOp.cmpi_slt.1 e
    rw [toInt_of_lt (idxT_lt I hI _)] at e'
    have h0 : (0#32 : BitVec 32).toInt = 0 := by decide
    omega
  show Scalar.select (IntOp.cmpi .slt (idxT I (ix4 b k h w)) 0#32) _ (idxT I (ix4 b k h w)) = _
  rw [hn, select_zero, idxT_apply]

theorem takeAt_lt (j : S2x8x512x512x1.Idx) : (takeAt I j).toNat < 100000 := by
  have e : j = ix5 (j 0) (j 1) (j 2) (j 3) (j 4) := by
    funext a
    match a with
    | ⟨0, _⟩ => rfl
    | ⟨1, _⟩ => rfl
    | ⟨2, _⟩ => rfl
    | ⟨3, _⟩ => rfl
    | ⟨4, _⟩ => rfl
  rw [e]
  exact lt_of_eq_of_lt (congrArg BitVec.toNat (takeAt_eq I hI (j 0) (j 1) (j 2) (j 3) (j 4))) (hI _)

theorem takeOk_eq (j : S2x8x512x512.Idx) : takeOk I j = 1#1 := by
  unfold takeOk
  refine Host.reduce_andi_one _ _ _ _ _ rfl (fun i => ?_)
  have hi := takeAt_lt I hI i
  refine IntOp.andi_eq_one.2 ⟨IntOp.cmpi_sge.2 ?_, IntOp.cmpi_sle.2 ?_⟩
  · show (0#32 : BitVec 32).toInt ≤ (takeAt I i).toInt
    rw [toInt_of_lt hi]
    have h0 : (0#32 : BitVec 32).toInt = 0 := by decide
    omega
  · show (takeAt I i).toInt ≤ (99999#32 : BitVec 32).toInt
    rw [toInt_of_lt hi]
    have h0 : (99999#32 : BitVec 32).toInt = 99999 := by decide
    omega

end

/-! ## The gather -/

/-- The gather at a channel and a point: the row's element at the point's index, read signed and kept in range. -/
theorem gather_apply (Y : S16x100000.Idx → EReal) (idx : S2x8x512x512x1.Idx → BitVec 32) (c : Fin 16) (b : Fin 2) (k : Fin 8) (h w : Fin 512) :
    Host.gather gather_S16x100000_S2x8x512x512x1_S16x2x8x512x512_0_1_n_n_1_4_161 Y idx (ix5 c b k h w)
      = Y (ix2 c (⟨min (idx (ix5 b k h w (0 : Fin 1))).toInt.toNat 99999, by omega⟩ : Fin 100000)) := by
  obtain ⟨G, hG⟩ : ∃ G, G = gather_S16x100000_S2x8x512x512x1_S16x2x8x512x512_0_1_n_n_1_4_161 := ⟨_, rfl⟩
  unfold Host.gather
  refine congrArg Y (funext fun a => Fin.ext ?_)
  rw [← hG]
  have hb : ∀ a, G.batchCoord (ix5 c b k h w) a = 0 := fun a => GatherDims.batchCoord_eq_zero _ _ _ (by rw [hG]; exact List.not_mem_nil)
  match a with
  | ⟨0, h0⟩ =>
    show G.start (ix5 c b k h w) idx ⟨0, h0⟩ + G.batchCoord (ix5 c b k h w) ⟨0, h0⟩ + G.offCoord (ix5 c b k h w) ⟨0, h0⟩ = c.val
    have hs : G.start (ix5 c b k h w) idx ⟨0, h0⟩ = 0 := by
      unfold GatherDims.start
      exact dif_neg (by rw [hG]; show ¬ (0 : Fin 2) ∈ [(1 : Fin 2)]; decide)
    have ho : G.offCoord (ix5 c b k h w) ⟨0, h0⟩ = c.val := by
      subst hG
      unfold GatherDims.offCoord
      rw [dif_pos (by rw [GatherDims.mem_sKept]; exact ⟨by show ¬ (0 : Fin 2) ∈ [(1 : Fin 2)]; decide, List.not_mem_nil⟩)]
      rfl
    rw [hs, hb, ho, Nat.zero_add]
  | ⟨1, h1⟩ =>
    show G.start (ix5 c b k h w) idx ⟨1, h1⟩ + G.batchCoord (ix5 c b k h w) ⟨1, h1⟩ + G.offCoord (ix5 c b k h w) ⟨1, h1⟩ = min (idx (ix5 b k h w (0 : Fin 1))).toInt.toNat 99999
    have ho : G.offCoord (ix5 c b k h w) ⟨1, h1⟩ = 0 :=
      GatherDims.offCoord_eq_zero _ _ _ (fun hh => ((GatherDims.mem_sKept _ _).mp hh).1 (by rw [hG]; exact List.mem_singleton.mpr rfl))
    have hs : G.start (ix5 c b k h w) idx ⟨1, h1⟩ = min (idx (ix5 b k h w (0 : Fin 1))).toInt.toNat 99999 := by
      subst hG
      unfold GatherDims.start
      refine (dif_pos (by exact List.mem_singleton.mpr rfl)).trans ?_
      refine congrArg (fun i => min (idx i).toInt.toNat 99999) (funext fun e => Fin.ext ?_)
      match e with
      | ⟨0, _⟩ => rfl
      | ⟨1, _⟩ => rfl
      | ⟨2, _⟩ => rfl
      | ⟨3, _⟩ => rfl
      | ⟨4, _⟩ => rfl
    rw [hs, hb, ho, Nat.add_zero]

/-- What the take gives of a point whose index is `v`: the feature's channel. -/
theorem taken_apply (I : S2x512x512x8.Idx → BitVec 32) (hI : ∀ y, (I y).toNat < 100000) (X : S100000x16.Idx → EReal) (b : Fin 2) (c : Fin 16) (k : Fin 8) (h w : Fin 512)
    (v : Fin 100000) (hv : (I (ix4 b h w k)).toNat = v.val) : taken I X (ix5 b c k h w) = X (ix2 v c) := by
  unfold taken
  refine (transpose_apply _ _ _ _ (ix5 c b k h w) (fun a => ?_)).trans ?_
  · match a with
    | ⟨0, _⟩ => rfl
    | ⟨1, _⟩ => rfl
    | ⟨2, _⟩ => rfl
    | ⟨3, _⟩ => rfl
    | ⟨4, _⟩ => rfl
  have hok : broadcastInDim S16x2x8x512x512 ![1, 2, 3, 4] bcast_S2x8x512x512_S16x2x8x512x512_1_2_3_4 (takeOk I) (ix5 c b k h w) = 1#1 := takeOk_eq I hI _
  show Scalar.select (broadcastInDim S16x2x8x512x512 ![1, 2, 3, 4] bcast_S2x8x512x512_S16x2x8x512x512_1_2_3_4 (takeOk I) (ix5 c b k h w)) _ _ = _
  rw [hok, select_one, gather_apply]
  have ht : (takeAt I (ix5 b k h w (0 : Fin 1))).toInt.toNat = v.val := by
    rw [takeAt_eq I hI, toInt_of_lt (hI _), hv]; rfl
  obtain ⟨n, hn⟩ : ∃ n, n = (takeAt I (ix5 b k h w (0 : Fin 1))).toInt.toNat := ⟨_, rfl⟩
  rw [← hn] at ht
  have hf : (⟨min n 99999, by omega⟩ : Fin 100000) = v := Fin.ext (by show min n 99999 = v.val; have := v.isLt; omega)
  refine Eq.trans (b := transpose S16x100000 [1, 0] X transposes_S100000x16_S16x100000_1_0 (ix2 c v)) ?_ ?_
  · refine congrArg (fun q : Fin 100000 => transpose S16x100000 [1, 0] X transposes_S100000x16_S16x100000_1_0 (ix2 c q)) (Eq.trans (Fin.ext ?_) hf)
    show min _ 99999 = min n 99999
    rw [hn]
  refine transpose_apply _ _ _ _ _ (fun a => ?_)
  match a with
  | ⟨0, _⟩ => rfl
  | ⟨1, _⟩ => rfl

/-! ## The weights -/

/-- The radius is not zero. -/
theorem radius_ne : Ideal.ofBits .f32 0x38D1B717#32 ≠ 0 := by
  have e : Ideal.ofBits .f32 0x38D1B717#32 = (((13743895 : ℝ) / 137438953472 : ℝ) : EReal) := by
    simp [Ideal.ofBits, Ideal.ieee, -EReal.coe_mul]; norm_num
  rw [e]
  exact_mod_cast (by norm_num : ((13743895 : ℝ) / 137438953472) ≠ 0)

/-- The least total is below eight. -/
theorem least_le : Ideal.ofBits .f32 0x2EDBE6FF#32 ≤ 8 := by
  have e : Ideal.ofBits .f32 0x2EDBE6FF#32 = (((14411519 : ℝ) / 144115188075855872 : ℝ) : EReal) := by
    simp [Ideal.ofBits, Ideal.ieee, -EReal.coe_mul]; norm_num
  rw [e]
  rw [show (8 : EReal) = ((8 : ℝ) : EReal) from rfl]
  exact EReal.coe_le_coe_iff.2 (by norm_num)

/-- With the index in range and the distance not negative the weight is one. -/
theorem weight_eq (I : S2x512x512x8.Idx → BitVec 32) (D : S2x512x512x8.Idx → EReal) (hI : ∀ y, (I y).toNat < 100000) (hD : ∀ y, 0 ≤ D y)
    (j : S2x8x512x512.Idx) : weight I D j = 1 := by
  obtain ⟨d, hd⟩ : ∃ d : EReal, transpose S2x8x512x512 [0, 3, 1, 2] D transposes_S2x512x512x8_S2x8x512x512_0_3_1_2 j = d := ⟨_, rfl⟩
  have hd0 : 0 ≤ d := hd ▸ hD _
  have hm : IntOp.cmpi .sge (idxT I j) 0#32 = 1#1 := IntOp.cmpi_sge.2 (by
    rw [toInt_of_lt (idxT_lt I hI j)]
    have h0 : (0#32 : BitVec 32).toInt = 0 := by decide
    omega)
  show (Scalar.select (Ideal.cmp .ogt (transpose S2x8x512x512 [0, 3, 1, 2] D transposes_S2x512x512x8_S2x8x512x512_0_3_1_2 j) (Ideal.ofBits .f32 0x00000000#32)) (Ideal.ofBits .f32 0x3F800000#32)
      (Ideal.ofBits .f32 0x3F800000#32 - Ideal.div (transpose S2x8x512x512 [0, 3, 1, 2] D transposes_S2x512x512x8_S2x8x512x512_0_3_1_2 j) (Ideal.ofBits .f32 0x38D1B717#32)) : EReal)
    * (((IntOp.cmpi .sge (idxT I j) 0#32).toNat : ℝ) : EReal) = 1
  rw [hd, hm, Ideal.ofBits_zero_f32, Ideal.ofBits_one_f32]
  have h1 : (((1#1 : BitVec 1).toNat : ℝ) : EReal) = 1 := by simp
  rw [h1, mul_one]
  by_cases hp : 0 < d
  · rw [show Ideal.cmp .ogt d 0 = BitVec.ofBool (decide ((0 : EReal) < d)) from rfl, decide_eq_true hp]
    rfl
  · have hz : d = 0 := le_antisymm (not_lt.1 hp) hd0
    rw [show Ideal.cmp .ogt d 0 = BitVec.ofBool (decide ((0 : EReal) < d)) from rfl, decide_eq_false hp]
    show (1 : EReal) - Ideal.div d _ = 1
    rw [hz]
    unfold Ideal.div
    rw [if_neg radius_ne, zero_mul, sub_zero]

/-! ## The mean -/

theorem total_one (W : S2x8x512x512.Idx → EReal) (hW : ∀ j, W j = 1) (j : S2x512x512.Idx) : total W j = 8 := by
  show max (Ideal.ofBits .f32 0x2EDBE6FF#32) (Ideal.hostReduceAdd reducesTo_S2x8x512x512_S2x512x512_d1 W (Ideal.ofBits .f32 0x00000000#32) j) = 8
  rw [Ideal.hostReduceAdd_r4_a1, Ideal.ofBits_zero_f32, zero_add, Finset.sum_congr rfl (fun k _ => hW _)]
  have e : (∑ _k : Fin 8, (1 : EReal)) = 8 := by simp
  rw [e]
  exact max_eq_right least_le

theorem weighted_one (W : S2x8x512x512.Idx → EReal) (hW : ∀ j, W j = 1) (A : S2x16x8x512x512.Idx → EReal) (b : Fin 2) (c : Fin 16) (h w : Fin 512) :
    weighted W A (ix4 b c h w) = ∑ k : Fin 8, A (ix5 b c k h w) := by
  show Ideal.hostReduceAdd reducesTo_S2x16x8x512x512_S2x16x512x512_d2 _ (Ideal.ofBits .f32 0x00000000#32) _ = _
  rw [Ideal.hostReduceAdd_r5_a2, Ideal.ofBits_zero_f32, zero_add]
  refine Finset.sum_congr rfl (fun k _ => ?_)
  show (A _ : EReal) * W _ = _
  rw [hW, mul_one]
  rfl

/-- THE REFERENCE AT A PIXEL AND A CHANNEL: the sum of the eight points' features, divided by eight. -/
theorem mean_apply (I : S2x512x512x8.Idx → BitVec 32) (D : S2x512x512x8.Idx → EReal) (X : S100000x16.Idx → EReal)
    (hI : ∀ y, (I y).toNat < 100000) (hD : ∀ y, 0 ≤ D y) (b : Fin 2) (h w : Fin 512) (c : Fin 16)
    (v : Fin 8 → Fin 100000) (hv : ∀ k, (I (ix4 b h w k)).toNat = (v k).val) :
    mean (weight I D) (taken I X) (ix4 b h w c) = Ideal.div (∑ k : Fin 8, X (ix2 (v k) c)) 8 := by
  unfold mean
  refine (transpose_apply _ _ _ _ (ix4 b c h w) (fun a => ?_)).trans ?_
  · match a with
    | ⟨0, _⟩ => rfl
    | ⟨1, _⟩ => rfl
    | ⟨2, _⟩ => rfl
    | ⟨3, _⟩ => rfl
  show Ideal.div (weighted (weight I D) (taken I X) (ix4 b c h w)) (total (weight I D) _) = _
  rw [total_one _ (weight_eq I D hI hD), weighted_one _ (weight_eq I D hI hD)]
  exact congrArg (fun s : EReal => Ideal.div s 8) (Finset.sum_congr rfl fun k _ => taken_apply I hI X b c k h w (v k) (hv k))

end Cert.Ref

end
-- ==== Proof.Same.lean ====
/-
  The kernel's result is the reference's, over the extended reals.
-/
module

public import proofs.«01_k».proof.Proof.Img
public import proofs.«01_k».proof.Proof.Ref

@[expose] public section

noncomputable section

namespace Cert.Same

open Idealize.ShloMosaic hiding ix1 ix2 ix3 ix4 ix5
open Idealize.ShloMosaic.ValueIdx

/-- The tiles' factor is an eighth. -/
theorem eighth : Ideal.ofBits .f32 0x3E000000#32 = ((1 / 8 : ℝ) : EReal) := by
  simp [Ideal.ofBits, Ideal.ieee, -EReal.coe_mul]; norm_num

/-- The tiles' average of eight vectors at a lane: their sum divided by eight. -/
theorem tree8_eq (a : Fin 8 → Vec Ideal Cert.KernelIdeal.S16 .f32) (x : Cert.KernelIdeal.S16.Idx) :
    Cert.Render.tree8 (F := Ideal) a x = Ideal.div (∑ k : Fin 8, (a k x : EReal)) 8 := by
  show ((((a 0 x : EReal) + a 1 x) + (a 2 x + a 3 x)) + ((a 4 x + a 5 x) + (a 6 x + a 7 x))) * Ideal.ofBits .f32 0x3E000000#32 = _
  rw [eighth, show (8 : EReal) = ((8 : ℝ) : EReal) from rfl, Ideal.div_coe (by norm_num), Fin.sum_univ_eight]
  refine congrArg (fun s : EReal => s * ((1 / 8 : ℝ) : EReal)) ?_
  simp only [add_assoc]

/-- With every index in range and no distance negative the reference's means are the kernel's images. -/
theorem result_eq (I : Cert.KernelIdeal.S2x512x512x8.Idx → BitVec 32) (D : Cert.KernelIdeal.S2x512x512x8.Idx → EReal)
    (X : Cert.KernelIdeal.S100000x16.Idx → EReal) (hI : ∀ y, (I y).toNat < 100000) (hD : ∀ y, 0 ≤ D y) :
    Cert.Ref.mean (Cert.Ref.weight I D) (Cert.Ref.taken I X) = Cert.Render.result (F := Ideal) I X := by
  funext j
  obtain ⟨b, h, w, c, rfl⟩ : ∃ (b : Fin 2) (h w : Fin 512) (c : Fin 16), j = ix4 b h w c := ⟨j 0, j 1, j 2, j 3, by
    funext a
    match a with
    | ⟨0, _⟩ => rfl
    | ⟨1, _⟩ => rfl
    | ⟨2, _⟩ => rfl
    | ⟨3, _⟩ => rfl⟩
  refine (Cert.Ref.mean_apply I D X hI hD b h w c (fun k => ⟨(I (ix4 b h w k)).toNat, hI _⟩) (fun _ => rfl)).trans ?_
  refine Eq.trans ?_ (Cert.Render.result_apply (F := Ideal) I X b h w c (fun k => ⟨(I (ix4 b h w k)).toNat, hI _⟩) (fun _ => rfl)).symm
  exact (tree8_eq (fun k x => X (ix2 (⟨(I (ix4 b h w k)).toNat, hI _⟩ : Fin 100000) (x 0))) (ix1 c)).symm

end Cert.Same

end
-- ==== Proof.lean ====
/- The five claims about the kernel and its reference: three frames, the ideal program is the kernel, and kernel and
   reference compute one function over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_drawn
public import proofs.«01_k».proof.Proof.Run
public import proofs.«01_k».proof.Proof.Pre
public import proofs.«01_k».proof.Proof.Same
public import Idealize.ShloMosaic.Adequacy
public import Idealize.ShloMosaic.Init

@[expose] public section

noncomputable section

namespace Cert.Proof

open Idealize.ShloMosaic Idealize.SL.Sem Cert.Kernel

/-- On binary words the two printed programs have one body table: label by label and processor by processor the same text. -/
theorem bodies_eq : Cert.Kernel.defs₀ (F := Bits) = Cert.KernelIdeal.defs₀ (F := Bits) := by
  funext p l a
  unfold Cert.Kernel.defs₀ Cert.KernelIdeal.defs₀
  match p, l, a with
  | .tc, 0, (t, s) => rfl
  | .scVector c s, 1, _ => rfl
  | .tc, 1, a => rfl
  | .scVector c s, 0, a => rfl
  | .scScalar c, l, a => rfl

/-- So they have one table of everything that a thread may call. -/
theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

/-- The kernel ends, faults nowhere, leaves its arguments and every counter as they were: `Cert.Render.run_main` on binary words. -/
theorem frame_kernel : Cert.quiescent_Kernel := by
  intro m ρ h
  have hr := (θ_run (Cert.KernelIdeal.defs (F := Bits)) _ _).mono
    (Q' := fun r => (∀ c : Dev Cert.KernelIdeal.nD, r.2.mem ((SparseCore.T c).loc Cert.KernelIdeal.main_arg0) = m ((SparseCore.T c).loc Cert.KernelIdeal.main_arg0)
      ∧ r.2.mem ((SparseCore.T c).loc Cert.KernelIdeal.main_arg1) = m ((SparseCore.T c).loc Cert.KernelIdeal.main_arg1)
      ∧ r.2.mem ((SparseCore.T c).loc Cert.KernelIdeal.main_arg2) = m ((SparseCore.T c).loc Cert.KernelIdeal.main_arg2)) ∧ r.2.sem = fun _ => 0)
    (fun _ h => ⟨fun c => (h.1 c).2, h.2⟩)
    (Cert.Render.run_main (F := Bits) m ρ (fun d y => Cert.Render.in_range_lt _ _ _ (h d) y))
  rw [← defs_eq] at hr
  exact hr

/-- The same of the ideal program, with the indices in range. -/
theorem frame_ideal : Cert.quiescent_KernelIdeal := fun m ρ h =>
  (θ_run (Cert.KernelIdeal.defs (F := Ideal)) _ _).mono (fun _ h => ⟨fun c => (h.1 c).2, h.2⟩)
    (Cert.Render.run_main (F := Ideal) m ρ (fun d y => Cert.Render.in_range_lt _ _ _ (h d) y))

/-- The same of the ideal program under the precondition of the value claim. -/
theorem frame_ideal_drawn : Cert.quiescent_KernelIdeal_pre_drawn := fun m ρ h =>
  (θ_run (Cert.KernelIdeal.defs (F := Ideal)) _ _).mono (fun _ h => ⟨fun c => (h.1 c).2, h.2⟩)
    (Cert.Render.run_main (F := Ideal) m ρ (fun d y => (Cert.Render.drawn_spec _ _ _ (h d) y).1))

/-- The reference ends with its arguments as they were; it has no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_drawn : Cert.quiescent_ReferenceIdeal_pre_drawn := fun m ρ _ => frame_reference m ρ trivial

/-- KERNEL AND REFERENCE COMPUTE ONE FUNCTION over the extended reals. -/
theorem algebraic : Cert.algebraic_KernelIdeal_ReferenceIdeal_pre_drawn := by
  intro m ρ m' ρ' hp hagree
  refine ⟨fun c => Cert.Render.result (Cert.Render.mI m c) (Cert.Render.mX m c),
    (θ_run (Cert.KernelIdeal.defs (F := Ideal)) _ _).mono (fun _ h c => h.1 c)
      (Cert.Render.run_main (F := Ideal) m ρ (fun d y => (Cert.Render.drawn_spec _ _ _ (hp d) y).1)),
    (θ_run (Cert.ReferenceIdeal.defs (F := Ideal)) _ _).mono (fun _ h c => ⟨(h c).1.trans ?_, (h c).2⟩)
      (Cert.ReferenceIdeal.Value.run (F := Ideal) m' ρ')⟩
  rw [Cert.Ref.res_eq, (hagree c).1, (hagree c).2.1, (hagree c).2.2]
  exact Cert.Same.result_eq _ _ _ (fun y => (Cert.Render.drawn_spec _ _ _ (hp c) y).1) (fun y => (Cert.Render.drawn_spec _ _ _ (hp c) y).2)

theorem claim : Cert.Claim :=
  ⟨Cert.Kernel.Gen.facts, Cert.KernelIdeal.Gen.facts, Cert.ReferenceIdeal.Gen.facts, Cert.Pre_in_range.Gen.facts, Cert.Pre_drawn.Gen.facts,
    frame_kernel, frame_ideal, frame_ideal_drawn, frame_reference, frame_reference_drawn, trivial, algebraic⟩

end Cert.Proof

end
